-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v0) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_v18) = v3 c
          ∧ r.2.mem ((c.tc : Thread Cert.Reference14Ideal.nD Cert.Reference14Ideal.τ).loc Cert.Reference14Ideal.main_v19) = v4 c
          ∧ r.2.mem ((c.tc : Thread Cert.Reference14Ideal.nD Cert.Reference14Ideal.τ).loc Cert.Reference14Ideal.main_v20) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .bf16 := Host.absf main_arg2
  let main_cst_1 : FVec F S_ .bf16 := constant S_ .bf16 0x7F80#16
  let main_v8 : FVec F S4096x1024 .bf16 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .bf16 := Host.absf main_arg3
  let main_cst_2 : FVec F S_ .bf16 := constant S_ .bf16 0x7F80#16
  let main_v12 : FVec F S4096x1024 .bf16 := broadcastInDim S4096x1024 ![] bcast_S_S4096x1024 main_cst_2
  let main_v13 : IVec S4096x1024 1 := cmpf .olt main_v11 main_v12
  let main_v14 : IVec S4096x1024 1 := andi main_v10 main_v13
  main_v14
-- ==== Kernel.lean ====
abbrev S4096x512 : Shape := ⟨2, ![4096, 512]⟩
abbrev S512x512 : Shape := ⟨2, ![512, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_mult1 (k0_t1 : Fin k0_t1_loop.trips) : BitVec 32 :=
  let c63_i32 : BitVec 32 := 63#32
  let c0_i32_2 : BitVec 32 := 0#32
  let c1_i32 : BitVec 32 := 1#32
  let arg5 : BitVec 32 := Scf.iv c0_i32_2 c1_i32 k0_t1
  let v9 : BitVec 32 := Scalar.subi c63_i32 arg5
  let c8_i32 : BitVec 32 := 8#32
  let v10 : BitVec 32 := Scalar.muli v9 c8_i32
  v10
def k0_off1 (k0_t1 : Fin k0_t1_loop.trips) (c7_i32 : BitVec 32) : Fin 2 → Nat :=
  let c63_i32 : BitVec 32 := 63#32
  let c0_i32_2 : BitVec 32 := 0#32
  let c1_i32 : BitVec 32 := 1#32
  let arg5 : BitVec 32 := Scf.iv c0_i32_2 c1_i32 k0_t1
  let v9 : BitVec 32 := Scalar.subi c63_i32 arg5
  let c8_i32 : BitVec 32 := 8#32
  let v10 : BitVec 32 := Scalar.muli v9 c8_i32
  let v11 : BitVec 32 := v10
  let v12 : BitVec 32 := Scalar.addi v11 c7_i32
  let v13 : Index := Scalar.indexCast v12
  let c0_6 : Index := 0#32
  ![v13.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S4096x512, .f32⟩
  | .hbm, ⟨8, _⟩ => ⟨S_, .i32⟩
  | .hbm, ⟨9, _⟩ => ⟨S4096x512, .f32⟩
  | .hbm, ⟨10, _⟩ => ⟨S4096x512, .f32⟩
  | .hbm, ⟨11, _⟩ => ⟨S_, .i32⟩
  | .hbm, ⟨12, _⟩ => ⟨S512, .f32⟩
  | .hbm, ⟨13, _⟩ => ⟨S4096x512, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x512, .f32⟩
  | .hbm, ⟨22, _⟩ => ⟨S512, .f32⟩
  | .hbm, ⟨23, _⟩ => ⟨S_, .i32⟩
  | .hbm, ⟨24, _⟩ => ⟨S1x512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S_, .i32⟩
  | .hbm, ⟨30, _⟩ => ⟨S4096x512, .f32⟩
  | .hbm, ⟨31, _⟩ => ⟨S_, .i32⟩
  | .hbm, ⟨32, _⟩ => ⟨S_, .i32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_6 : Ref sig .tc := ⟨.hbm, 14, rfl⟩
abbrev main_while0c_v4 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v10 : Ref sig .tc := ⟨.hbm, 30, rfl⟩
abbrev main_while0b_c_8 : Ref sig .tc := ⟨.hbm, 31, rfl⟩
abbrev main_while0b_v11 : Ref sig .tc := ⟨.hbm, 32, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x3072 : Shape := ⟨2, ![4096, 3072]⟩
abbrev S4096x1024 : Shape := ⟨2, ![4096, 1024]⟩
abbrev S3072x1024 : Shape := ⟨2, ![3072, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x3072 : Shape := ⟨2, ![4096, 3072]⟩
abbrev S4096x1024 : Shape := ⟨2, ![4096, 1024]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩
abbrev S4096x128 : Shape := ⟨2, ![4096, 128]⟩
abbrev S512x128 : Shape := ⟨2, ![512, 128]⟩
abbrev S1x1x4096 : Shape := ⟨3, ![1, 1, 4096]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S512x512 : Shape := ⟨2, ![512, 512]⟩
abbrev S1x1x512 : Shape := ⟨3, ![1, 1, 512]⟩

abbrev nBuf : Space → Nat
  | .hbm => 66
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S8x4096x4096, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S1x4096x4096, .i1⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S4096x1024, .f32⟩
  | .hbm, ⟨55, _⟩ => ⟨S4096x8x128, .f32⟩
  | .hbm, ⟨56, _⟩ => ⟨S8x128x4096, .f32⟩
  | .hbm, ⟨57, _⟩ => ⟨S4096x8x128, .f32⟩
  | .hbm, ⟨58, _⟩ => ⟨S4096x1024, .f32⟩
  | .hbm, ⟨59, _⟩ => ⟨S4096x1024, .bf16⟩
  | .hbm, ⟨60, _⟩ => ⟨S8x4096, .f32⟩
  | .hbm, ⟨61, _⟩ => ⟨S8x4096, .f32⟩
  | .hbm, ⟨62, _⟩ => ⟨S8x1x4096, .f32⟩
  | .hbm, ⟨63, _⟩ => ⟨S4096x1024, .f32⟩
  | .hbm, ⟨64, _⟩ => ⟨S4096x1024, .bf16⟩
  | .hbm, ⟨65, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x1x4096, .f32⟩
  | .local _ .vmem, ⟨11, _⟩ => ⟨S1x1x4096, .f32⟩
  | .local _ .vmem, ⟨12, _⟩ => ⟨S4096x128, .f32⟩
  | .local _ .vmem, ⟨13, _⟩ => ⟨S4096x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S1x4096, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36_0 : Ref sig .tc := ⟨.hbm, 63, rfl⟩
abbrev main_v36_1 : Ref sig .tc := ⟨.hbm, 64, rfl⟩
abbrev main_v36_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let c7_i32 : BitVec 32 := 7#32
  let arg1 : BitVec 32 := BitVec.ofNat 32 (i 1).val
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 1 := Scalar.cmpi .eq v23 c1_i32_13
  let v25 : BitVec 32 := Scalar.extui v24
  let c0_i32_14 : BitVec 32 := 0#32
  let v26 : BitVec 1 := Scalar.cmpi .ne v25 c0_i32_14
  v26

def k0_mult1 (i : grid0.Coords) : BitVec 32 :=
  let arg1 : BitVec 32 := BitVec.ofNat 32 (i 1).val
  let c512_i32 : BitVec 32 := 512#32
  let v58 : BitVec 32 := Scalar.muli arg1 c512_i32
  v58
def k0_off1 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v60 : Index := Scalar.indexCast v59
  let c0_37 : Index := 0#32
  ![v60.toNat, 0]
def k0_off2 (i : grid0.Coords) : Fin 3 → Nat :=
  let c0_55 : Index := 0#32
  let c0_56 : Index := 0#32
  let arg1 : BitVec 32 := BitVec.ofNat 32 (i 1).val
  let c512_i32 : BitVec 32 := 512#32
  let v58 : BitVec 32 := Scalar.muli arg1 c512_i32
  let v59 : BitVec 32 := v58
  let v120 : Index := Scalar.indexCast v59
  ![0, 0, v120.toNat]
def k0_off3 (i : grid0.Coords) : Fin 2 → Nat :=
  let c0_63 : Index := 0#32
  let arg1 : BitVec 32 := BitVec.ofNat 32 (i 1).val
  let c512_i32 : BitVec 32 := 512#32
  let v58 : BitVec 32 := Scalar.muli arg1 c512_i32
  let v59 : BitVec 32 := v58
  let v134 : Index := Scalar.indexCast v59
  ![0, v134.toNat]
def k0_cond3 (i : grid0.Coords) : BitVec 1 :=
  let c7_i32 : BitVec 32 := 7#32
  let arg1 : BitVec 32 := BitVec.ofNat 32 (i 1).val
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c0_i32_15 : BitVec 32 := 0#32
  let v27 : BitVec 1 := Scalar.cmpi .eq v23 c0_i32_15
  let v28 : BitVec 32 := Scalar.extui v27
  let c0_i32_16 : BitVec 32 := 0#32
  let v29 : BitVec 1 := Scalar.cmpi .ne v28 c0_i32_16
  v29

def k0_mult2 (i : grid0.Coords) : BitVec 32 :=
  let arg1 : BitVec 32 := BitVec.ofNat 32 (i 1).val
  let c512_i32 : BitVec 32 := 512#32
  let v58 : BitVec 32 := Scalar.muli arg1 c512_i32
  v58
def k0_off4 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v60 : Index := Scalar.indexCast v59
  let c0_37 : Index := 0#32
  ![v60.toNat, 0]
def k0_off5 (i : grid0.Coords) : Fin 3 → Nat :=
  let c0_55 : Index := 0#32
  let c0_56 : Index := 0#32
  let arg1 : BitVec 32 := BitVec.ofNat 32 (i 1).val
  let c512_i32 : BitVec 32 := 512#32
  let v58 : BitVec 32 := Scalar.muli arg1 c512_i32
  let v59 : BitVec 32 := v58
  let v120 : Index := Scalar.indexCast v59
  ![0, 0, v120.toNat]
def k0_off6 (i : grid0.Coords) : Fin 2 → Nat :=
  let c0_63 : Index := 0#32
  let arg1 : BitVec 32 := BitVec.ofNat 32 (i 1).val
  let c512_i32 : BitVec 32 := 512#32
  let v58 : BitVec 32 := Scalar.muli arg1 c512_i32
  let v59 : BitVec 32 := v58
  let v134 : Index := Scalar.indexCast v59
  ![0, v134.toNat]
@[reducible] def k0_t1_loop (i : grid0.Coords) : Scf.Loop 32 :=
  let c0_i32_25 : BitVec 32 := 0#32
  let c7_i32 : BitVec 32 := 7#32
  let arg1 : BitVec 32 := BitVec.ofNat 32 (i 1).val
  let v13 : BitVec 32 := Scalar.subi c7_i32 arg1
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let c1_i32_27 : BitVec 32 := 1#32
  ⟨c0_i32_25, v51, c1_i32_27⟩
def k0_mult3 (i : grid0.Coords) (k0_t1 : Fin (k0_t1_loop i).trips) : BitVec 32 :=
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c1_i32_27 : BitVec 32 := 1#32
  let arg14 : BitVec 32 := Scf.iv c0_i32_25 c1_i32_27 k0_t1
  let v60 : BitVec 32 := Scalar.muli c2_i32_38 arg14
  let v61 : BitVec 32 := Scalar.addi v59 v60
  let c512_i32 : BitVec 32 := 512#32
  let v62 : BitVec 32 := Scalar.muli v61 c512_i32
  v62
def k0_off7 (i : grid0.Coords) (k0_t1 : Fin (k0_t1_loop i).trips) : Fin 2 → Nat :=
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c1_i32_27 : BitVec 32 := 1#32
  let arg14 : BitVec 32 := Scf.iv c0_i32_25 c1_i32_27 k0_t1
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v64 : Index := Scalar.indexCast v63
  let c0_39 : Index := 0#32
  ![v64.toNat, 0]
def k0_off8 (i : grid0.Coords) (k0_t1 : Fin (k0_t1_loop i).trips) : Fin 3 → Nat :=
  let c0_42 : Index := 0#32
  let c0_43 : Index := 0#32
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c1_i32_27 : BitVec 32 := 1#32
  let arg14 : BitVec 32 := Scf.iv c0_i32_25 c1_i32_27 k0_t1
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v69 : Index := Scalar.indexCast v63
  ![0, 0, v69.toNat]
def k0_off9 (i : grid0.Coords) (k0_t1 : Fin (k0_t1_loop i).trips) : Fin 2 → Nat :=
  let c0_50 : Index := 0#32
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c1_i32_27 : BitVec 32 := 1#32
  let arg14 : BitVec 32 := Scf.iv c0_i32_25 c1_i32_27 k0_t1
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v83 : Index := Scalar.indexCast v63
  ![0, v83.toNat]
@[reducible] def k0_t2_loop (i : grid0.Coords) : Scf.Loop 32 :=
  let c0_i32_25 : BitVec 32 := 0#32
  let c7_i32 : BitVec 32 := 7#32
  let arg1 : BitVec 32 := BitVec.ofNat 32 (i 1).val
  let v13 : BitVec 32 := Scalar.subi c7_i32 arg1
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let v48 : BitVec 32 := Scalar.addi c0_i32_25 v47
  let c1_i32_28 : BitVec 32 := 1#32
  ⟨v51, v48, c1_i32_28⟩
def k0_mult4 (i : grid0.Coords) (k0_t2 : Fin (k0_t2_loop i).trips) : BitVec 32 :=
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let c1_i32_28 : BitVec 32 := 1#32
  let arg14 : BitVec 32 := Scf.iv v51 c1_i32_28 k0_t2
  let v60 : BitVec 32 := Scalar.muli c2_i32_38 arg14
  let v61 : BitVec 32 := Scalar.addi v59 v60
  let c512_i32 : BitVec 32 := 512#32
  let v62 : BitVec 32 := Scalar.muli v61 c512_i32
  v62
def k0_off10 (i : grid0.Coords) (k0_t2 : Fin (k0_t2_loop i).trips) : Fin 2 → Nat :=
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let c1_i32_28 : BitVec 32 := 1#32
  let arg14 : BitVec 32 := Scf.iv v51 c1_i32_28 k0_t2
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v64 : Index := Scalar.indexCast v63
  let c0_39 : Index := 0#32
  ![v64.toNat, 0]
def k0_off11 (i : grid0.Coords) (k0_t2 : Fin (k0_t2_loop i).trips) : Fin 3 → Nat :=
  let c0_42 : Index := 0#32
  let c0_43 : Index := 0#32
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let c1_i32_28 : BitVec 32 := 1#32
  let arg14 : BitVec 32 := Scf.iv v51 c1_i32_28 k0_t2
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v69 : Index := Scalar.indexCast v63
  ![0, 0, v69.toNat]
def k0_off12 (i : grid0.Coords) (k0_t2 : Fin (k0_t2_loop i).trips) : Fin 2 → Nat :=
  let c0_50 : Index := 0#32
  let arg1 : BitVec 32 := BitVec.ofNat 32 (i 1).val
  let c1_i32_37 : BitVec 32 := 1#32
  let v58 : BitVec 32 := Scalar.addi arg1 c1_i32_37
  let c7_i32 : BitVec 32 := 7#32
  let v13 : BitVec 32 := Scalar.subi c7_i32 arg1
  let c2_i32 : BitVec 32 := 2#32
  let c0_i32_9 : BitVec 32 := 0#32
  let v14 : BitVec 1 := Scalar.cmpi .eq c2_i32 c0_i32_9
  let c1_i32 : BitVec 32 := 1#32
  let v15 : BitVec 32 := Scalar.select v14 c1_i32 c2_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v59 : BitVec 32 := Scalar.addi v58 v23
  let c2_i32_38 : BitVec 32 := 2#32
  let c0_i32_25 : BitVec 32 := 0#32
  let c0_i32_18 : BitVec 32 := 0#32
  let v31 : BitVec 1 := Scalar.cmpi .sgt v13 c0_i32_18
  let v32 : BitVec 32 := Scalar.extui v31
  let c0_i32_19 : BitVec 32 := 0#32
  let v33 : BitVec 1 := Scalar.cmpi .slt v13 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v13 c2_i32_17
  let c0_i32_22 : BitVec 32 := 0#32
  let v43 : BitVec 1 := Scalar.cmpi .ne v42 c0_i32_22
  let v44 : BitVec 1 := Scalar.andi v41 v43
  let v30 : BitVec 32 := Scalar.divsi v13 c2_i32_17
  let c1_i32_23 : BitVec 32 := 1#32
  let v45 : BitVec 32 := Scalar.subi v30 c1_i32_23
  let v46 : BitVec 32 := Scalar.select v44 v45 v30
  let v47 : BitVec 32 := Scalar.subi v46 c0_i32_25
  let c1_i32_26 : BitVec 32 := 1#32
  let v49 : BitVec 32 := Scalar.divsi v47 c1_i32_26
  let v50 : BitVec 32 := Scalar.muli v49 c1_i32_26
  let v51 : BitVec 32 := Scalar.addi c0_i32_25 v50
  let c1_i32_28 : BitVec 32 := 1#32
  let arg14 : BitVec 32 := Scf.iv v51 c1_i32_28 k0_t2
  let v60 : BitVec 32 := Scalar.muli c2_i32_38 arg14
  let v61 : BitVec 32 := Scalar.addi v59 v60
  let c512_i32 : BitVec 32 := 512#32
  let v62 : BitVec 32 := Scalar.muli v61 c512_i32
  let v63 : BitVec 32 := v62
  let v83 : Index := Scalar.indexCast v63
  ![0, v83.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x4096x4096, .i1⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .i1⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .i1⟩
  | .hbm, ⟨56, _⟩ => ⟨S_, .f32⟩
  | .hbm, ⟨57, _⟩ => ⟨S8x4096, .f32⟩
  | .hbm, ⟨58, _⟩ => ⟨S8x4096, .i1⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S_, .f32⟩
  | .hbm, ⟨64, _⟩ => ⟨S8x4096, .f32⟩
  | .hbm, ⟨65, _⟩ => ⟨S8x4096, .f32⟩
  | .hbm, ⟨66, _⟩ => ⟨S8x4096, .f32⟩
  | .hbm, ⟨67, _⟩ => ⟨S8x4096x1, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S4096x8x128, .f32⟩
  | .hbm, ⟨81, _⟩ => ⟨S8x128x4096, .f32⟩
  | .hbm, ⟨82, _⟩ => ⟨S4096x8x128, .f32⟩
  | .hbm, ⟨83, _⟩ => ⟨S4096x1024, .f32⟩
  | .hbm, ⟨84, _⟩ => ⟨S4096x1024, .f32⟩
  | .hbm, ⟨85, _⟩ => ⟨S4096x8x128, .f32⟩
  | .hbm, ⟨86, _⟩ => ⟨S8x128x4096, .f32⟩
  | .hbm, ⟨87, _⟩ => ⟨S8x4096x4096, .f32⟩
  | .hbm, ⟨88, _⟩ => ⟨S8x128x4096, .f32⟩
  | .hbm, ⟨89, _⟩ => ⟨S4096x8x128, .f32⟩
  | .hbm, ⟨90, _⟩ => ⟨S4096x1024, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S8x4096x1, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096, .f32⟩
  | .hbm, ⟨102, _⟩ => ⟨S8x4096x4096, .f32⟩
  | .hbm, ⟨103, _⟩ => ⟨S8x4096x4096, .f32⟩
  | .hbm, ⟨104, _⟩ => ⟨S8x4096x4096, .f32⟩
  | .hbm, ⟨105, _⟩ => ⟨S_, .f32⟩
  | .hbm, ⟨106, _⟩ => ⟨S8x4096x4096, .f32⟩
  | .hbm, ⟨107, _⟩ => ⟨S8x4096x4096, .f32⟩
  | .hbm, ⟨108, _⟩ => ⟨S8x4096x128, .f32⟩
  | .hbm, ⟨109, _⟩ => ⟨S4096x8x128, .f32⟩
  | .hbm, ⟨110, _⟩ => ⟨S8x4096x128, .f32⟩
  | .hbm, ⟨111, _⟩ => ⟨S4096x8x128, .f32⟩
  | .hbm, ⟨112, _⟩ => ⟨S4096x1024, .f32⟩
  | .hbm, ⟨113, _⟩ => ⟨S4096x1024, .f32⟩
  | .hbm, ⟨114, _⟩ => ⟨S4096x1024, .bf16⟩
  | .hbm, ⟨115, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_call1_v0 : Ref sig .tc := ⟨.hbm, 36, rfl⟩
abbrev main_v14_1 : Ref sig .tc := ⟨.hbm, 37, rfl⟩
abbrev main_call1_v2 : Ref sig .tc := ⟨.hbm, 38, rfl⟩
abbrev main_v14_0 : Ref sig .tc := ⟨.hbm, 39, rfl⟩
abbrev main_call1_cst : Ref sig .tc := ⟨.hbm, 40, rfl⟩
abbrev main_v14_2 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call2_cst : Ref sig .tc := ⟨.hbm, 105, rfl⟩
abbrev main_call2_v0 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩

abbrev nD : Nat := 1
abbrev τ : Topo := Topo.v7x

variable {F : FTy → Type} [FloatOps F]
-- ==== Kernel4.lean ====
abbrev S4096x1792 : Shape := ⟨2, ![4096, 1792]⟩
abbrev S4096x1024 : Shape := ⟨2, ![4096, 1024]⟩
abbrev S1792x1024 : Shape := ⟨2, ![1792, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S1792x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1792 : Shape := ⟨2, ![4096, 1792]⟩
abbrev S4096x1024 : Shape := ⟨2, ![4096, 1024]⟩
abbrev S1792x1024 : Shape := ⟨2, ![1792, 1024]⟩
abbrev S1024x1792 : Shape := ⟨2, ![1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S4096x1024, .f32⟩
  | .hbm, ⟨3, _⟩ => ⟨S4096x1792, .f32⟩
  | .hbm, ⟨4, _⟩ => ⟨S1792x1024, .f32⟩
  | .hbm, ⟨5, _⟩ => ⟨S1024x1792, .f32⟩
  | .hbm, ⟨6, _⟩ => ⟨S1792x1024, .f32⟩
  | .hbm, ⟨7, _⟩ => ⟨S1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x512 : Shape := ⟨2, ![4096, 512]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S4096x384 : Shape := ⟨2, ![4096, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x384 : Shape := ⟨2, ![4096, 384]⟩
abbrev S1024x384 : Shape := ⟨2, ![1024, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x384, .f32⟩
  | .hbm, ⟨3, _⟩ => ⟨S4096x1024, .f32⟩
  | .hbm, ⟨4, _⟩ => ⟨S1024x384, .f32⟩
  | .hbm, ⟨5, _⟩ => ⟨S384x1024, .f32⟩
  | .hbm, ⟨6, _⟩ => ⟨S1024x384, .f32⟩
  | .hbm, ⟨7, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S4096x384 : Shape := ⟨2, ![4096, 384]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x384 : Shape := ⟨2, ![4096, 384]⟩
abbrev S4096x1024 : Shape := ⟨2, ![4096, 1024]⟩
abbrev S4096x256 : Shape := ⟨2, ![4096, 256]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S4096x256, .bf16⟩
  | .hbm, ⟨3, _⟩ => ⟨S4096x256, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x3072 : Shape := ⟨2, ![4096, 3072]⟩
abbrev S4096x1024 : Shape := ⟨2, ![4096, 1024]⟩
abbrev S3072x1024 : Shape := ⟨2, ![3072, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S4096x1024 : Shape := ⟨2, ![4096, 1024]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S1024x3072, .f32⟩
  | .hbm, ⟨5, _⟩ => ⟨S3072x1024, .f32⟩
  | .hbm, ⟨6, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S1x1024 : Shape := ⟨2, ![1, 1024]⟩
abbrev S3072x1024 : Shape := ⟨2, ![3072, 1024]⟩
abbrev S1024x1024 : Shape := ⟨2, ![1024, 1024]⟩
abbrev S1024x768 : Shape := ⟨2, ![1024, 768]⟩
abbrev S768x1024 : Shape := ⟨2, ![768, 1024]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3072, .bf16⟩
  | .hbm, ⟨3, _⟩ => ⟨S4096x3072, .bf16⟩
  | .hbm, ⟨4, _⟩ => ⟨S1x1024, .f32⟩
  | .hbm, ⟨5, _⟩ => ⟨S3072x1024, .bf16⟩
  | .hbm, ⟨6, _⟩ => ⟨S3072x1024, .bf16⟩
  | .hbm, ⟨7, _⟩ => ⟨S4096x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1024, .f32⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_16 : BitVec 32 := 0#32
  let v22 : BitVec 1 := Scalar.cmpi .ne v21 c0_i32_16
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference10Ideal.lean ====
abbrev S4096x1024 : Shape := ⟨2, ![4096, 1024]⟩
abbrev S4096x3072 : Shape := ⟨2, ![4096, 3072]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3072, .bf16⟩
  | .hbm, ⟨3, _⟩ => ⟨S4096x3072, .bf16⟩
  | .hbm, ⟨4, _⟩ => ⟨S1x1024, .f32⟩
  | .hbm, ⟨5, _⟩ => ⟨S3072x1024, .bf16⟩
  | .hbm, ⟨6, _⟩ => ⟨S3072x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S3072x1024, .f32⟩
  | .hbm, ⟨27, _⟩ => ⟨S1024x3072, .f32⟩
  | .hbm, ⟨28, _⟩ => ⟨S4096x3072, .f32⟩
  | .hbm, ⟨29, _⟩ => ⟨S3072x1024, .f32⟩
  | .hbm, ⟨30, _⟩ => ⟨S1024x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1792x1024 : Shape := ⟨2, ![1792, 1024]⟩
abbrev S4096x512 : Shape := ⟨2, ![4096, 512]⟩
abbrev S4096x384 : Shape := ⟨2, ![4096, 384]⟩
abbrev S4096x256 : Shape := ⟨2, ![4096, 256]⟩
abbrev S4096x128 : Shape := ⟨2, ![4096, 128]⟩
abbrev S4096x1792 : Shape := ⟨2, ![4096, 1792]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x1792 : Shape := ⟨2, ![512, 1792]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1792x1024, .bf16⟩
  | .hbm, ⟨4, _⟩ => ⟨S4096x512, .bf16⟩
  | .hbm, ⟨5, _⟩ => ⟨S4096x512, .bf16⟩
  | .hbm, ⟨6, _⟩ => ⟨S4096x384, .bf16⟩
  | .hbm, ⟨7, _⟩ => ⟨S4096x256, .bf16⟩
  | .hbm, ⟨8, _⟩ => ⟨S4096x128, .bf16⟩
  | .hbm, ⟨9, _⟩ => ⟨S4096x1024, .f32⟩
  | .hbm, ⟨10, _⟩ => ⟨S4096x1792, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1792x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x384, .bf16⟩
  | .local _ .vmem, ⟨11, _⟩ => ⟨S512x384, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S512x1024, .f32⟩
  | .local _ .vmem, ⟨17, _⟩ => ⟨S512x1024, .f32⟩
  | .local _ .vmem, ⟨18, _⟩ => ⟨S512x1792, .bf16⟩
  | .local _ .vmem, ⟨19, _⟩ => ⟨S512x1792, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference11Ideal.lean ====
abbrev S4096x1024 : Shape := ⟨2, ![4096, 1024]⟩
abbrev S1x1024 : Shape := ⟨2, ![1, 1024]⟩
abbrev S1792x1024 : Shape := ⟨2, ![1792, 1024]⟩
abbrev S4096x512 : Shape := ⟨2, ![4096, 512]⟩
abbrev S4096x384 : Shape := ⟨2, ![4096, 384]⟩
abbrev S4096x256 : Shape := ⟨2, ![4096, 256]⟩
abbrev S4096x128 : Shape := ⟨2, ![4096, 128]⟩
abbrev S4096x1792 : Shape := ⟨2, ![4096, 1792]⟩
abbrev S_ : Shape := ⟨0, ![]⟩
abbrev S4096 : Shape := ⟨1, ![4096]⟩
abbrev S4096x1 : Shape := ⟨2, ![4096, 1]⟩
abbrev S1024x1792 : Shape := ⟨2, ![1024, 1792]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1792x1024, .bf16⟩
  | .hbm, ⟨4, _⟩ => ⟨S4096x512, .bf16⟩
  | .hbm, ⟨5, _⟩ => ⟨S4096x512, .bf16⟩
  | .hbm, ⟨6, _⟩ => ⟨S4096x384, .bf16⟩
  | .hbm, ⟨7, _⟩ => ⟨S4096x256, .bf16⟩
  | .hbm, ⟨8, _⟩ => ⟨S4096x128, .bf16⟩
  | .hbm, ⟨9, _⟩ => ⟨S4096x1792, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1792x1024, .f32⟩
  | .hbm, ⟨30, _⟩ => ⟨S1024x1792, .f32⟩
  | .hbm, ⟨31, _⟩ => ⟨S4096x1792, .f32⟩
  | .hbm, ⟨32, _⟩ => ⟨S4096x1792, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel12.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x1024, .f32⟩
  | .hbm, ⟨3, _⟩ => ⟨S3072x1024, .f32⟩
  | .hbm, ⟨4, _⟩ => ⟨S1024x3072, .f32⟩
  | .hbm, ⟨5, _⟩ => ⟨S4096x3072, .f32⟩
  | .hbm, ⟨6, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S1x1024 : Shape := ⟨2, ![1, 1024]⟩
abbrev S3072x1024 : Shape := ⟨2, ![3072, 1024]⟩
abbrev S1024x1024 : Shape := ⟨2, ![1024, 1024]⟩
abbrev S1024x768 : Shape := ⟨2, ![1024, 768]⟩
abbrev S768x1024 : Shape := ⟨2, ![768, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S4096x3072, .bf16⟩
  | .hbm, ⟨3, _⟩ => ⟨S1x1024, .f32⟩
  | .hbm, ⟨4, _⟩ => ⟨S3072x1024, .bf16⟩
  | .hbm, ⟨5, _⟩ => ⟨S4096x1024, .f32⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1x1024, .f32⟩
  | .local _ .vmem, ⟨7, _⟩ => ⟨S768x1024, .bf16⟩
  | .local _ .vmem, ⟨8, _⟩ => ⟨S768x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_11 : BitVec 32 := 0#32
  let v24 : BitVec 1 := Scalar.cmpi .ne v23 c0_i32_11
  v24

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg1 : BitVec 32 := BitVec.ofNat 32 (i 1).val
  let c0_i32_9 : BitVec 32 := 0#32
  let v19 : BitVec 1 := Scalar.cmpi .sgt arg1 c0_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference13Ideal.lean ====
abbrev S4096x1024 : Shape := ⟨2, ![4096, 1024]⟩
abbrev S4096x3072 : Shape := ⟨2, ![4096, 3072]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S4096x3072, .bf16⟩
  | .hbm, ⟨3, _⟩ => ⟨S1x1024, .f32⟩
  | .hbm, ⟨4, _⟩ => ⟨S3072x1024, .bf16⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S3072x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1792x1024 : Shape := ⟨2, ![1792, 1024]⟩
abbrev S4096x512 : Shape := ⟨2, ![4096, 512]⟩
abbrev S4096x384 : Shape := ⟨2, ![4096, 384]⟩
abbrev S4096x256 : Shape := ⟨2, ![4096, 256]⟩
abbrev S4096x128 : Shape := ⟨2, ![4096, 128]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1792 : Shape := ⟨2, ![512, 1792]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x1024, .bf16⟩
  | .hbm, ⟨4, _⟩ => ⟨S4096x512, .f32⟩
  | .hbm, ⟨5, _⟩ => ⟨S4096x512, .f32⟩
  | .hbm, ⟨6, _⟩ => ⟨S4096x384, .f32⟩
  | .hbm, ⟨7, _⟩ => ⟨S4096x256, .f32⟩
  | .hbm, ⟨8, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x384, .f32⟩
  | .local _ .vmem, ⟨11, _⟩ => ⟨S512x384, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x1024 : Shape := ⟨2, ![4096, 1024]⟩
abbrev S1x1024 : Shape := ⟨2, ![1, 1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1024x1792 : Shape := ⟨2, ![1024, 1792]⟩
abbrev S4096x1792 : Shape := ⟨2, ![4096, 1792]⟩
abbrev S4096x512 : Shape := ⟨2, ![4096, 512]⟩
abbrev S4096x384 : Shape := ⟨2, ![4096, 384]⟩
abbrev S4096x256 : Shape := ⟨2, ![4096, 256]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1792x1024, .f32⟩
  | .hbm, ⟨19, _⟩ => ⟨S1024x1792, .f32⟩
  | .hbm, ⟨20, _⟩ => ⟨S4096x1792, .f32⟩
  | .hbm, ⟨21, _⟩ => ⟨S4096x1024, .bf16⟩
  | .hbm, ⟨22, _⟩ => ⟨S4096x512, .f32⟩
  | .hbm, ⟨23, _⟩ => ⟨S4096x512, .f32⟩
  | .hbm, ⟨24, _⟩ => ⟨S4096x384, .f32⟩
  | .hbm, ⟨25, _⟩ => ⟨S4096x256, .f32⟩
  | .hbm, ⟨26, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Scan.lean ====
/-
  The backward recurrence of the LRU layer, `g_t = u_t + a_{t+1} g_{t+1}`, as the kernel walks it: one block of 512
  rows at a grid point, from the last row up, the product of the row's gate with its gradient carried in a scratch row.
  This file says what one grid point computes, as a recursion over the rows, and proves that the loop's run is it.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Value
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-! ## One block of rows -/

/-- The `n`-th row of a block, counted from its last. -/
def row (x : Vec F S512x512 .f32) (n : ℕ) : Vec F S1x512 .f32 := fun j => x (ix2 ⟨511 - n, by omega⟩ (j 1))

/-- What is carried past `n` rows of a block, from what was carried into it. -/
def car (a u : Vec F S512x512 .f32) (h : Vec F S1x512 .f32) : ℕ → Vec F S1x512 .f32
  | 0 => h
  | n + 1 => mulf (row a n) (addf (row u n) (car a u h n))

/-- The gradient at the `n`-th row of a block from its last. -/
def grad (a u : Vec F S512x512 .f32) (h : Vec F S1x512 .f32) (n : ℕ) : Vec F S1x512 .f32 :=
  addf (row u n) (car a u h n)

/-- A block of gradients. -/
def blockOf (a u : Vec F S512x512 .f32) (h : Vec F S1x512 .f32) : Vec F S512x512 .f32 :=
  fun y => grad a u h (511 - (y 0).val) (ix2 0 (y 1))

theorem trips_eq : k0_t1_loop.trips = 64 := by decide +kernel

/-- A row read out of a staging buffer in trip `k`. -/
theorem read_row (M : Memref sig .tc .vmem S512x512 .f32) (hM : M.IsWhole) (x : Vec F S512x512 .f32)
    (k : Fin k0_t1_loop.trips) (r : Fin 8) :
    M.view.readAt (Elt F) (Rect.unit (s := S512x512) (k0_off1 k (BitVec.ofNat 32 r.val)) S1x512.size (k0_off1_inb k r)).toLoadRect (hM.unread x)
      = row x (8 * k.val + (7 - r.val)) := by
  have hk : k.val < 64 := lt_of_lt_of_eq k.isLt trips_eq
  rw [View.readAt_eq_ld, hM.read_unread]
  funext j
  have h0 : (j 0).val < 1 := (j 0).isLt
  refine View.ld_unit_apply_of _ _ _ _ _ (ix2 ⟨511 - (8 * k.val + (7 - r.val)), by omega⟩ (j 1)) fun a => ?_
  match a with
  | 0 =>
    show 511 - (8 * k.val + (7 - r.val)) = k0_off1 k (BitVec.ofNat 32 r.val) 0 + (j 0).val
    rw [congrFun (k0_off1_eq k r) 0]
    show 511 - (8 * k.val + (7 - r.val)) = (r.val + 504) - 8 * k.val + (j 0).val
    omega
  | 1 =>
    show (j 1).val = k0_off1 k (BitVec.ofNat 32 r.val) 1 + (j 1).val
    rw [congrFun (k0_off1_eq k r) 1]
    show (j 1).val = 0 + (j 1).val
    omega

section
variable (𝒱 : Variants) (c : Dev nD) (bd : Option 𝒱.V) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S1x512 .f32) (harg4 : arg4.IsWhole)
  (a u : Vec F S512x512 .f32)

/-- One row's step of the carried value. -/
abbrev sp (x y h : Vec F S1x512 .f32) : Vec F S1x512 .f32 := mulf x (addf y h)

/-- A trip's rows, as its loads read them. -/
def rd (M : Memref sig .tc .vmem S512x512 .f32) (X : BufTy.Contents (Elt F) M.view.ty) (k : Fin k0_t1_loop.trips) (r : Fin 8) : Vec F S1x512 .f32 :=
  M.view.readAt (Elt F) (Rect.unit (s := S512x512) (k0_off1 k (BitVec.ofNat 32 r.val)) S1x512.size (k0_off1_inb k r)).toLoadRect X

/-- A trip carries eight rows on. -/
theorem tripR_eq (X1 : BufTy.Contents (Elt F) arg1.view.ty) (X2 : BufTy.Contents (Elt F) arg2.view.ty) (k : Fin k0_t1_loop.trips) (h : Vec F S1x512 .f32) :
    tripR_k0_t1 (F := F) 𝒱 c bd i arg1 harg1 arg2 harg2 arg3 harg3 arg4 harg4 X1 X2 k h
      = sp (rd arg1 X1 k 0) (rd arg2 X2 k 0) (sp (rd arg1 X1 k 1) (rd arg2 X2 k 1) (sp (rd arg1 X1 k 2) (rd arg2 X2 k 2) (sp (rd arg1 X1 k 3) (rd arg2 X2 k 3)
        (sp (rd arg1 X1 k 4) (rd arg2 X2 k 4) (sp (rd arg1 X1 k 5) (rd arg2 X2 k 5) (sp (rd arg1 X1 k 6) (rd arg2 X2 k 6) (sp (rd arg1 X1 k 7) (rd arg2 X2 k 7) h))))))) := by
  unfold tripR_k0_t1 trip_k0_t1
  dsimp only
  sl_unfold_words
  rfl

/-- A trip's piece at row `r` of its eight. -/
abbrev pc (k : Fin k0_t1_loop.trips) (r : Fin 8) (g : Vec F S1x512 .f32) : View.Piece (Elt F) S512x512 .f32 :=
  ⟨Rect.unit (s := S512x512) (k0_off1 k (BitVec.ofNat 32 r.val)) S1x512.size (k0_off1_inb k r), g⟩

/-- A trip writes eight rows of gradients. -/
theorem tripL_eq (X1 : BufTy.Contents (Elt F) arg1.view.ty) (X2 : BufTy.Contents (Elt F) arg2.view.ty) (k : Fin k0_t1_loop.trips) (h : Vec F S1x512 .f32) :
    tripL_k0_t1 (F := F) 𝒱 c bd i arg1 harg1 arg2 harg2 arg3 harg3 arg4 harg4 X1 X2 k h
      = (let h1 := sp (rd arg1 X1 k 7) (rd arg2 X2 k 7) h
         let h2 := sp (rd arg1 X1 k 6) (rd arg2 X2 k 6) h1
         let h3 := sp (rd arg1 X1 k 5) (rd arg2 X2 k 5) h2
         let h4 := sp (rd arg1 X1 k 4) (rd arg2 X2 k 4) h3
         let h5 := sp (rd arg1 X1 k 3) (rd arg2 X2 k 3) h4
         let h6 := sp (rd arg1 X1 k 2) (rd arg2 X2 k 2) h5
         let h7 := sp (rd arg1 X1 k 1) (rd arg2 X2 k 1) h6
         [pc k 0 (addf (rd arg2 X2 k 0) h7), pc k 1 (addf (rd arg2 X2 k 1) h6), pc k 2 (addf (rd arg2 X2 k 2) h5), pc k 3 (addf (rd arg2 X2 k 3) h4),
          pc k 4 (addf (rd arg2 X2 k 4) h3), pc k 5 (addf (rd arg2 X2 k 5) h2), pc k 6 (addf (rd arg2 X2 k 6) h1), pc k 7 (addf (rd arg2 X2 k 7) h)]) := by
  unfold tripL_k0_t1 trip_k0_t1
  dsimp only
  sl_unfold_words
  rfl

theorem rd_row (M : Memref sig .tc .vmem S512x512 .f32) (hM : M.IsWhole) (x : Vec F S512x512 .f32) (k : Fin k0_t1_loop.trips) (r : Fin 8) :
    rd M (hM.unread x) k r = row x (8 * k.val + (7 - r.val)) := read_row M hM x k r

/-- A trip of the run carries the recursion on by eight rows. -/
theorem tripR_car (k : Fin k0_t1_loop.trips) (h : Vec F S1x512 .f32) :
    tripR_k0_t1 (F := F) 𝒱 c bd i arg1 harg1 arg2 harg2 arg3 harg3 arg4 harg4 (harg1.unread a) (harg2.unread u) k (car a u h (8 * k.val))
      = car a u h (8 * (k.val + 1)) := by
  rw [tripR_eq]
  simp only [rd_row]
  rfl

/-- Its pieces are the recursion's gradients at its eight rows. -/
theorem tripL_car (k : Fin k0_t1_loop.trips) (h : Vec F S1x512 .f32) :
    tripL_k0_t1 (F := F) 𝒱 c bd i arg1 harg1 arg2 harg2 arg3 harg3 arg4 harg4 (harg1.unread a) (harg2.unread u) k (car a u h (8 * k.val))
      = (List.finRange 8).map fun r : Fin 8 => pc k r (grad a u h (8 * k.val + (7 - r.val))) := by
  rw [tripL_eq]
  simp only [rd_row]
  rfl

/-- A piece restricts the block of gradients. -/
theorem pc_agree (h : Vec F S1x512 .f32) (k : Fin k0_t1_loop.trips) (r : Fin 8) (x : S1x512.Idx) :
    grad a u h (8 * k.val + (7 - r.val)) x = blockOf a u h
      ((Rect.unit (s := S512x512) (k0_off1 k (BitVec.ofNat 32 r.val)) S1x512.size (k0_off1_inb k r)).emb x) := by
  have hk : k.val < 64 := lt_of_lt_of_eq k.isLt trips_eq
  have h0 : (x 0).val < 1 := (x 0).isLt
  have e0 : (((Rect.unit (s := S512x512) (k0_off1 k (BitVec.ofNat 32 r.val)) S1x512.size (k0_off1_inb k r)).emb x) 0 : ℕ) = r.val + 504 - 8 * k.val := by
    rw [Rect.emb_apply]
    show k0_off1 k (BitVec.ofNat 32 r.val) 0 + 1 * (x 0).val = _
    rw [congrFun (k0_off1_eq k r) 0]
    show (r.val + 504) - 8 * k.val + 1 * (x 0).val = _
    omega
  have e1 : (((Rect.unit (s := S512x512) (k0_off1 k (BitVec.ofNat 32 r.val)) S1x512.size (k0_off1_inb k r)).emb x) 1 : ℕ) = (x 1).val := by
    rw [Rect.emb_apply]
    show k0_off1 k (BitVec.ofNat 32 r.val) 1 + 1 * (x 1).val = _
    rw [congrFun (k0_off1_eq k r) 1]
    show 0 + 1 * (x 1).val = _
    omega
  unfold blockOf
  rw [e0, show 511 - (r.val + 504 - 8 * k.val) = 8 * k.val + (7 - r.val) by omega]
  congr 1
  rw [eq_ix2 x]
  congr 1
  · exact Fin.ext (by show (x 0).val = 0; omega)
  · exact Fin.ext e1.symm

/-- Before trip `k` the run carries the recursion's value past `8 k` rows. -/
theorem st_car (h : Vec F S1x512 .f32) (k : ℕ) (hk : k ≤ k0_t1_loop.trips) :
    (st_k0_t1 (F := F) 𝒱 c bd i arg1 harg1 arg2 harg2 arg3 harg3 arg4 harg4 (harg1.unread a) (harg2.unread u) h k).1 = car a u h (8 * k) := by
  induction k with
  | zero => rfl
  | succ k ih =>
    rw [st_k0_t1_succ 𝒱 c bd i arg1 harg1 arg2 harg2 arg3 harg3 arg4 harg4 _ _ h ⟨k, hk⟩]
    show tripR_k0_t1 (F := F) 𝒱 c bd i arg1 harg1 arg2 harg2 arg3 harg3 arg4 harg4 (harg1.unread a) (harg2.unread u) ⟨k, hk⟩ _ = _
    rw [ih (le_of_lt hk)]
    exact tripR_car 𝒱 c bd i arg1 harg1 arg2 harg2 arg3 harg3 arg4 harg4 a u ⟨k, hk⟩ h

/-- The pieces written before trip `k` restrict the block of gradients, and they cover its last `8 k` rows. -/
theorem st_pieces (h : Vec F S1x512 .f32) (k : ℕ) (hk : k ≤ k0_t1_loop.trips) :
    (∀ p ∈ (st_k0_t1 (F := F) 𝒱 c bd i arg1 harg1 arg2 harg2 arg3 harg3 arg4 harg4 (harg1.unread a) (harg2.unread u) h k).2,
        ∀ x, p.2 x = blockOf a u h (p.1.emb x))
      ∧ ∀ y : S512x512.Idx, 512 ≤ (y 0).val + 8 * k →
        ∃ p ∈ (st_k0_t1 (F := F) 𝒱 c bd i arg1 harg1 arg2 harg2 arg3 harg3 arg4 harg4 (harg1.unread a) (harg2.unread u) h k).2, y ∈ p.1.set := by
  induction k with
  | zero =>
    refine ⟨fun p hp => absurd hp List.not_mem_nil, fun y hy => ?_⟩
    have h0 : (y 0).val < 512 := (y 0).isLt
    omega
  | succ k ih =>
    obtain ⟨ihA, ihC⟩ := ih (le_of_lt hk)
    rw [st_k0_t1_succ 𝒱 c bd i arg1 harg1 arg2 harg2 arg3 harg3 arg4 harg4 _ _ h ⟨k, hk⟩]
    dsimp only
    rw [st_car 𝒱 c bd i arg1 harg1 arg2 harg2 arg3 harg3 arg4 harg4 a u h k (le_of_lt hk),
      tripL_car 𝒱 c bd i arg1 harg1 arg2 harg2 arg3 harg3 arg4 harg4 a u ⟨k, hk⟩ h]
    refine ⟨fun p hp => ?_, fun y hy => ?_⟩
    · rcases List.mem_append.mp hp with hp | hp
      · obtain ⟨r, _, rfl⟩ := List.mem_map.mp hp
        exact pc_agree a u h ⟨k, hk⟩ r
      · exact ihA p hp
    · have h0 : (y 0).val < 512 := (y 0).isLt
      have h1 : (y 1).val < 512 := (y 1).isLt
      have hk' : k < 64 := lt_of_lt_of_eq hk trips_eq
      by_cases hl : 512 ≤ (y 0).val + 8 * k
      · obtain ⟨p, hp, hy⟩ := ihC y hl
        exact ⟨p, List.mem_append_right _ hp, hy⟩
      · refine ⟨_, List.mem_append_left _ (List.mem_map.mpr ⟨⟨(y 0).val - (504 - 8 * k), by omega⟩, List.mem_finRange _, rfl⟩), ?_⟩
        rw [Rect.mem_set_unit]
        intro a
        match a with
        | 0 =>
          show k0_off1 ⟨k, hk⟩ _ 0 ≤ (y 0).val ∧ (y 0).val < k0_off1 ⟨k, hk⟩ _ 0 + 1
          rw [congrFun (k0_off1_eq ⟨k, hk⟩ _) 0]
          show (y 0).val - (504 - 8 * k) + 504 - 8 * k ≤ (y 0).val ∧ (y 0).val < (y 0).val - (504 - 8 * k) + 504 - 8 * k + 1
          omega
        | 1 =>
          show k0_off1 ⟨k, hk⟩ _ 1 ≤ (y 1).val ∧ (y 1).val < k0_off1 ⟨k, hk⟩ _ 1 + 512
          rw [congrFun (k0_off1_eq ⟨k, hk⟩ _) 1]
          show 0 ≤ (y 1).val ∧ (y 1).val < 0 + 512
          omega

/-- The whole loop carries on past the block's 512 rows, -/
theorem st_last (h : Vec F S1x512 .f32) :
    (st_k0_t1 (F := F) 𝒱 c bd i arg1 harg1 arg2 harg2 arg3 harg3 arg4 harg4 (harg1.unread a) (harg2.unread u) h k0_t1_loop.trips).1 = car a u h 512 := by
  rw [st_car 𝒱 c bd i arg1 harg1 arg2 harg2 arg3 harg3 arg4 harg4 a u h _ (le_refl _), trips_eq]

/-- and what it stores reads back as the block of gradients. -/
theorem st_read (f : BufTy.Contents (Elt F) arg3.view.ty) (h : Vec F S1x512 .f32) :
    arg3.view.read (Elt F) (arg3.view.writes (Elt F) f
      (st_k0_t1 (F := F) 𝒱 c bd i arg1 harg1 arg2 harg2 arg3 harg3 arg4 harg4 (harg1.unread a) (harg2.unread u) h k0_t1_loop.trips).2) = blockOf a u h := by
  obtain ⟨hA, hC⟩ := st_pieces 𝒱 c bd i arg1 harg1 arg2 harg2 arg3 harg3 arg4 harg4 a u h _ (le_refl _)
  have hC' : ∀ y, ∃ p ∈ (st_k0_t1 (F := F) 𝒱 c bd i arg1 harg1 arg2 harg2 arg3 harg3 arg4 harg4 (harg1.unread a) (harg2.unread u) h k0_t1_loop.trips).2, y ∈ p.1.set :=
    fun y => hC y (by rw [trips_eq]; omega)
  rw [View.read_writes_eq_canon _ _ _ hC']
  funext y
  exact View.canon_apply_of_pieces (blockOf a u h) _ hA y (hC' y)

end

end Cert.KernelIdeal.Hand
-- ==== Proof.ScanRun.lean ====
/-
  The run of the backward recurrence: the kernel's body at a grid point, the blocks it writes and the row it carries
  from each point to the next, and the launch, for any float values.
-/
module

public import proofs.«01_k».proof.Proof.Scan
public import Idealize.ShloMosaic.Lib.Pipeline.FrameBody
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body -/

/-- The body's branch is taken at the grid's first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)

/-- Nothing has been carried yet. -/
def zero : Vec F S1x512 .f32 := k0_pay1

theorem pay4_eq (h : Vec F S1x512 .f32) : k0_pay4 h = h := shapeCast_self _ _

theorem zero2 : (![0, 0] : Fin 2 → ℕ) = fun _ => 0 := by decide

/-- A scratch row stored whole, last, reads back as what was stored. -/
theorem read_last (M : Memref sig .tc .vmem S1x512 .f32) (f : BufTy.Contents (Elt F) M.view.ty) (w : Vec F S1x512 .f32) (L : List (View.Piece (Elt F) S1x512 .f32)) :
    M.view.read (Elt F) (M.view.writes (Elt F) f ((⟨Rect.unit (s := S1x512) ![0, 0] S1x512.size inb_S1x512_S1x512_0_0, w⟩ : View.Piece (Elt F) S1x512 .f32) :: L)) = w := by
  rw [View.read_writes_eq_canon _ _ _ fun y => ⟨_, List.mem_cons_self, by
    rw [Rect.mem_set_unit]
    intro a
    match a with
    | 0 => exact ⟨Nat.zero_le _, lt_of_lt_of_eq (y 0).isLt (Nat.zero_add _).symm⟩
    | 1 => exact ⟨Nat.zero_le _, lt_of_lt_of_eq (y 1).isLt (Nat.zero_add _).symm⟩⟩]
  exact View.canon_cons_unit_zero zero2 _ w L

/-- A scratch row read whole is its contents. -/
theorem load_row (M : Memref sig .tc .vmem S1x512 .f32) (hM : M.IsWhole) (h : Vec F S1x512 .f32) :
    M.view.readAt (Elt F) (Rect.unit (s := S1x512) ![0, 0] S1x512.size inb_S1x512_S1x512_0_0).toLoadRect (hM.unread h) = h := by
  rw [View.readAt_eq_ld, hM.read_unread]
  exact View.ld_unit_zero zero2 _ h

section
variable (c : Dev nD) (i : grid0.Coords) (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1x512 .f32) (harg4 : arg4.IsWhole)

/-- The body at the first point, -/
theorem body_first (hc : first i) (a u : Vec F S512x512 .f32) (E : Set ℕ) (K : PUnit → sProp 𝕄) :
    iprop(owns (c : Thread nD τ) arg1 fullShare a ∗ owns (c : Thread nD τ) arg2 fullShare u ∗ (∃ d, owns (c : Thread nD τ) arg3 fullShare d) ∗ (∃ d, owns (c : Thread nD τ) arg4 fullShare d)
        ∗ (iprop(owns (c : Thread nD τ) arg1 fullShare a ∗ owns (c : Thread nD τ) arg2 fullShare u ∗ owns (c : Thread nD τ) arg3 fullShare (blockOf a u zero) ∗ owns (c : Thread nD τ) arg4 fullShare (car a u zero 512)) -∗ K ⟨⟩))
      ⊢ wp Idealize.ShloMosaic.frame (wpE (defs₀ (F := F)) Variants.none c none) E (cc0_lru_scan_rev i arg1 harg1 arg2 harg2 arg3 harg3 arg4 harg4) K := by
  simp only [cc0_lru_scan_rev_eq_skeleton]; unfold cc0_lru_scan_rev_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [View.readCov_unit_zero _ zero2]
    exact st_read Variants.none c none i arg1 harg1 arg2 harg2 arg3 harg3 arg4 harg4 a u f2 zero
  · iexists _; isplitr; swap; · iexact H3
    ipureintro
    sl_unfold_words
    rw [read_last, pay4_eq, View.readCov_unit_zero _ zero2]
    exact st_last Variants.none c none i arg1 harg1 arg2 harg2 arg3 harg3 arg4 harg4 a u zero

/-- and at a later one, the scratch row holding what the point before carried on. -/
theorem body_next (hc : ¬first i) (a u : Vec F S512x512 .f32) (h : Vec F S1x512 .f32) (E : Set ℕ) (K : PUnit → sProp 𝕄) :
    iprop(owns (c : Thread nD τ) arg1 fullShare a ∗ owns (c : Thread nD τ) arg2 fullShare u ∗ (∃ d, owns (c : Thread nD τ) arg3 fullShare d) ∗ owns (c : Thread nD τ) arg4 fullShare h
        ∗ (iprop(owns (c : Thread nD τ) arg1 fullShare a ∗ owns (c : Thread nD τ) arg2 fullShare u ∗ owns (c : Thread nD τ) arg3 fullShare (blockOf a u h) ∗ owns (c : Thread nD τ) arg4 fullShare (car a u h 512)) -∗ K ⟨⟩))
      ⊢ wp Idealize.ShloMosaic.frame (wpE (defs₀ (F := F)) Variants.none c none) E (cc0_lru_scan_rev i arg1 harg1 arg2 harg2 arg3 harg3 arg4 harg4) K := by
  simp only [cc0_lru_scan_rev_eq_skeleton]; unfold cc0_lru_scan_rev_skel
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [load_row]
    exact st_read Variants.none c none i arg1 harg1 arg2 harg2 arg3 harg3 arg4 harg4 a u f2 h
  · iexists _; isplitr; swap; · iexact H3
    ipureintro
    sl_unfold_words
    rw [read_last, pay4_eq, load_row]
    exact st_last Variants.none c none i arg1 harg1 arg2 harg2 arg3 harg3 arg4 harg4 a u h

end

/-! ## The points in order -/

variable (m : (ℓ : Loc nD τ sig) → Buf (Elt F) ℓ) (ρ : Dev nD → PrngReg)

/-- Each window's staging memref at point `t`, and the scratch row. -/
abbrev mr0 (t : Fin cfg0.N) : Memref sig .tc .vmem S512x512 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S512x512 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S512x512 .f32 := win0_2.stage (cfg0.slots t 2)
abbrev hr2 (t : Fin cfg0.N) : (mr2 t).IsWhole := hstage0_2 ((cfg0.slots t 2).cast nbuf0_2)
abbrev scr : Memref sig .tc .vmem S1x512 .f32 := Memref.whole cc0_scratch0

/-- The gates' and the cotangent's block at point `n`. -/
def blkA (c : Dev nD) (n : ℕ) : Vec F S512x512 .f32 := if hn : n < cfg0.N then iblk m c 0 ⟨n, hn⟩ else fun _ => Scalar.ofBits .f32 0#32
def blkU (c : Dev nD) (n : ℕ) : Vec F S512x512 .f32 := if hn : n < cfg0.N then iblk m c 1 ⟨n, hn⟩ else fun _ => Scalar.ofBits .f32 0#32

theorem blkA_eq (c : Dev nD) (t : Fin cfg0.N) : blkA m c t.val = iblk m c 0 t := dif_pos t.isLt
theorem blkU_eq (c : Dev nD) (t : Fin cfg0.N) : blkU m c t.val = iblk m c 1 t := dif_pos t.isLt

/-- What is carried into point `n`. -/
def carry (c : Dev nD) : ℕ → Vec F S1x512 .f32
  | 0 => zero
  | n + 1 => car (blkA m c n) (blkU m c n) (carry c n) 512

/-- The scratch operand owned at some contents: the launch's invariant before the first point. -/
theorem start_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Between points the scratch row holds what is carried. -/
def inv (c : Dev nD) : (n : ℕ) → n ≤ cfg0.N → sProp 𝕄
  | 0, _ => Pipeline.ΦA spec0 c
  | n + 1, _ => iprop(iprop(owns (c : Thread nD τ) scr fullShare (carry m c (n + 1))) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (h : n + 1 ≤ cfg0.N) :
    inv m c (n + 1) h = iprop(iprop(owns (c : Thread nD τ) scr fullShare (carry m c (n + 1))) ∗ (∃ r, prngReg c r)) := rfl

theorem inv_pos (c : Dev nD) (n : ℕ) (h : n ≤ cfg0.N) (hz : n ≠ 0) :
    inv m c n h = iprop(iprop(owns (c : Thread nD τ) scr fullShare (carry m c n)) ∗ (∃ r, prngReg c r)) := by
  cases n with
  | zero => exact absurd rfl hz
  | succ n => rfl

/-- What the pipeline holds at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOf (iblk m c 0 t) (iblk m c 1 t) (carry m c t.val)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOf (iblk m c 0 t) (iblk m c 1 t) (carry m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = inv m c (t.val + 1) t.isLt from rfl, inv_succ]
  rw [show carry m c (t.val + 1) = car (iblk m c 0 t) (iblk m c 1 t) (carry m c t.val) 512 from by
    rw [← blkA_eq, ← blkU_eq]; rfl]
  rw [show (dats m 0 c).leavesExact 0 t = owns (c : Thread nD τ) (mr0 t) fullShare ((dats m 0 c).after 0 t) from by
    unfold Dat.leavesExact; rw [live_0 t], after_0]
  rw [show (dats m 0 c).leavesExact 1 t = owns (c : Thread nD τ) (mr1 t) fullShare ((dats m 0 c).after 1 t) from by
    unfold Dat.leavesExact; rw [live_1 t], after_1]
  rw [show (dats m 0 c).leavesExact 2 t = owns (c : Thread nD τ) (mr2 t) fullShare ((dats m 0 c).after 2 t) from by
    unfold Dat.leavesExact; rw [live_2 t], after_2]
  rw [inv_castSucc]
  by_cases hz : t.val = 0
  · rw [inv_zero m c _ _ hz, start_eq, show carry m c t.val = zero from by rw [hz]; rfl]
    iintro ⟨⟨HS, Hg⟩, Ho, ⟨%d0, H0⟩, ⟨%d1, H1⟩, ⟨%d2, H2⟩⟩
    iapply (body_first c (grid0.coords t) _ (hr0 t) _ (hr1 t) _ (hr2 t) _ (Memref.isWhole_whole _) ((first_iff t).mpr hz) (iblk m c 0 t) (iblk m c 1 t) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [inv_pos m c _ _ hz]
    iintro ⟨⟨HS, Hg⟩, Ho, ⟨%d0, H0⟩, ⟨%d1, H1⟩, ⟨%d2, H2⟩⟩
    iapply (body_next c (grid0.coords t) _ (hr0 t) _ (hr1 t) _ (hr2 t) _ (Memref.isWhole_whole _) (fun h => hz ((first_iff t).mp h)) (iblk m c 0 t) (iblk m c 1 t) (carry m c t.val) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 8 := N_0; omega), start_eq]
  iintro ⟨HS, Hg⟩
  isplitl [HS]
  · iexists _; iexact HS
  iexact Hg

set_option backward.isDefEq.respectTransparency.types false in
/-- THE RUN: every fair execution ends with the pipeline's arrays at what the points wrote, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.ScanValue.lean ====
/-
  The array the backward recurrence ends with: the blocks put together are one recursion down the 4096 rows, from the
  last to the first.
-/
module

public import proofs.«01_k».proof.Proof.ScanRun

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- The `n`-th row of an array, counted from its last. -/
def rowOf (x : Vec F S4096x512 .f32) (n : ℕ) : Vec F S1x512 .f32 := fun j => x (ix2 ⟨4095 - n, by omega⟩ (j 1))

/-- What is carried past `n` rows. -/
def carOf (a u : Vec F S4096x512 .f32) : ℕ → Vec F S1x512 .f32
  | 0 => zero
  | n + 1 => mulf (rowOf a n) (addf (rowOf u n) (carOf a u n))

/-- The gradient at the `n`-th row from the last. -/
def gradOf (a u : Vec F S4096x512 .f32) (n : ℕ) : Vec F S1x512 .f32 := addf (rowOf u n) (carOf a u n)

/-- The gradient of the recurrence's input. -/
def scanGrad (a u : Vec F S4096x512 .f32) : Vec F S4096x512 .f32 := fun y => gradOf a u (4095 - (y 0).val) (ix2 0 (y 1))

variable (m : (ℓ : Loc nD τ sig) → Buf (Elt F) ℓ) (ρ : Dev nD → PrngReg)

theorem index_0 : ∀ t : Fin cfg0.N, win0_0.index t = ![7 - t.val, 0] :=
  (by decide +kernel : ∀ t : Fin grid0.N, win0_0.index t = ![7 - t.val, 0])
theorem index_1 : ∀ t : Fin cfg0.N, win0_1.index t = ![7 - t.val, 0] :=
  (by decide +kernel : ∀ t : Fin grid0.N, win0_1.index t = ![7 - t.val, 0])
theorem index_2 : ∀ t : Fin cfg0.N, win0_2.index t = ![7 - t.val, 0] :=
  (by decide +kernel : ∀ t : Fin grid0.N, win0_2.index t = ![7 - t.val, 0])

/-- The arguments. -/
abbrev argA (c : Dev nD) : Vec F S4096x512 .f32 := m ((c.tc : Thread nD τ).loc main_arg0)
abbrev argU (c : Dev nD) : Vec F S4096x512 .f32 := m ((c.tc : Thread nD τ).loc main_arg1)

/-- A row of a block is a row of the array. -/
theorem row_A (c : Dev nD) (t : Fin cfg0.N) (n : ℕ) (hn : n < 512) :
    row (iblk m c 0 t : Vec F S512x512 .f32) n = rowOf (argA m c) (512 * t.val + n) := by
  have ht : t.val < 8 := lt_of_lt_of_eq t.isLt (show cfg0.N = 8 from N_0)
  funext j
  unfold row rowOf
  blk_ext [iblk, V, index_0 t]

theorem row_U (c : Dev nD) (t : Fin cfg0.N) (n : ℕ) (hn : n < 512) :
    row (iblk m c 1 t : Vec F S512x512 .f32) n = rowOf (argU m c) (512 * t.val + n) := by
  have ht : t.val < 8 := lt_of_lt_of_eq t.isLt (show cfg0.N = 8 from N_0)
  funext j
  unfold row rowOf
  blk_ext [iblk, V, index_1 t]

/-- Inside a block the recursion is the array's. -/
theorem car_block (c : Dev nD) (t : Fin cfg0.N) (n : ℕ) (hn : n ≤ 512) :
    car (iblk m c 0 t : Vec F S512x512 .f32) (iblk m c 1 t) (carOf (argA m c) (argU m c) (512 * t.val)) n
      = carOf (argA m c) (argU m c) (512 * t.val + n) := by
  induction n with
  | zero => rfl
  | succ n ih =>
    show mulf (row _ n) (addf (row _ n) _) = mulf (rowOf _ (512 * t.val + n)) (addf (rowOf _ (512 * t.val + n)) _)
    rw [ih (by omega), row_A m c t n (by omega), row_U m c t n (by omega)]
    rfl

/-- What is carried into point `n` is what is carried past its predecessors' rows. -/
theorem carry_eq (c : Dev nD) (n : ℕ) (hn : n ≤ cfg0.N) : carry m c n = carOf (argA m c) (argU m c) (512 * n) := by
  induction n with
  | zero => rfl
  | succ n ih =>
    show car (blkA m c n) (blkU m c n) (carry m c n) 512 = _
    rw [ih (le_of_lt hn), blkA_eq m c ⟨n, hn⟩, blkU_eq m c ⟨n, hn⟩]
    exact car_block m c ⟨n, hn⟩ 512 (le_refl _)

/-- The array ends at the recursion's gradients. -/
theorem final (c : Dev nD) : (dats m 0 c).arrAt 2 cfg0.N = scanGrad (argA m c) (argU m c) := by
  refine (dats m 0 c).arrAt_eq_of_covers 2 _ (by decide +kernel) fun t hf y => ?_
  have ht : t.val < 8 := lt_of_lt_of_eq t.isLt (show cfg0.N = 8 from N_0)
  blk_simp
  rw [after_2, carry_eq m c t.val (le_of_lt t.isLt)]
  have y0 : (y 0).val < 512 := (y 0).isLt
  have e0 : ((((cfg0.win 2).blk t).view.emb y) 0 : ℕ) = (7 - t.val) * 512 + (y 0).val := by blk_simp [index_2 t]
  have e1 : ((((cfg0.win 2).blk t).view.emb y) 1 : ℕ) = (y 1).val := by blk_simp [index_2 t]
  have key : scanGrad (argA m c) (argU m c) (((cfg0.win 2).blk t).view.emb y)
      = gradOf (argA m c) (argU m c) (512 * t.val + (511 - (y 0).val)) (ix2 0 (y 1)) := by
    unfold scanGrad
    congr 1
    · congr 1
      omega
    · congr 1
      exact Fin.ext e1
  refine Eq.trans ?_ key.symm
  show grad _ _ _ (511 - (y 0).val) (ix2 0 (y 1)) = _
  unfold grad gradOf
  rw [car_block m c t _ (by omega), row_U m c t _ (by omega)]

/-- THE RUN: the result is the gradient of the recurrence's input, the arguments are kept. -/
theorem run : θ_run defs (onTc (τ := τ) (main (F := F))) ⟨m, fun _ => 0, ρ⟩ (fun r => ∀ c : Dev nD,
      r.2.mem ((c.tc : Thread nD τ).loc main_v0) = scanGrad (argA m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2.1 c⟩)
    (θ_run_and ((θ_run defs _ _).mono (fun _ h => h.1) (run_main m ρ)) (frame m ρ))

end Cert.KernelIdeal.Hand
-- ==== Proof.ScanRef.lean ====
/-
  The reference's loop: after `n` trips it carries what the recursion carries past `n` rows, and the last `n` rows of its
  result are the recursion's gradients. After 4096 trips the whole array is.
-/
module

public import proofs.«01_k».proof.Proof.ScanValue
public import Idealize.ShloMosaic.Lib.DynamicIndex
public import Idealize.ShloMosaic.Lib.ValueLayout
public import proofs.«01_k».proof.Proof.Gen.ReferenceIdeal.Run

@[expose] public section

set_option maxRecDepth 16384

noncomputable section

namespace Cert.ReferenceIdeal.Hand

open Idealize.ShloMosaic Idealize.ShloMosaic.TcCoe
open Idealize.SL.Sem
open Cert.ReferenceIdeal Cert.ReferenceIdeal.Gen
open Cert.ReferenceIdeal.Value Idealize.ShloMosaic.StableHlo
open Cert.KernelIdeal.Hand (rowOf carOf gradOf scanGrad)

/-- A whole array. -/
abbrev Arr := Vec Ideal Cert.KernelIdeal.S4096x512 .f32

/-- What the loop's arrays hold. -/
abbrev Val := Valuation τ sig (Elt Ideal)

/-- The row trip `j` is about. -/
theorem row_toInt (V : Val) (j : ℕ) (hj : j < 4096) (hV : V (Proc.devRef .tc main_v3_2) = constantI S_ 32 (BitVec.ofNat 32 j))
    (i : S_.Idx) : (res_main_while0b_v5 V i).toInt = ((4095 - j : ℕ) : Int) := by
  unfold res_main_while0b_v5
  rw [hV]
  show ((4096#32 - BitVec.ofNat 32 j) - 1#32).toInt = _
  have e : (4096#32 - BitVec.ofNat 32 j) - 1#32 = BitVec.ofNat 32 (4095 - j) := by
    apply BitVec.eq_of_toNat_eq
    simp only [BitVec.toNat_sub, BitVec.toNat_ofNat]
    omega
  rw [e]
  exact Idealize.ShloMosaic.toInt_ofNat_of_lt (by omega)

/-- A slice of one row, at the row it starts at. -/
theorem slice_row (x : Arr) (start : Fin S4096x512.rank → Int) (n : ℕ) (hn : n < 4096)
    (h0 : start 0 = ((4095 - n : ℕ) : Int)) (h1 : start 1 = 0) (k : Fin 512) :
    Host.dynamicSlice S1x512 (x : S4096x512.Idx → EReal) start sliceFits_S4096x512_S1x512 (ix2 (0 : Fin 1) k) = rowOf x n (ix2 0 k) := by
  rw [Host.dynamicSlice_apply]
  unfold rowOf
  refine congrArg x (funext fun a => Fin.ext ?_)
  have e0 := Host.clampedStart_of_le sliceFits_S4096x512_S1x512.1 start 0 (4095 - n) h0
    (by show 4095 - n + 1 ≤ 4096; omega)
  have e1 := Host.clampedStart_of_le sliceFits_S4096x512_S1x512.1 start 1 0 h1
    (by show 0 + 512 ≤ 512; omega)
  fin_cases a
  · show Host.clampedStart _ _ _ start 0 + 0 = 4095 - n
    rw [e0]; rfl
  · show Host.clampedStart _ _ _ start 1 + k.val = k.val
    rw [e1]; omega

/-- Where a trip's slices start. -/
abbrev startOf (w : S_.Idx → BitVec 32) : Fin 2 → Int :=
  fun k => (((![w, constantI S_ 32 0#32] : Fin 2 → (⟨S_, .i32⟩ : BufTy).Contents (Elt Ideal))) k (Shape.Idx.first h_S_)).toInt

theorem startOf_0 (w : S_.Idx → BitVec 32) : startOf w 0 = (w (Shape.Idx.first h_S_)).toInt := rfl
theorem startOf_1 (w : S_.Idx → BitVec 32) : startOf w 1 = 0 := rfl

/-- The same, as the vector the loop makes of it. -/
theorem slice_vec (x : Arr) (w : S_.Idx → BitVec 32) (n : ℕ) (hn : n < 4096)
    (h0 : (w (Shape.Idx.first h_S_)).toInt = ((4095 - n : ℕ) : Int)) (k : Fin 512) :
    shapeCast S512 (Host.dynamicSlice S1x512 (x : S4096x512.Idx → EReal) (startOf w) sliceFits_S4096x512_S1x512)
      shapeCasts_S1x512_S512 (ix1 k) = rowOf x n (ix2 0 k) :=
  (ValueIdx.shapeCast_1a_a_apply _ _ k).trans (slice_row x (startOf w) n hn ((startOf_0 w).trans h0) (startOf_1 w) k)

theorem addf_at (x y : S512.Idx → EReal) (i : S512.Idx) : (addf (F := Ideal) (φ := .f32) x y) i = x i + y i := rfl
theorem mulf_at (x y : S512.Idx → EReal) (i : S512.Idx) : (mulf (F := Ideal) (φ := .f32) x y) i = x i * y i := rfl

/-- An array after one of its rows is stored. -/
theorem store_row (x : S4096x512.Idx → EReal) (w : S512.Idx → EReal) (start : Fin S4096x512.rank → Int) (n : ℕ) (hn : n < 4096)
    (h0 : start 0 = ((4095 - n : ℕ) : Int)) (h1 : start 1 = 0) (r : Fin 4096) (k : Fin 512) :
    Host.dynamicUpdateSlice x (broadcastInDim S1x512 ![1] bcast_S512_S1x512_1 w) start updateFits_S4096x512_S1x512 (ix2 r k)
      = if r.val = 4095 - n then w (ix1 k) else x (ix2 r k) := by
  rw [Host.dynamicUpdateSlice_apply]
  have e0 := Host.clampedStart_of_le updateFits_S4096x512_S1x512.1 start 0 (4095 - n) h0
    (by show 4095 - n + 1 ≤ 4096; omega)
  have e1 := Host.clampedStart_of_le updateFits_S4096x512_S1x512.1 start 1 0 h1
    (by show 0 + 512 ≤ 512; omega)
  have hk := k.isLt
  by_cases hr : r.val = 4095 - n
  · rw [if_pos hr, dif_pos]
    · refine congrArg w (funext fun a => Fin.ext ?_)
      fin_cases a
      show k.val - Host.clampedStart _ _ _ start 1 = k.val
      rw [e1]; rfl
    · intro a
      fin_cases a
      · show Host.clampedStart _ _ _ start 0 ≤ r.val ∧ r.val < Host.clampedStart _ _ _ start 0 + 1
        rw [e0]; omega
      · show Host.clampedStart _ _ _ start 1 ≤ k.val ∧ k.val < Host.clampedStart _ _ _ start 1 + 512
        rw [e1]; omega
  · rw [if_neg hr, dif_neg]
    intro h
    have := h 0
    change Host.clampedStart _ _ _ start 0 ≤ r.val ∧ r.val < Host.clampedStart _ _ _ start 0 + 1 at this
    rw [e0] at this
    omega

/-- What holds after `n` trips. -/
structure After (a u : Arr) (n : ℕ) (V : Val) : Prop where
  hu : V (Proc.devRef .tc main_v3_0) = u
  ha : V (Proc.devRef .tc main_v3_1) = a
  hn : V (Proc.devRef .tc main_v3_2) = constantI S_ 32 (BitVec.ofNat 32 n)
  hc : ∀ k : Fin 512, (V (Proc.devRef .tc main_v3_3) : S512.Idx → EReal) (ix1 k) = carOf a u n (ix2 0 k)
  ho : ∀ (r : Fin 4096) (k : Fin 512), 4096 ≤ r.val + n →
    (V (Proc.devRef .tc main_v3_4) : S4096x512.Idx → EReal) (ix2 r k) = scanGrad a u (ix2 r k)

variable {a u : Arr} {n : ℕ} {V : Val}

/-- What a trip adds up is the gradient at its row. -/
theorem After.grad (h : After a u n V) (hn : n < 4096) (k : Fin 512) :
    (res_main_while0b_v8 V : S512.Idx → EReal) (ix1 k) = gradOf a u n (ix2 0 k) := by
  unfold res_main_while0b_v8
  refine (addf_at _ _ _).trans ?_
  have hw := row_toInt V n hn h.hn (Shape.Idx.first h_S_)
  rw [h.hu, h.hc k, add_comm]
  generalize res_main_while0b_v5 V = w at hw ⊢
  exact congrArg (· + carOf a u n (ix2 0 k)) (slice_vec u w n hn hw k)

/-- One trip more. -/
theorem After.step (h : After a u n V) (hn : n < 4096) : After a u (n + 1) (STEP V) where
  hu := (STEP_main_v3_0 V).trans h.hu
  ha := (STEP_main_v3_1 V).trans h.ha
  hn := by
    rw [STEP_main_v3_2]
    unfold step_main_v3_2
    rw [h.hn]
    funext i
    show BitVec.ofNat 32 n + 1#32 = BitVec.ofNat 32 (n + 1)
    simp only [BitVec.ofNat_add]
  hc := fun k => by
    rw [STEP_main_v3_3]
    unfold step_main_v3_3
    refine (mulf_at _ _ _).trans ?_
    have hw := row_toInt V n hn h.hn (Shape.Idx.first h_S_)
    rw [h.grad hn k, h.ha]
    generalize res_main_while0b_v5 V = w at hw ⊢
    exact congrArg (· * gradOf a u n (ix2 0 k)) (slice_vec a w n hn hw k)
  ho := fun r k hr => by
    rw [STEP_main_v3_4]
    unfold step_main_v3_4
    have hw := row_toInt V n hn h.hn (Shape.Idx.first h_S_)
    have hg := h.grad hn k
    generalize res_main_while0b_v5 V = w at hw ⊢
    generalize res_main_while0b_v8 V = z at hg ⊢
    refine (store_row _ z (startOf w) n hn ((startOf_0 w).trans hw) (startOf_1 w) r k).trans ?_
    by_cases hb : r.val = 4095 - n
    · rw [if_pos hb, hg]
      show _ = gradOf a u (4095 - r.val) (ix2 0 k)
      rw [show 4095 - r.val = n by omega]
    · rw [if_neg hb]
      exact h.ho r k (by omega)

variable (m : (ℓ : Loc nD τ sig) → Buf (Elt Ideal) ℓ) (ρ : Dev nD → PrngReg)

/-- The arguments. -/
abbrev argA (c : Dev nD) : Arr := m ((c.tc : Thread nD τ).loc main_arg0)
abbrev argU (c : Dev nD) : Arr := m ((c.tc : Thread nD τ).loc main_arg1)

set_option maxRecDepth 65536 in
/-- Before the first trip. -/
theorem entry (c : Dev nD) : After (argA m c) (argU m c) 0 (entryContents preI m c) := by
  constructor
  · simp only [entryContents, afterL_cons, afterL_nil]; after_reads_simp; rfl
  · simp only [entryContents, afterL_cons, afterL_nil]; after_reads_simp; rfl
  · simp only [entryContents, afterL_cons, afterL_nil]; after_reads_simp; rfl
  · intro k
    simp only [entryContents, afterL_cons, afterL_nil]; after_reads_simp; rfl
  · intro r k hr
    have := r.isLt
    omega

/-- After any number of trips. -/
theorem after (c : Dev nD) (n : ℕ) (hn : n ≤ 4096) : After (argA m c) (argU m c) n (STEP^[n] (entryContents preI m c)) := by
  induction n with
  | zero => exact entry m c
  | succ n ih =>
    rw [Function.iterate_succ_apply']
    exact (ih (by omega)).step hn

theorem final (c : Dev nD) : (STEP^[4096] (entryContents preI m c)) (Proc.devRef .tc main_v3_4)
    = (scanGrad (argA m c) (argU m c) : S4096x512.Idx → EReal) :=
  funext fun y => by
    have h := (after m c 4096 (le_refl _)).ho (y 0) (y 1) (by omega)
    rw [eq_ix2 y]
    exact h

/-- The reference ends with the recursion's gradients. -/
theorem run : θ_run (defs (F := Ideal)) (onTc (τ := τ) (main (F := Ideal))) ⟨m, fun _ => 0, ρ⟩ fun r => ∀ c : Dev nD,
      r.2.mem ((c.tc : Thread nD τ).loc main_v3_4)
        = (scanGrad (m ((c.tc : Thread nD τ).loc main_arg0) : Arr) (m ((c.tc : Thread nD τ).loc main_arg1) : Arr) : S4096x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.ReferenceIdeal.Hand

end
-- ==== Proof.Dw.lean ====
/-
  A weight's gradient, the product of two arrays summed over the tokens: the kernel sums two halves of 2048 tokens, the
  reference all 4096 at once.
-/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Hand

open Idealize.ShloMosaic Idealize.ShloMosaic.TcCoe Idealize.ShloMosaic.Tactic
open Idealize.SL.Sem
open Idealize.ShloMosaic.Pipeline (Dat Cfg Window)
open Cert.Kernel2Ideal Cert.Kernel2Ideal.Gen

/-- The gradient: the sum over the tokens. -/
def grad (a : Vec Ideal S4096x3072 .bf16) (b : Vec Ideal S4096x1024 .bf16) : Vec Ideal S3072x1024 .bf16 :=
  fun y => ∑ k : Fin 4096, (a (ix2 k (y 0)) : EReal) * b (ix2 k (y 1))

/-- One half's product. -/
def half (x : Vec Ideal S2048x768 .bf16) (y : Vec Ideal S2048x1024 .bf16) (j : S768x1024.Idx) : EReal :=
  ∑ k : Fin 2048, (x (ix2 k (j 0)) : EReal) * y (ix2 k (j 1))

theorem pay1_apply (j : S768x1024.Idx) : (k0_pay1 (F := Ideal)) j = (0 : EReal) := by
  unfold k0_pay1
  pointwise

theorem pay2_apply (v : Vec Ideal S768x1024 .f32) (x : Vec Ideal S2048x768 .bf16) (y : Vec Ideal S2048x1024 .bf16) (j : S768x1024.Idx) :
    k0_pay2 v x y j = (v j : EReal) + half x y j := by
  unfold k0_pay2 half
  pointwise

theorem pay3_apply (v : Vec Ideal S768x1024 .f32) (j : S768x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x3072 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S768x1024.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S768x1024.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S768x1024.Idx) (y : S3072x1024.Idx)
    (h0 : (y 0).val = t.val / 2 * 768 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 8 := lt_of_lt_of_eq t.isLt (show cfg0.N = 8 from N_0)
  have h : t.val % 2 = 1 := (flush0_2 t).mp hf
  blk_simp
  rw [after0_2, out_odd m c t h]
  have e0 : ((((cfg0.win 2).blk t).view.emb y) 0 : ℕ) = t.val / 2 * 768 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 768 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel2Ideal.Value.run_blocks m ρ)

end Cert.Kernel2Ideal.Hand

namespace Cert.Reference2Ideal.Hand

open Idealize.ShloMosaic Idealize.ShloMosaic.TcCoe Idealize.SL.Sem
open Cert.Reference2Ideal

variable (m : (ℓ : Loc nD τ sig) → Buf (Elt Ideal) ℓ) (ρ : Dev nD → PrngReg)

/-- The reference's term is the gradient. -/
theorem value (a : Vec Ideal S4096x3072 .bf16) (b : Vec Ideal S4096x1024 .bf16) :
    Cert.Reference2Ideal.Read.val_main_v5 (F := Ideal) a b = Cert.Kernel2Ideal.Hand.grad a b := by
  funext y
  rw [Read.val_main_v5_apply, Read.val_main_v4_apply, Read.val_main_v3_apply]
  refine (Read.val_main_v2_apply a b _).trans (Finset.sum_congr rfl fun k _ => ?_)
  congr 2
  · funext d
    match d with
    | ⟨0, _⟩ => rfl
    | ⟨1, _⟩ => rfl
  · funext d
    match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v5)
      = Cert.Kernel2Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v5_eq _ _)).trans (value _ _), (h c).2⟩) (Cert.Reference2Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference2Ideal.Hand

end
-- ==== Proof.DwDown.lean ====
/-
  The gradient of the weight of a feed-forward layer's down product, the product of two arrays summed over the
  tokens: the kernel sums two halves of 2048 tokens, the reference all 4096 at once.
-/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel9Ideal.Hand

open Idealize.ShloMosaic Idealize.ShloMosaic.TcCoe Idealize.ShloMosaic.Tactic
open Idealize.SL.Sem
open Idealize.ShloMosaic.Pipeline (Dat Cfg Window)
open Cert.Kernel9Ideal Cert.Kernel9Ideal.Gen

/-- The gradient: the sum over the tokens. -/
def grad (a : Vec Ideal S4096x3072 .bf16) (b : Vec Ideal S4096x1024 .bf16) : Vec Ideal S3072x1024 .bf16 :=
  fun y => ∑ k : Fin 4096, (a (ix2 k (y 0)) : EReal) * b (ix2 k (y 1))

/-- One half's product. -/
def half (x : Vec Ideal S2048x768 .bf16) (y : Vec Ideal S2048x1024 .bf16) (j : S768x1024.Idx) : EReal :=
  ∑ k : Fin 2048, (x (ix2 k (j 0)) : EReal) * y (ix2 k (j 1))

theorem pay1_apply (j : S768x1024.Idx) : (k0_pay1 (F := Ideal)) j = (0 : EReal) := by
  unfold k0_pay1
  pointwise

theorem pay2_apply (v : Vec Ideal S768x1024 .f32) (x : Vec Ideal S2048x768 .bf16) (y : Vec Ideal S2048x1024 .bf16) (j : S768x1024.Idx) :
    k0_pay2 v x y j = (v j : EReal) + half x y j := by
  unfold k0_pay2 half
  pointwise

theorem pay3_apply (v : Vec Ideal S768x1024 .f32) (j : S768x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x3072 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S768x1024.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S768x1024.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S768x1024.Idx) (y : S3072x1024.Idx)
    (h0 : (y 0).val = t.val / 2 * 768 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 8 := lt_of_lt_of_eq t.isLt (show cfg0.N = 8 from N_0)
  have h : t.val % 2 = 1 := (flush0_2 t).mp hf
  blk_simp
  rw [after0_2, out_odd m c t h]
  have e0 : ((((cfg0.win 2).blk t).view.emb y) 0 : ℕ) = t.val / 2 * 768 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 768 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel9Ideal.Value.run_blocks m ρ)

end Cert.Kernel9Ideal.Hand

namespace Cert.Reference9Ideal.Hand

open Idealize.ShloMosaic Idealize.ShloMosaic.TcCoe Idealize.SL.Sem
open Cert.Reference9Ideal

variable (m : (ℓ : Loc nD τ sig) → Buf (Elt Ideal) ℓ) (ρ : Dev nD → PrngReg)

/-- The reference's term is the gradient. -/
theorem value (a : Vec Ideal S4096x3072 .bf16) (b : Vec Ideal S4096x1024 .bf16) :
    Cert.Reference9Ideal.Read.val_main_v4 (F := Ideal) a b = Cert.Kernel9Ideal.Hand.grad a b := by
  funext y
  rw [Read.val_main_v4_apply, Read.val_main_v3_apply]
  refine (Read.val_main_v2_apply a b _).trans (Finset.sum_congr rfl fun k _ => (mul_comm _ _).trans ?_)
  refine congrArg₂ (fun p q : EReal => p * q) (congrArg a (funext fun d => ?_)) (congrArg b (funext fun d => ?_))
  · match d with
    | ⟨0, _⟩ => rfl
    | ⟨1, _⟩ => rfl
  · match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v4)
      = Cert.Kernel9Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v4_eq _ _)).trans (value _ _), (h c).2⟩) (Cert.Reference9Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference9Ideal.Hand

end
-- ==== Proof.FfnInReal.lean ====
/-
  The gradient of a row's root mean square, at the extended reals: the kernel's way of writing it is the reference's, on
  every row, infinite entries included.
-/
module

public import Idealize.ShloMosaic.PureOps.Ideal
public import Idealize.ShloMosaic.Lib.Pointwise

@[expose] public section

noncomputable section

namespace Cert.Rms

open Idealize.ShloMosaic

theorem c1024 : Ideal.ofBits .f32 0x44800000#32 = ((1024 : ℝ) : EReal) := by
  simp [Ideal.ofBits, Ideal.ieee]
  rw [← EReal.coe_mul]
  norm_num

theorem chalf : Ideal.ofBits .f32 0xBF000000#32 = ((-1 / 2 : ℝ) : EReal) := by
  simp [Ideal.ofBits, Ideal.ieee]
  rw [← EReal.coe_mul, ← EReal.coe_neg]
  norm_num

theorem ceps : ∃ e : ℝ, 0 < e ∧ Ideal.ofBits .f32 0x358637BD#32 = (e : EReal) := by
  refine ⟨_, ?_, by simp only [Ideal.ofBits, Ideal.ieee]; rw [if_neg (by decide), if_neg (by decide)]⟩
  rw [if_neg (by decide)]
  positivity

theorem div1024 (s : EReal) : Ideal.div s (Ideal.ofBits .f32 0x44800000#32) = s * ((1 / 1024 : ℝ) : EReal) := by
  rw [c1024]
  unfold Ideal.div
  rw [if_neg (by exact_mod_cast (by norm_num : (1024 : ℝ) ≠ 0)), ← EReal.coe_inv]
  norm_num

/-- The mean of squares and a positive constant: infinite, or a positive real. -/
theorem pos (s : EReal) (h : 0 ≤ s) : (Ideal.div s (Ideal.ofBits .f32 0x44800000#32) + Ideal.ofBits .f32 0x358637BD#32 = ⊤)
    ∨ ∃ v : ℝ, 0 < v ∧ Ideal.div s (Ideal.ofBits .f32 0x44800000#32) + Ideal.ofBits .f32 0x358637BD#32 = (v : EReal) := by
  obtain ⟨e, he, hc⟩ := ceps
  rw [div1024, hc]
  induction s with
  | bot => exact absurd h (by simp)
  | top =>
    left
    rw [EReal.top_mul_coe_of_pos (by norm_num)]
    exact EReal.top_add_coe e
  | coe s =>
    right
    have h' : 0 ≤ s := by exact_mod_cast h
    exact ⟨s * (1 / 1024) + e, by positivity, by norm_cast⟩

theorem sq_nonneg (x : EReal) : 0 ≤ x * x := by
  induction x with
  | bot => simp
  | top => simp
  | coe x => exact_mod_cast mul_self_nonneg x

theorem mul_sum (r : ℝ) (h : 0 ≤ r) {ι : Type} (s : Finset ι) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast h) (EReal.coe_ne_top r), ih]

theorem double (a : ℝ) (w : EReal) (h : a < 0) : (a : EReal) * w + (a : EReal) * w = ((2 * a : ℝ) : EReal) * w := by
  induction w with
  | bot => rw [EReal.coe_mul_bot_of_neg h, EReal.coe_mul_bot_of_neg (by linarith)]; rfl
  | top => rw [EReal.coe_mul_top_of_neg h, EReal.coe_mul_top_of_neg (by linarith)]; rfl
  | coe w => norm_cast; ring

/-- The two ways of writing a row's gradient agree. -/
theorem grad (q : EReal) (hq : q = ⊤ ∨ ∃ v : ℝ, 0 < v ∧ q = (v : EReal)) (h d x : EReal) {n : ℕ} (D X : Fin n → EReal) :
    h + Ideal.rsqrt q * (d - x * Ideal.rsqrt q * Ideal.div (∑ k, D k * (X k * Ideal.rsqrt q)) (Ideal.ofBits .f32 0x44800000#32))
      = h + d * Ideal.rsqrt q
          + x * Ideal.div ((∑ k, X k * D k) * (Ideal.ofBits .f32 0xBF000000#32 * Ideal.div (Ideal.rsqrt q) q)) (Ideal.ofBits .f32 0x44800000#32)
          + Ideal.div ((∑ k, X k * D k) * (Ideal.ofBits .f32 0xBF000000#32 * Ideal.div (Ideal.rsqrt q) q)) (Ideal.ofBits .f32 0x44800000#32) * x := by
  simp only [div1024, chalf]
  rcases hq with rfl | ⟨v, hv, rfl⟩
  · have e : Ideal.rsqrt ⊤ = 0 := rfl
    have e' : Ideal.div 0 ⊤ = 0 := by unfold Ideal.div; rw [if_neg (by simp)]; simp
    simp [e, e']
  · have e : Ideal.rsqrt (v : EReal) = (((Real.sqrt v)⁻¹ : ℝ) : EReal) := by
      show (if v < 0 then (⊥ : EReal) else if v = 0 then ⊤ else _) = _
      rw [if_neg (by linarith), if_neg hv.ne']
    rw [e]
    have hr : 0 < (Real.sqrt v)⁻¹ := inv_pos.mpr (Real.sqrt_pos.mpr hv)
    have hv' : v⁻¹ = (Real.sqrt v)⁻¹ * (Real.sqrt v)⁻¹ := by rw [← mul_inv, Real.mul_self_sqrt hv.le]
    have e' : Ideal.div (((Real.sqrt v)⁻¹ : ℝ) : EReal) (v : EReal) = (((Real.sqrt v)⁻¹ * ((Real.sqrt v)⁻¹ * (Real.sqrt v)⁻¹) : ℝ) : EReal) := by
      unfold Ideal.div
      rw [if_neg (by exact_mod_cast hv.ne'), ← EReal.coe_inv, ← EReal.coe_mul, hv']
    rw [e']
    generalize (Real.sqrt v)⁻¹ = r at hr
    have es : ∑ k, D k * (X k * (r : EReal)) = (r : EReal) * ∑ k, X k * D k := by
      rw [mul_sum r hr.le]
      exact Finset.sum_congr rfl fun k _ => by rw [← mul_assoc, mul_comm, mul_comm (D k)]
    rw [es]
    generalize ∑ k, X k * D k = S
    have hz : x * (S * (((-1 / 2 : ℝ) : EReal) * ((r * (r * r) : ℝ) : EReal)) * ((1 / 1024 : ℝ) : EReal)) = (((-1 / 2) * (r * (r * r)) * (1 / 1024) : ℝ) : EReal) * (S * x) := by
      simp only [EReal.coe_mul]; ac_rfl
    have hn : (-1 / 2 : ℝ) * (r * (r * r)) * (1 / 1024) < 0 := by
      have : 0 < r * (r * r) := by positivity
      linarith
    rw [mul_comm (S * (((-1 / 2 : ℝ) : EReal) * ((r * (r * r) : ℝ) : EReal)) * ((1 / 1024 : ℝ) : EReal)) x, hz, add_assoc, double _ _ hn,
      sub_eq_add_neg, EReal.left_distrib_of_nonneg_of_ne_top (by exact_mod_cast hr.le) (EReal.coe_ne_top r), ← add_assoc, mul_comm (r : EReal) d]
    congr 1
    rw [mul_neg, show (2 * ((-1 / 2) * (r * (r * r)) * (1 / 1024)) : ℝ) = -(r * (r * (r * (1 / 1024)))) by ring, EReal.coe_neg, neg_mul]
    congr 1
    simp only [EReal.coe_mul]; ac_rfl

end Cert.Rms

end
-- ==== Proof.FfnIn.lean ====
/-
  The feed-forward block's backward pass to its input: the kernel sums the two products over four chunks of 768 columns, and
  at a tile's last chunk passes the sum through the gradient of the row's normalisation; the weight's gradient is summed
  over the four tiles of rows.
-/
module

public import proofs.«01_k».proof.Proof.Gen.Kernel10Ideal.Value
public import proofs.«01_k».proof.Proof.FfnInReal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel10Ideal.Hand

open Idealize.ShloMosaic Idealize.ShloMosaic.TcCoe Idealize.ShloMosaic.Tactic
open Idealize.SL.Sem
open Idealize.ShloMosaic.Pipeline (Dat Cfg Window)
open Cert.Kernel10Ideal Cert.Kernel10Ideal.Gen

/-! ### The values -/

/-- The gradient reaching the normalised row: the two products. -/
def dy (a b : Vec Ideal S4096x3072 .bf16) (wa wb : Vec Ideal S3072x1024 .bf16) (y : S4096x1024.Idx) : EReal :=
  (∑ k : Fin 3072, (a (ix2 (y 0) k) : EReal) * wa (ix2 k (y 1))) + ∑ k : Fin 3072, (b (ix2 (y 0) k) : EReal) * wb (ix2 k (y 1))

/-- A row's mean of squares, and the small constant. -/
def msq {n : ℕ} (x : (Shape.mk 2 ![n, 1024]).Idx → EReal) (p : Fin n) : EReal :=
  Ideal.div (∑ k : Fin 1024, x (ix2 p k) * x (ix2 p k)) (Ideal.ofBits .f32 0x44800000#32) + Ideal.ofBits .f32 0x358637BD#32

/-- One entry of the row's gradient, from the gradient reaching the normalised row. -/
def dx {n : ℕ} (h x d : (Shape.mk 2 ![n, 1024]).Idx → EReal) (g : S1x1024.Idx → EReal) (y : (Shape.mk 2 ![n, 1024]).Idx) : EReal :=
  h y + Ideal.rsqrt (msq x (y 0)) * (d y * g (ix2 0 (y 1)) - x y * Ideal.rsqrt (msq x (y 0))
    * Ideal.div (∑ k : Fin 1024, d (ix2 (y 0) k) * g (ix2 0 k) * (x (ix2 (y 0) k) * Ideal.rsqrt (msq x (y 0)))) (Ideal.ofBits .f32 0x44800000#32))

/-- One entry of the weight's gradient: the rows' sum. -/
def dg {n : ℕ} (x d : (Shape.mk 2 ![n, 1024]).Idx → EReal) (p : Fin 1024) : EReal :=
  ∑ k : Fin n, d (ix2 k p) * (x (ix2 k p) * Ideal.rsqrt (msq x k))

/-- A chunk's products. -/
def part (a b : Vec Ideal S1024x768 .bf16) (wa wb : Vec Ideal S768x1024 .bf16) (j : S1024x1024.Idx) : EReal :=
  (∑ k : Fin 768, (a (ix2 (j 0) k) : EReal) * wa (ix2 k (j 1))) + ∑ k : Fin 768, (b (ix2 (j 0) k) : EReal) * wb (ix2 k (j 1))

/-! ### The stored terms -/

theorem pay1_apply (j : S1x1024.Idx) : (k0_pay1 (F := Ideal)) j = (0 : EReal) := by
  unfold k0_pay1
  pointwise

theorem pay2_apply (j : S1024x1024.Idx) : (k0_pay2 (F := Ideal)) j = (0 : EReal) := by
  unfold k0_pay2
  pointwise

theorem pay3_apply (v : Vec Ideal S1024x1024 .f32) (a : Vec Ideal S1024x768 .bf16) (wa : Vec Ideal S768x1024 .bf16) (b : Vec Ideal S1024x768 .bf16) (wb : Vec Ideal S768x1024 .bf16) (j : S1024x1024.Idx) :
    k0_pay3 v a wa b wb j = (v j : EReal) + part a b wa wb j := by
  unfold k0_pay3 part
  pointwise

theorem pay4_apply (x : Vec Ideal S1024x1024 .f32) (j : S1024x1.Idx) : k0_pay4 x j = Ideal.rsqrt (msq x (j 0)) := by
  unfold k0_pay4 msq
  pointwise

theorem pay5_apply (x : Vec Ideal S1024x1024 .f32) (j : S1024x1024.Idx) : k0_pay5 x j = (x j : EReal) * Ideal.rsqrt (msq x (j 0)) := by
  unfold k0_pay5
  pointwise
  rw [pay4_apply]
  rfl

theorem pay6_apply (x d : Vec Ideal S1024x1024 .f32) (v : Vec Ideal S1x1024 .f32) (j : S1x1024.Idx) :
    k0_pay6 x d v j = (v j : EReal) + dg x d (j 1) := by
  unfold k0_pay6 dg
  pointwise
  simp only [pay5_apply]
  rfl

theorem pay7_apply (x : Vec Ideal S1024x1024 .f32) (g : Vec Ideal S1x1024 .f32) (d h : Vec Ideal S1024x1024 .f32) (j : S1024x1024.Idx) :
    k0_pay7 x g d h j = dx h x d g j := by
  unfold k0_pay7 dx
  pointwise
  simp only [pay5_apply, pay4_apply]
  rfl

variable (m : (ℓ : Loc nD τ sig) → Buf (Elt Ideal) ℓ) (ρ : Dev nD → PrngReg)

/-! ### What a point leaves -/

theorem prev_lt (t : Fin cfg0.N) : t.val - 1 < cfg0.N := Nat.lt_of_le_of_lt (Nat.sub_le _ _) t.isLt

theorem acc_first (c : Dev nD) (t : Fin cfg0.N) (h : t.val % 4 = 0) (j : S1024x1024.Idx) :
    (outsAt0 m c t.val t.isLt).2.2 j = part (iblk m c 2 t) (iblk m c 3 t) (iblk m c 5 t) (iblk m c 6 t) j := by
  by_cases h0 : t.val % 16 = 0
  · rw [outsAt0_A m c t h0 h (by omega)]
    frame_out
    rw [pay3_apply, pay2_apply, zero_add]
  · rw [outsAt0_D m c t h0 h (by omega)]
    frame_out
    rw [pay3_apply, pay2_apply, zero_add]

theorem acc_next (c : Dev nD) (t : Fin cfg0.N) (h : ¬t.val % 4 = 0) (j : S1024x1024.Idx) :
    (outsAt0 m c t.val t.isLt).2.2 j
      = (outsAt0 m c (t.val - 1) (prev_lt t)).2.2 j + part (iblk m c 2 t) (iblk m c 3 t) (iblk m c 5 t) (iblk m c 6 t) j := by
  by_cases h3 : t.val % 4 = 3
  · rw [outsAt0_C m c t (by omega) h h3]
    frame_out
    simp only [read_unread_whole]
    rw [pay3_apply]
  · rw [outsAt0_B m c t (by omega) h h3]
    frame_out
    simp only [read_unread_whole]
    rw [pay3_apply]

theorem out_last (c : Dev nD) (t : Fin cfg0.N) (h : t.val % 4 = 3) (j : S1024x1024.Idx) :
    (outsAt0 m c t.val t.isLt).1 j = dx (iblk m c 0 t) (iblk m c 1 t) ((outsAt0 m c t.val t.isLt).2.2) (iblk m c 4 t) j := by
  rw [outsAt0_C m c t (by omega) (by omega) h]
  frame_out
  simp only [read_unread_whole]
  rw [pay7_apply]

theorem dg_last (c : Dev nD) (t : Fin cfg0.N) (h : t.val % 4 = 3) (j : S1x1024.Idx) :
    (outsAt0 m c t.val t.isLt).2.1 j = (outsAt0 m c (t.val - 1) (prev_lt t)).2.1 j
      + dg (iblk m c 1 t : Vec Ideal S1024x1024 .f32) ((outsAt0 m c t.val t.isLt).2.2) (j 1) := by
  rw [outsAt0_C m c t (by omega) (by omega) h]
  frame_out
  simp only [read_unread_whole]
  rw [pay6_apply]

theorem dg_first (c : Dev nD) (t : Fin cfg0.N) (h : t.val % 16 = 0) (j : S1x1024.Idx) :
    (outsAt0 m c t.val t.isLt).2.1 j = (0 : EReal) := by
  rw [outsAt0_A m c t h (by omega) (by omega)]
  frame_out
  rw [pay1_apply]

theorem dg_next (c : Dev nD) (t : Fin cfg0.N) (h : ¬t.val % 16 = 0) (h3 : ¬t.val % 4 = 3) (j : S1x1024.Idx) :
    (outsAt0 m c t.val t.isLt).2.1 j = (outsAt0 m c (t.val - 1) (prev_lt t)).2.1 j := by
  by_cases h1 : t.val % 4 = 0
  · rw [outsAt0_D m c t h h1 h3]
    unfold out0_D_8
    simp only [read_unread_whole]
  · rw [outsAt0_B m c t h h1 h3]
    unfold out0_B_8
    simp only [read_unread_whole]

/-! ### The blocks and the arrays -/

/-- The arguments. -/
abbrev argH (c : Dev nD) : Vec Ideal S4096x1024 .f32 := m ((c.tc : Thread nD τ).loc main_arg0)
abbrev argX (c : Dev nD) : Vec Ideal S4096x1024 .f32 := m ((c.tc : Thread nD τ).loc main_arg1)
abbrev argA (c : Dev nD) : Vec Ideal S4096x3072 .bf16 := m ((c.tc : Thread nD τ).loc main_arg2)
abbrev argB (c : Dev nD) : Vec Ideal S4096x3072 .bf16 := m ((c.tc : Thread nD τ).loc main_arg3)
abbrev argG (c : Dev nD) : Vec Ideal S1x1024 .f32 := m ((c.tc : Thread nD τ).loc main_arg4)
abbrev argWa (c : Dev nD) : Vec Ideal S3072x1024 .bf16 := m ((c.tc : Thread nD τ).loc main_arg5)
abbrev argWb (c : Dev nD) : Vec Ideal S3072x1024 .bf16 := m ((c.tc : Thread nD τ).loc main_arg6)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![t.val / 4, 0] :=
  (by decide +kernel : ∀ t : Fin grid0.N, win0_1.index t = ![t.val / 4, 0])
theorem index_2 : ∀ t : Fin cfg0.N, win0_2.index t = ![t.val / 4, t.val % 4] :=
  (by decide +kernel : ∀ t : Fin grid0.N, win0_2.index t = ![t.val / 4, t.val % 4])
theorem index_3 : ∀ t : Fin cfg0.N, win0_3.index t = ![t.val / 4, t.val % 4] :=
  (by decide +kernel : ∀ t : Fin grid0.N, win0_3.index t = ![t.val / 4, t.val % 4])
theorem index_4 : ∀ t : Fin cfg0.N, win0_4.index t = ![0, 0] :=
  (by decide +kernel : ∀ t : Fin grid0.N, win0_4.index t = ![0, 0])
theorem index_5 : ∀ t : Fin cfg0.N, win0_5.index t = ![t.val % 4, 0] :=
  (by decide +kernel : ∀ t : Fin grid0.N, win0_5.index t = ![t.val % 4, 0])
theorem index_6 : ∀ t : Fin cfg0.N, win0_6.index t = ![t.val % 4, 0] :=
  (by decide +kernel : ∀ t : Fin grid0.N, win0_6.index t = ![t.val % 4, 0])
theorem index_7 : ∀ t : Fin cfg0.N, win0_7.index t = ![t.val / 4, 0] :=
  (by decide +kernel : ∀ t : Fin grid0.N, win0_7.index t = ![t.val / 4, 0])
theorem index_8 : ∀ t : Fin cfg0.N, win0_8.index t = ![0, 0] :=
  (by decide +kernel : ∀ t : Fin grid0.N, win0_8.index t = ![0, 0])

/-- A sum over four chunks. -/
theorem split4 (n : ℕ) (f : Fin (4 * n) → EReal) :
    ∑ k, f k = ∑ i : Fin 4, ∑ k : Fin n, f ⟨i.val * n + k.val, by have := i.isLt; have := k.isLt; nlinarith⟩ := by
  rw [← finProdFinEquiv.sum_comp, Fintype.sum_prod_type]
  refine Finset.sum_congr rfl fun i _ => Finset.sum_congr rfl fun k _ => congrArg f (Fin.ext ?_)
  show k.val + n * i.val = i.val * n + k.val
  rw [add_comm, mul_comm]

/-- The gradient reaching the normalised row, of the arguments. -/
def dyA (c : Dev nD) (y : S4096x1024.Idx) : EReal := dy (argA m c) (argB m c) (argWa m c) (argWb m c) y

/-- A chunk's share of it. -/
def chunk (c : Dev nD) (i : Fin 4) (y : S4096x1024.Idx) : EReal :=
  (∑ k : Fin 768, (argA m c (ix2 (y 0) ⟨i.val * 768 + k.val, by omega⟩) : EReal) * argWa m c (ix2 ⟨i.val * 768 + k.val, by omega⟩ (y 1)))
    + ∑ k : Fin 768, (argB m c (ix2 (y 0) ⟨i.val * 768 + k.val, by omega⟩) : EReal) * argWb m c (ix2 ⟨i.val * 768 + k.val, by omega⟩ (y 1))

theorem dyA_eq (c : Dev nD) (y : S4096x1024.Idx) : dyA m c y = ∑ i : Fin 4, chunk m c i y := by
  unfold dyA dy chunk
  rw [Finset.sum_add_distrib]
  exact congrArg₂ (· + ·) (split4 768 fun k => (argA m c (ix2 (y 0) k) : EReal) * argWa m c (ix2 k (y 1)))
    (split4 768 fun k => (argB m c (ix2 (y 0) k) : EReal) * argWb m c (ix2 k (y 1)))

theorem part_eq (c : Dev nD) (t : Fin cfg0.N) (i : Fin 4) (hi : t.val % 4 = i.val) (j : S1024x1024.Idx) (y : S4096x1024.Idx)
    (h0 : (y 0).val = t.val / 4 * 1024 + (j 0).val) (h1 : (y 1).val = (j 1).val) :
    part (iblk m c 2 t) (iblk m c 3 t) (iblk m c 5 t) (iblk m c 6 t) j = chunk m c i y := by
  obtain ⟨i, hl⟩ := i
  subst hi
  refine congrArg₂ (· + ·) (Finset.sum_congr rfl fun k _ => congrArg₂ (· * ·) ?_ ?_) (Finset.sum_congr rfl fun k _ => congrArg₂ (· * ·) ?_ ?_)
  · blk_ext [iblk, V, index_2 t]
  · blk_ext [iblk, V, index_5 t]
  · blk_ext [iblk, V, index_3 t]
  · blk_ext [iblk, V, index_6 t]

/-- A tile's last point leaves the whole sum in the accumulator. -/
theorem acc_full (c : Dev nD) (t : Fin cfg0.N) (h : t.val % 4 = 3) (j : S1024x1024.Idx) (y : S4096x1024.Idx)
    (h0 : (y 0).val = t.val / 4 * 1024 + (j 0).val) (h1 : (y 1).val = (j 1).val) :
    (outsAt0 m c t.val t.isLt).2.2 j = dyA m c y := by
  have l1 := prev_lt t
  have l2 : t.val - 1 - 1 < cfg0.N := by omega
  have l3 : t.val - 1 - 1 - 1 < cfg0.N := by omega
  rw [acc_next m c t (by omega), acc_next m c ⟨t.val - 1, l1⟩ (by show ¬(t.val - 1) % 4 = 0; omega),
    acc_next m c ⟨t.val - 1 - 1, l2⟩ (by show ¬(t.val - 1 - 1) % 4 = 0; omega), acc_first m c ⟨t.val - 1 - 1 - 1, l3⟩ (by show (t.val - 1 - 1 - 1) % 4 = 0; omega),
    part_eq m c ⟨t.val - 1 - 1 - 1, l3⟩ 0 (by show (t.val - 1 - 1 - 1) % 4 = 0; omega) j y (by show _ = (t.val - 1 - 1 - 1) / 4 * 1024 + _; omega) h1,
    part_eq m c ⟨t.val - 1 - 1, l2⟩ 1 (by show (t.val - 1 - 1) % 4 = 1; omega) j y (by show _ = (t.val - 1 - 1) / 4 * 1024 + _; omega) h1,
    part_eq m c ⟨t.val - 1, l1⟩ 2 (by show (t.val - 1) % 4 = 2; omega) j y (by show _ = (t.val - 1) / 4 * 1024 + _; omega) h1,
    part_eq m c t 3 h j y h0 h1, dyA_eq, Fin.sum_univ_four]

/-- A block's row is the array's. -/
theorem x_eq (c : Dev nD) (t : Fin cfg0.N) (j : S1024x1024.Idx) (y : S4096x1024.Idx)
    (h0 : (y 0).val = t.val / 4 * 1024 + (j 0).val) (h1 : (y 1).val = (j 1).val) :
    (iblk m c 1 t : Vec Ideal S1024x1024 .f32) j = argX m c y := by
  blk_ext [iblk, V, index_1 t]

theorem h_eq (c : Dev nD) (t : Fin cfg0.N) (j : S1024x1024.Idx) (y : S4096x1024.Idx)
    (h0 : (y 0).val = t.val / 4 * 1024 + (j 0).val) (h1 : (y 1).val = (j 1).val) :
    (iblk m c 0 t : Vec Ideal S1024x1024 .f32) j = argH m c y := by
  blk_ext [iblk, V, index_0 t]

theorem g_eq (c : Dev nD) (t : Fin cfg0.N) (j : S1x1024.Idx) : (iblk m c 4 t : Vec Ideal S1x1024 .f32) j = argG m c j := by
  blk_ext [iblk, V, index_4 t]

theorem sq_eq (c : Dev nD) (t : Fin cfg0.N) (p : Fin 1024) (q : Fin 4096) (h : q.val = t.val / 4 * 1024 + p.val) :
    msq (iblk m c 1 t : Vec Ideal S1024x1024 .f32) p = msq (argX m c) q := by
  unfold msq
  congr 2
  exact Finset.sum_congr rfl fun k _ => by rw [x_eq m c t (ix2 p k) (ix2 q k) h rfl]

/-- What a tile's last point leaves in the first result's block. -/
theorem out_eq (c : Dev nD) (t : Fin cfg0.N) (h : t.val % 4 = 3) (j : S1024x1024.Idx) (y : S4096x1024.Idx)
    (h0 : (y 0).val = t.val / 4 * 1024 + (j 0).val) (h1 : (y 1).val = (j 1).val) :
    (outsAt0 m c t.val t.isLt).1 j = dx (argH m c) (argX m c) (dyA m c) (argG m c) y := by
  have e1 : y 1 = j 1 := Fin.ext h1
  rw [out_last m c t h]
  unfold dx
  rw [h_eq m c t j y h0 h1, sq_eq m c t (j 0) (y 0) h0, acc_full m c t h j y h0 h1, g_eq, x_eq m c t j y h0 h1]
  have es : ∀ k : Fin 1024, (outsAt0 m c t.val t.isLt).2.2 (ix2 (j 0) k) = dyA m c (ix2 (y 0) k) := fun k => acc_full m c t h (ix2 (j 0) k) (ix2 (y 0) k) h0 rfl
  have ex : ∀ k : Fin 1024, (iblk m c 1 t : Vec Ideal S1024x1024 .f32) (ix2 (j 0) k) = argX m c (ix2 (y 0) k) := fun k => x_eq m c t (ix2 (j 0) k) (ix2 (y 0) k) h0 rfl
  simp only [es, ex, g_eq, e1]

/-- A tile's share of the weight's gradient. -/
def tile (c : Dev nD) (i : ℕ) (p : Fin 1024) : EReal :=
  if h : i < 4 then ∑ k : Fin 1024, dyA m c (ix2 ⟨i * 1024 + k.val, by omega⟩ p) * ((argX m c (ix2 ⟨i * 1024 + k.val, by omega⟩ p) : EReal) * Ideal.rsqrt (msq (argX m c) ⟨i * 1024 + k.val, by omega⟩)) else 0

theorem tile_eq (c : Dev nD) (t : Fin cfg0.N) (h : t.val % 4 = 3) (p : Fin 1024) :
    dg (iblk m c 1 t : Vec Ideal S1024x1024 .f32) ((outsAt0 m c t.val t.isLt).2.2) p = tile m c (t.val / 4) p := by
  have ht : t.val < 16 := lt_of_lt_of_eq t.isLt (show cfg0.N = 16 from N_0)
  unfold dg tile
  rw [dif_pos (by omega)]
  refine Finset.sum_congr rfl fun k _ => ?_
  have hl : t.val / 4 * 1024 + k.val < 4096 := by omega
  rw [acc_full m c t h (ix2 k p) (ix2 ⟨t.val / 4 * 1024 + k.val, hl⟩ p) rfl rfl, x_eq m c t (ix2 k p) (ix2 ⟨t.val / 4 * 1024 + k.val, hl⟩ p) rfl rfl,
    sq_eq m c t k ⟨t.val / 4 * 1024 + k.val, hl⟩ rfl]

/-- The weight's gradient after a point: the tiles finished so far. -/
theorem dg_run (c : Dev nD) (j : S1x1024.Idx) : ∀ (n : ℕ) (hn : n < cfg0.N), (outsAt0 m c n hn).2.1 j = ∑ i ∈ Finset.range ((n + 1) / 4), tile m c i (j 1)
  | 0, hn => by
    rw [show (0 + 1) / 4 = 0 from rfl, Finset.sum_range_zero]
    exact dg_first m c ⟨0, hn⟩ rfl j
  | n + 1, hn => by
    have hN : n + 1 < 16 := lt_of_lt_of_eq hn (show cfg0.N = 16 from N_0)
    by_cases h : (n + 1) % 4 = 3
    · rw [dg_last m c ⟨n + 1, hn⟩ h j]
      refine (congrArg (_ + ·) (tile_eq m c ⟨n + 1, hn⟩ h (j 1))).trans ?_
      show (outsAt0 m c n _).2.1 j + tile m c ((n + 1) / 4) (j 1) = _
      rw [dg_run c j n, show (n + 1 + 1) / 4 = (n + 1) / 4 + 1 by omega, Finset.sum_range_succ]
    · rw [dg_next m c ⟨n + 1, hn⟩ (by show ¬(n + 1) % 16 = 0; omega) h j]
      show (outsAt0 m c n _).2.1 j = _
      rw [dg_run c j n, show (n + 1 + 1) / 4 = (n + 1) / 4 by omega]

theorem tiles (c : Dev nD) (p : Fin 1024) : ∑ i ∈ Finset.range 4, tile m c i p = dg (argX m c) (dyA m c) p := by
  unfold dg
  refine Eq.trans ?_ (split4 1024 fun k : Fin 4096 => dyA m c (ix2 k p) * ((argX m c (ix2 k p) : EReal) * Ideal.rsqrt (msq (argX m c) k))).symm
  rw [← Fin.sum_univ_eq_sum_range]
  refine Finset.sum_congr rfl fun i _ => ?_
  unfold tile
  rw [dif_pos i.isLt]

/-- The results. -/
def resH (c : Dev nD) : Vec Ideal S4096x1024 .f32 := dx (argH m c) (argX m c) (dyA m c) (argG m c)
def resG (c : Dev nD) : Vec Ideal S1x1024 .f32 := fun j => dg (argX m c) (dyA m c) (j 1)

theorem final_7 (c : Dev nD) : (dats m 0 c).arrAt 7 cfg0.N = resH m c := by
  refine (dats m 0 c).arrAt_eq_of_covers 7 _ (by decide +kernel) fun t hf y => ?_
  have h : t.val % 4 = 3 := (flush0_7 t).mp hf
  blk_simp
  rw [after0_7]
  exact out_eq m c t h _ _ (by blk_simp [index_7 t]) (by blk_simp [index_7 t])

theorem final_8 (c : Dev nD) : (dats m 0 c).arrAt 8 cfg0.N = resG m c := by
  refine (dats m 0 c).arrAt_eq_of_covers 8 _ (by decide +kernel) fun t hf y => ?_
  have h : t.val % 16 = 15 := (flush0_8 t).mp hf
  have ht : t.val < 16 := lt_of_lt_of_eq t.isLt (show cfg0.N = 16 from N_0)
  have e1 : (((cfg0.win 8).blk t).view.emb y) 1 = y 1 := Fin.ext (by blk_simp [index_8 t])
  blk_simp
  rw [after0_8]
  unfold resG
  rw [dg_run m c _ t.val t.isLt, show (t.val + 1) / 4 = 4 by omega, e1]
  exact tiles m c (y 1)

/-- The kernel's run: the two results, the arguments kept. -/
theorem run : θ_run defs (onTc (τ := τ) (main (F := Ideal))) ⟨m, fun _ => 0, ρ⟩ fun r => ∀ c : Dev nD,
    r.2.mem ((c.tc : Thread nD τ).loc main_v0_0) = resH m c
    ∧ r.2.mem ((c.tc : Thread nD τ).loc main_v0_1) = resG m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (final_7 m c), (h c).2.1.trans (final_8 m c), (h c).2.2⟩) (Cert.Kernel10Ideal.Value.run_blocks m ρ)

end Cert.Kernel10Ideal.Hand

end
-- ==== Proof.FfnInRef.lean ====
/-
  The reference's text for the feed-forward block's backward pass to its input, read as the kernel's values.
-/
module

public import proofs.«01_k».proof.Proof.FfnIn
public import proofs.«01_k».proof.Proof.Gen.Reference10Ideal.Read

@[expose] public section

set_option maxRecDepth 16384

noncomputable section

namespace Cert.Reference10Ideal.Hand

open Idealize.ShloMosaic Idealize.ShloMosaic.TcCoe Idealize.SL.Sem
open Cert.Reference10Ideal Cert.Reference10Ideal.Read
open Cert.Kernel10Ideal.Hand (dy msq dx dg)

theorem zero : (FloatOps.ofBits .f32 0x00000000#32 : Ideal .f32) = (0 : EReal) := by
  show Ideal.ofBits .f32 0x00000000#32 = (0 : EReal)
  simp [Ideal.ofBits, Ideal.ieee]

theorem ix_eq {a b : ℕ} (i : (Shape.mk 2 ![a, b]).Idx) (p : Fin a) (q : Fin b) (h0 : (i 0).val = p.val) (h1 : (i 1).val = q.val) : i = ix2 p q := by
  funext d
  match d with
  | ⟨0, _⟩ => exact Fin.ext h0
  | ⟨1, _⟩ => exact Fin.ext h1

variable (x0 x1 : Vec Ideal S4096x1024 .f32) (x2 x3 : Vec Ideal S4096x3072 .bf16) (x4 : Vec Ideal S1x1024 .f32) (x5 x6 : Vec Ideal S3072x1024 .bf16)

theorem sq_ref (i : S4096x1.Idx) : val_main_v6 (F := Ideal) x1 i = msq x1 (i 0) := by
  rw [val_main_v6_apply, val_main_v4_apply, val_main_v2_apply, val_main_v1_apply, val_main_cst_apply, zero, zero_add, val_main_v3_apply, val_main_cst_0_apply, val_main_v5_apply, val_main_cst_1_apply]
  unfold msq
  refine congrArg (fun s : EReal => Ideal.div s (Ideal.ofBits .f32 0x44800000#32) + Ideal.ofBits .f32 0x358637BD#32) (Finset.sum_congr rfl fun k _ => ?_)
  rw [val_main_v0_apply, ix_eq (idx_main_v1 (idx_main_v2 i) k) (i 0) k rfl rfl]
  rfl

theorem r_ref (i : S4096x1.Idx) : val_main_v7 (F := Ideal) x1 i = Ideal.rsqrt (msq x1 (i 0)) := by
  rw [val_main_v7_apply, sq_ref]
  rfl

theorem xh_ref (i : S4096x1024.Idx) : val_main_v12 (F := Ideal) x1 i = (x1 i : EReal) * Ideal.rsqrt (msq x1 (i 0)) := by
  rw [val_main_v12_apply, val_main_v11_apply, r_ref]
  rfl

theorem dy_ref (i : S4096x1024.Idx) : val_main_v25 (F := Ideal) x2 x3 x5 x6 i = dy x2 x3 x5 x6 i := by
  rw [val_main_v25_apply, val_main_v23_apply, val_main_v24_apply]
  unfold dy
  refine (add_comm (G := EReal) _ _).trans (congrArg₂ (· + ·) (Finset.sum_congr rfl fun k _ => ?_) (Finset.sum_congr rfl fun k _ => ?_))
  · rw [val_main_v21_apply, val_main_v16_apply, val_main_v15_apply, ix_eq (lidx_main_v24 i k) (i 0) k rfl rfl, ix_eq (idx_main_v16 (ridx_main_v24 i k)) k (i 1) rfl rfl]
    rfl
  · rw [val_main_v22_apply, val_main_v19_apply, val_main_v18_apply, ix_eq (lidx_main_v23 i k) (i 0) k rfl rfl, ix_eq (idx_main_v19 (ridx_main_v23 i k)) k (i 1) rfl rfl]
    rfl

/-- The weight's gradient. -/
theorem dg_ref : val_main_v28 (F := Ideal) x1 x2 x3 x5 x6 = fun j => dg x1 (dy x2 x3 x5 x6) (j 1) := by
  funext j
  rw [val_main_v28_apply, val_main_v27_apply, val_main_cst_3_apply, zero, zero_add]
  unfold dg
  refine Finset.sum_congr rfl fun k _ => ?_
  have h0 : (j 0).val = 0 := by have : (j 0).val < 1 := (j 0).isLt; omega
  rw [val_main_v26_apply, xh_ref, dy_ref, ix_eq (idx_main_v27 (idx_main_v28 j) k) k (j 1) rfl (by show (j 0).val * 1024 + (j 1).val = (j 1).val; omega)]
  exact mul_comm (G := EReal) _ _

theorem d_ref (i : S4096x1024.Idx) : val_main_v30 (F := Ideal) x2 x3 x4 x5 x6 i = dy x2 x3 x5 x6 i * (x4 (ix2 0 (i 1)) : EReal) := by
  rw [val_main_v30_apply, dy_ref, val_main_v29_apply, ix_eq (idx_main_v29 i) 0 (i 1) rfl rfl]
  rfl

/-- The factor multiplying a row in its gradient, as the reference writes it. -/
theorem c_ref (i : S4096x1024.Idx) : val_main_v41 (F := Ideal) x1 x2 x3 x4 x5 x6 i
    = Ideal.div ((∑ k : Fin 1024, (x1 (ix2 (i 0) k) : EReal) * (dy x2 x3 x5 x6 (ix2 (i 0) k) * (x4 (ix2 0 k) : EReal)))
        * (Ideal.ofBits .f32 0xBF000000#32 * Ideal.div (Ideal.rsqrt (msq x1 (i 0))) (msq x1 (i 0)))) (Ideal.ofBits .f32 0x44800000#32) := by
  rw [val_main_v41_apply, val_main_v40_apply, val_main_cst_6_apply, zero, zero_add, Fin.sum_univ_one, val_main_v39_apply, val_main_v37_apply, val_main_v33_apply, val_main_v32_apply,
    val_main_cst_4_apply, zero, zero_add, val_main_v38_apply, val_main_cst_5_apply, val_main_v10_apply, val_main_v9_apply, val_main_cst_2_apply, val_main_v8_apply, r_ref, sq_ref]
  refine congrArg (fun s : EReal => Ideal.div (s * (Ideal.ofBits .f32 0xBF000000#32 * Ideal.div (Ideal.rsqrt (msq x1 (i 0))) (msq x1 (i 0)))) (Ideal.ofBits .f32 0x44800000#32))
    (Finset.sum_congr rfl fun k _ => ?_)
  rw [val_main_v31_apply, d_ref, ix_eq (idx_main_v32 (idx_main_v33 (idx_main_v40 (idx_main_v41 i) 0)) k) (i 0) k (by show (i 0).val * 1 + 0 = (i 0).val; omega) rfl]
  rfl

/-- The row's gradient. -/
theorem dx_ref : val_main_v45 (F := Ideal) x0 x1 x2 x3 x4 x5 x6 = dx x0 x1 (dy x2 x3 x5 x6) x4 := by
  funext i
  rw [val_main_v45_apply, val_main_v43_apply, val_main_v44_apply, val_main_v42_apply, c_ref, val_main_v36_apply, val_main_v35_apply, d_ref, val_main_v34_apply, r_ref]
  exact (Cert.Rms.grad (msq x1 (i 0)) (Cert.Rms.pos _ (Finset.sum_nonneg fun k _ => Cert.Rms.sq_nonneg _)) (x0 i) (dy x2 x3 x5 x6 i * (x4 (ix2 0 (i 1)) : EReal)) (x1 i)
    (fun k : Fin 1024 => dy x2 x3 x5 x6 (ix2 (i 0) k) * (x4 (ix2 0 k) : EReal)) (fun k => x1 (ix2 (i 0) k))).symm

variable (m : (ℓ : Loc nD τ sig) → Buf (Elt Ideal) ℓ) (ρ : Dev nD → PrngReg)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2.2, sem_eq_zero_of_no_sems rfl r.2⟩) (Cert.Reference10Ideal.Value.run m ρ)

end Cert.Reference10Ideal.Hand

end
-- ==== Proof.MixerBwd.lean ====
/-
  The mixer's backward pass to its input: each point lays five gradients side by side, multiplies them by the weight, and
  passes the product through the gradient of the rows' normalisation; the weight's gradient is summed over the eight tiles of rows.
-/
module

public import proofs.«01_k».proof.Proof.FfnInRef
public import proofs.«01_k».proof.Proof.Gen.Kernel11Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel11Ideal.Hand

open Idealize.ShloMosaic Idealize.ShloMosaic.TcCoe Idealize.ShloMosaic.Tactic
open Idealize.SL.Sem
open Idealize.ShloMosaic.Pipeline (Dat Cfg Window)
open Cert.Kernel11Ideal Cert.Kernel11Ideal.Gen
open Cert.Kernel10Ideal.Hand (msq dx dg)

/-! ### The values -/

/-- Five arrays of 512, 512, 384, 256 and 128 columns side by side. -/
def cat {n : ℕ} (a b : (Shape.mk 2 ![n, 512]).Idx → EReal) (c : (Shape.mk 2 ![n, 384]).Idx → EReal) (d : (Shape.mk 2 ![n, 256]).Idx → EReal) (e : (Shape.mk 2 ![n, 128]).Idx → EReal)
    (p : Fin n) (q : Fin 1792) : EReal :=
  if h : q.val < 512 then a (ix2 p ⟨q.val, h⟩)
  else if h : q.val - 512 < 512 then b (ix2 p ⟨q.val - 512, h⟩)
  else if h : q.val - 512 - 512 < 384 then c (ix2 p ⟨q.val - 512 - 512, h⟩)
  else if h : q.val - 512 - 512 - 384 < 256 then d (ix2 p ⟨q.val - 512 - 512 - 384, h⟩)
  else e (ix2 p ⟨q.val - 512 - 512 - 384 - 256, by omega⟩)

/-- The gradient reaching the normalised rows: the product with the weight. -/
def dy {n : ℕ} (a b : (Shape.mk 2 ![n, 512]).Idx → EReal) (c : (Shape.mk 2 ![n, 384]).Idx → EReal) (d : (Shape.mk 2 ![n, 256]).Idx → EReal) (e : (Shape.mk 2 ![n, 128]).Idx → EReal)
    (w : S1792x1024.Idx → EReal) (y : (Shape.mk 2 ![n, 1024]).Idx) : EReal :=
  ∑ k : Fin 1792, cat a b c d e (y 0) k * w (ix2 k (y 1))

/-! ### The stored terms -/

variable (a b : Vec Ideal S512x512 .bf16) (c : Vec Ideal S512x384 .bf16) (d : Vec Ideal S512x256 .bf16) (e : Vec Ideal S512x128 .bf16) (w : Vec Ideal S1792x1024 .bf16)
  (x : Vec Ideal S512x1024 .f32) (g : Vec Ideal S1x1024 .f32)

theorem pay1_apply (v u : Vec Ideal S1x1024 .f32) (j : S1x1024.Idx) : k0_pay1 v u j = (u j : EReal) + v j := by
  unfold k0_pay1
  pointwise

theorem pay3_apply (j : S1x1024.Idx) : (k0_pay3 (F := Ideal)) j = (0 : EReal) := by
  unfold k0_pay3
  pointwise

theorem pay4_apply (j : S512x1792.Idx) : k0_pay4 a b c d e j = cat a b c d e (j 0) (j 1) := by
  unfold k0_pay4 cat
  pointwise

theorem pay5_apply (j : S512x1024.Idx) : k0_pay5 a b c d e w j = dy a b c d e w j := by
  unfold k0_pay5 dy
  pointwise
  simp only [pay4_apply]
  rfl

theorem pay6_apply (j : S512x1.Idx) : k0_pay6 x j = Ideal.rsqrt (msq x (j 0)) := by
  unfold k0_pay6 msq
  pointwise

theorem pay7_apply (j : S512x1024.Idx) : k0_pay7 x j = (x j : EReal) * Ideal.rsqrt (msq x (j 0)) := by
  unfold k0_pay7
  pointwise
  rw [pay6_apply]
  rfl

theorem pay8_apply (j : S1x1024.Idx) : k0_pay8 a b c d e x w j = dg x (dy a b c d e w) (j 1) := by
  unfold k0_pay8 dg
  pointwise
  simp only [pay7_apply, pay5_apply]
  rfl

theorem pay9_apply (j : S512x1024.Idx) : k0_pay9 a b c d e g w j = dy a b c d e w j * (g (ix2 0 (j 1)) : EReal) := by
  unfold k0_pay9
  pointwise
  rw [pay5_apply]

theorem pay10_apply (j : S512.Idx) : k0_pay10 a b c d e x g w j
    = ∑ k : Fin 1024, dy a b c d e w (ix2 (j 0) k) * (g (ix2 0 k) : EReal) * ((x (ix2 (j 0) k) : EReal) * Ideal.rsqrt (msq x (j 0))) := by
  unfold k0_pay10
  pointwise
  simp only [pay7_apply, pay9_apply]
  rfl

theorem pay2_apply (h : Vec Ideal S512x1024 .f32) (j : S512x1024.Idx) :
    k0_pay2 (k0_pay6 x) (k0_pay7 x) (k0_pay9 a b c d e g w) (k0_pay10 a b c d e x g w) h j = dx h x (dy a b c d e w) g j := by
  unfold k0_pay2 dx
  pointwise
  simp only [pay6_apply, pay7_apply, pay9_apply, pay10_apply]
  rfl

variable (m : (ℓ : Loc nD τ sig) → Buf (Elt Ideal) ℓ) (ρ : Dev nD → PrngReg)

/-! ### What a point leaves -/

theorem prev_lt (t : Fin cfg0.N) : t.val - 1 < cfg0.N := Nat.lt_of_le_of_lt (Nat.sub_le _ _) t.isLt

/-- A tile's gradient reaching the normalised rows. -/
def dyB (c : Dev nD) (t : Fin cfg0.N) : S512x1024.Idx → EReal :=
  dy (iblk m c 4 t : Vec Ideal S512x512 .bf16) (iblk m c 5 t : Vec Ideal S512x512 .bf16) (iblk m c 6 t : Vec Ideal S512x384 .bf16) (iblk m c 7 t : Vec Ideal S512x256 .bf16)
    (iblk m c 8 t : Vec Ideal S512x128 .bf16) (iblk m c 3 t : Vec Ideal S1792x1024 .bf16)

theorem out_dx (c : Dev nD) (t : Fin cfg0.N) (j : S512x1024.Idx) :
    (outsAt0 m c t.val t.isLt).1 j = dx (iblk m c 0 t : Vec Ideal S512x1024 .f32) (iblk m c 1 t : Vec Ideal S512x1024 .f32) (dyB m c t) (iblk m c 2 t : Vec Ideal S1x1024 .f32) j := by
  by_cases h : t.val % 8 = 0
  · rw [outsAt0_A m c t h]
    frame_out
    exact pay2_apply _ _ _ _ _ _ _ _ _ j
  · rw [outsAt0_B m c t h]
    frame_out
    exact pay2_apply _ _ _ _ _ _ _ _ _ j

theorem out_cat (c : Dev nD) (t : Fin cfg0.N) (j : S512x1792.Idx) :
    (outsAt0 m c t.val t.isLt).2.1 j = cat (iblk m c 4 t : Vec Ideal S512x512 .bf16) (iblk m c 5 t : Vec Ideal S512x512 .bf16) (iblk m c 6 t : Vec Ideal S512x384 .bf16)
      (iblk m c 7 t : Vec Ideal S512x256 .bf16) (iblk m c 8 t : Vec Ideal S512x128 .bf16) (j 0) (j 1) := by
  by_cases h : t.val % 8 = 0
  · rw [outsAt0_A m c t h]
    frame_out
    exact pay4_apply _ _ _ _ _ j
  · rw [outsAt0_B m c t h]
    frame_out
    exact pay4_apply _ _ _ _ _ j

theorem dg_first (c : Dev nD) (t : Fin cfg0.N) (h : t.val % 8 = 0) (j : S1x1024.Idx) :
    (outsAt0 m c t.val t.isLt).2.2 j = dg (iblk m c 1 t : Vec Ideal S512x1024 .f32) (dyB m c t) (j 1) := by
  rw [outsAt0_A m c t h]
  frame_out
  rw [pay1_apply, pay3_apply, zero_add]
  exact pay8_apply _ _ _ _ _ _ _ j

theorem dg_next (c : Dev nD) (t : Fin cfg0.N) (h : ¬t.val % 8 = 0) (j : S1x1024.Idx) :
    (outsAt0 m c t.val t.isLt).2.2 j = (outsAt0 m c (t.val - 1) (prev_lt t)).2.2 j + dg (iblk m c 1 t : Vec Ideal S512x1024 .f32) (dyB m c t) (j 1) := by
  rw [outsAt0_B m c t h]
  frame_out
  rw [pay1_apply]
  exact congrArg (_ + ·) (pay8_apply _ _ _ _ _ _ _ j)

/-! ### The blocks and the arrays -/

/-- The arguments. -/
abbrev argH (c : Dev nD) : Vec Ideal S4096x1024 .f32 := m ((c.tc : Thread nD τ).loc main_arg0)
abbrev argX (c : Dev nD) : Vec Ideal S4096x1024 .f32 := m ((c.tc : Thread nD τ).loc main_arg1)
abbrev argG (c : Dev nD) : Vec Ideal S1x1024 .f32 := m ((c.tc : Thread nD τ).loc main_arg2)
abbrev argW (c : Dev nD) : Vec Ideal S1792x1024 .bf16 := m ((c.tc : Thread nD τ).loc main_arg3)
abbrev arg4 (c : Dev nD) : Vec Ideal S4096x512 .bf16 := m ((c.tc : Thread nD τ).loc main_arg4)
abbrev arg5 (c : Dev nD) : Vec Ideal S4096x512 .bf16 := m ((c.tc : Thread nD τ).loc main_arg5)
abbrev arg6 (c : Dev nD) : Vec Ideal S4096x384 .bf16 := m ((c.tc : Thread nD τ).loc main_arg6)
abbrev arg7 (c : Dev nD) : Vec Ideal S4096x256 .bf16 := m ((c.tc : Thread nD τ).loc main_arg7)
abbrev arg8 (c : Dev nD) : Vec Ideal S4096x128 .bf16 := m ((c.tc : Thread nD τ).loc main_arg8)

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![t.val, 0] :=
  (by decide +kernel : ∀ t : Fin grid0.N, win0_4.index t = ![t.val, 0])
theorem index_5 : ∀ t : Fin cfg0.N, win0_5.index t = ![t.val, 0] :=
  (by decide +kernel : ∀ t : Fin grid0.N, win0_5.index t = ![t.val, 0])
theorem index_6 : ∀ t : Fin cfg0.N, win0_6.index t = ![t.val, 0] :=
  (by decide +kernel : ∀ t : Fin grid0.N, win0_6.index t = ![t.val, 0])
theorem index_7 : ∀ t : Fin cfg0.N, win0_7.index t = ![t.val, 0] :=
  (by decide +kernel : ∀ t : Fin grid0.N, win0_7.index t = ![t.val, 0])
theorem index_8 : ∀ t : Fin cfg0.N, win0_8.index t = ![t.val, 0] :=
  (by decide +kernel : ∀ t : Fin grid0.N, win0_8.index t = ![t.val, 0])
theorem index_9 : ∀ t : Fin cfg0.N, win0_9.index t = ![t.val, 0] :=
  (by decide +kernel : ∀ t : Fin grid0.N, win0_9.index t = ![t.val, 0])
theorem index_10 : ∀ t : Fin cfg0.N, win0_10.index t = ![t.val, 0] :=
  (by decide +kernel : ∀ t : Fin grid0.N, win0_10.index t = ![t.val, 0])
theorem index_11 : ∀ t : Fin cfg0.N, win0_11.index t = ![0, 0] :=
  (by decide +kernel : ∀ t : Fin grid0.N, win0_11.index t = ![0, 0])

theorem h_eq (c : Dev nD) (t : Fin cfg0.N) (j : S512x1024.Idx) (y : S4096x1024.Idx)
    (h0 : (y 0).val = t.val * 512 + (j 0).val) (h1 : (y 1).val = (j 1).val) :
    (iblk m c 0 t : Vec Ideal S512x1024 .f32) j = argH m c y := by
  blk_ext [iblk, V, index_0 t]

theorem x_eq (c : Dev nD) (t : Fin cfg0.N) (j : S512x1024.Idx) (y : S4096x1024.Idx)
    (h0 : (y 0).val = t.val * 512 + (j 0).val) (h1 : (y 1).val = (j 1).val) :
    (iblk m c 1 t : Vec Ideal S512x1024 .f32) j = argX m c y := by
  blk_ext [iblk, V, index_1 t]

theorem a4_eq (c : Dev nD) (t : Fin cfg0.N) (j : S512x512.Idx) (y : S4096x512.Idx)
    (h0 : (y 0).val = t.val * 512 + (j 0).val) (h1 : (y 1).val = (j 1).val) :
    (iblk m c 4 t : Vec Ideal S512x512 .bf16) j = arg4 m c y := by
  blk_ext [iblk, V, index_4 t]

theorem a5_eq (c : Dev nD) (t : Fin cfg0.N) (j : S512x512.Idx) (y : S4096x512.Idx)
    (h0 : (y 0).val = t.val * 512 + (j 0).val) (h1 : (y 1).val = (j 1).val) :
    (iblk m c 5 t : Vec Ideal S512x512 .bf16) j = arg5 m c y := by
  blk_ext [iblk, V, index_5 t]

theorem a6_eq (c : Dev nD) (t : Fin cfg0.N) (j : S512x384.Idx) (y : S4096x384.Idx)
    (h0 : (y 0).val = t.val * 512 + (j 0).val) (h1 : (y 1).val = (j 1).val) :
    (iblk m c 6 t : Vec Ideal S512x384 .bf16) j = arg6 m c y := by
  blk_ext [iblk, V, index_6 t]

theorem a7_eq (c : Dev nD) (t : Fin cfg0.N) (j : S512x256.Idx) (y : S4096x256.Idx)
    (h0 : (y 0).val = t.val * 512 + (j 0).val) (h1 : (y 1).val = (j 1).val) :
    (iblk m c 7 t : Vec Ideal S512x256 .bf16) j = arg7 m c y := by
  blk_ext [iblk, V, index_7 t]

theorem a8_eq (c : Dev nD) (t : Fin cfg0.N) (j : S512x128.Idx) (y : S4096x128.Idx)
    (h0 : (y 0).val = t.val * 512 + (j 0).val) (h1 : (y 1).val = (j 1).val) :
    (iblk m c 8 t : Vec Ideal S512x128 .bf16) j = arg8 m c y := by
  blk_ext [iblk, V, index_8 t]

theorem g_eq (c : Dev nD) (t : Fin cfg0.N) (j : S1x1024.Idx) : (iblk m c 2 t : Vec Ideal S1x1024 .f32) j = argG m c j := by
  blk_ext [iblk, V, index_2 t]

theorem w_eq (c : Dev nD) (t : Fin cfg0.N) (j : S1792x1024.Idx) : (iblk m c 3 t : Vec Ideal S1792x1024 .bf16) j = argW m c j := by
  blk_ext [iblk, V, index_3 t]

/-- The five gradients side by side, of the arguments. -/
def catA (c : Dev nD) (p : Fin 4096) (q : Fin 1792) : EReal := cat (arg4 m c) (arg5 m c) (arg6 m c) (arg7 m c) (arg8 m c) p q

theorem cat_eq (c : Dev nD) (t : Fin cfg0.N) (p : Fin 512) (q : Fin 4096) (h : q.val = t.val * 512 + p.val) (r : Fin 1792) :
    cat (iblk m c 4 t : Vec Ideal S512x512 .bf16) (iblk m c 5 t : Vec Ideal S512x512 .bf16) (iblk m c 6 t : Vec Ideal S512x384 .bf16)
      (iblk m c 7 t : Vec Ideal S512x256 .bf16) (iblk m c 8 t : Vec Ideal S512x128 .bf16) p r = catA m c q r := by
  unfold catA cat
  split
  · exact a4_eq m c t _ _ h rfl
  · split
    · exact a5_eq m c t _ _ h rfl
    · split
      · exact a6_eq m c t _ _ h rfl
      · split
        · exact a7_eq m c t _ _ h rfl
        · exact a8_eq m c t _ _ h rfl

/-- The gradient reaching the normalised rows, of the arguments. -/
def dyA (c : Dev nD) (y : S4096x1024.Idx) : EReal := dy (arg4 m c) (arg5 m c) (arg6 m c) (arg7 m c) (arg8 m c) (argW m c) y

theorem dy_eq (c : Dev nD) (t : Fin cfg0.N) (j : S512x1024.Idx) (y : S4096x1024.Idx)
    (h0 : (y 0).val = t.val * 512 + (j 0).val) (h1 : (y 1).val = (j 1).val) : dyB m c t j = dyA m c y := by
  have e1 : y 1 = j 1 := Fin.ext h1
  unfold dyB dyA dy
  refine Finset.sum_congr rfl fun k _ => congrArg₂ (· * ·) (cat_eq m c t (j 0) (y 0) h0 k) ?_
  rw [e1]
  exact w_eq m c t _

theorem sq_eq (c : Dev nD) (t : Fin cfg0.N) (p : Fin 512) (q : Fin 4096) (h : q.val = t.val * 512 + p.val) :
    msq (iblk m c 1 t : Vec Ideal S512x1024 .f32) p = msq (argX m c) q := by
  unfold msq
  congr 2
  exact Finset.sum_congr rfl fun k _ => by rw [x_eq m c t (ix2 p k) (ix2 q k) h rfl]

/-- What a point leaves in the first result's block. -/
theorem out_eq (c : Dev nD) (t : Fin cfg0.N) (j : S512x1024.Idx) (y : S4096x1024.Idx)
    (h0 : (y 0).val = t.val * 512 + (j 0).val) (h1 : (y 1).val = (j 1).val) :
    (outsAt0 m c t.val t.isLt).1 j = dx (argH m c) (argX m c) (dyA m c) (argG m c) y := by
  have e1 : y 1 = j 1 := Fin.ext h1
  rw [out_dx m c t]
  unfold dx
  rw [h_eq m c t j y h0 h1, sq_eq m c t (j 0) (y 0) h0, dy_eq m c t j y h0 h1, g_eq, x_eq m c t j y h0 h1]
  have es : ∀ k : Fin 1024, dyB m c t (ix2 (j 0) k) = dyA m c (ix2 (y 0) k) := fun k => dy_eq m c t (ix2 (j 0) k) (ix2 (y 0) k) h0 rfl
  have ex : ∀ k : Fin 1024, (iblk m c 1 t : Vec Ideal S512x1024 .f32) (ix2 (j 0) k) = argX m c (ix2 (y 0) k) := fun k => x_eq m c t (ix2 (j 0) k) (ix2 (y 0) k) h0 rfl
  simp only [es, ex, g_eq, e1]

/-- A tile's share of the weight's gradient. -/
def tile (c : Dev nD) (i : ℕ) (p : Fin 1024) : EReal :=
  if h : i < 8 then ∑ k : Fin 512, dyA m c (ix2 ⟨i * 512 + k.val, by omega⟩ p) * ((argX m c (ix2 ⟨i * 512 + k.val, by omega⟩ p) : EReal) * Ideal.rsqrt (msq (argX m c) ⟨i * 512 + k.val, by omega⟩)) else 0

theorem tile_eq (c : Dev nD) (t : Fin cfg0.N) (p : Fin 1024) :
    dg (iblk m c 1 t : Vec Ideal S512x1024 .f32) (dyB m c t) p = tile m c t.val p := by
  have ht : t.val < 8 := lt_of_lt_of_eq t.isLt (show cfg0.N = 8 from N_0)
  unfold dg tile
  rw [dif_pos ht]
  refine Finset.sum_congr rfl fun k _ => ?_
  have hl : t.val * 512 + k.val < 4096 := by omega
  rw [dy_eq m c t (ix2 k p) (ix2 ⟨t.val * 512 + k.val, hl⟩ p) rfl rfl, x_eq m c t (ix2 k p) (ix2 ⟨t.val * 512 + k.val, hl⟩ p) rfl rfl,
    sq_eq m c t k ⟨t.val * 512 + k.val, hl⟩ rfl]

/-- The weight's gradient after a point: the tiles finished so far. -/
theorem dg_run (c : Dev nD) (j : S1x1024.Idx) : ∀ (n : ℕ) (hn : n < cfg0.N), (outsAt0 m c n hn).2.2 j = ∑ i ∈ Finset.range (n + 1), tile m c i (j 1)
  | 0, hn => by
    rw [Finset.sum_range_one]
    exact (dg_first m c ⟨0, hn⟩ rfl j).trans (tile_eq m c ⟨0, hn⟩ (j 1))
  | n + 1, hn => by
    have hN : n + 1 < 8 := lt_of_lt_of_eq hn (show cfg0.N = 8 from N_0)
    rw [dg_next m c ⟨n + 1, hn⟩ (by show ¬(n + 1) % 8 = 0; omega) j]
    refine (congrArg (_ + ·) (tile_eq m c ⟨n + 1, hn⟩ (j 1))).trans ?_
    show (outsAt0 m c n _).2.2 j + tile m c (n + 1) (j 1) = _
    rw [dg_run c j n, Finset.sum_range_succ _ (n + 1)]

/-- A sum over eight chunks. -/
theorem split8 (n : ℕ) (f : Fin (8 * n) → EReal) :
    ∑ k, f k = ∑ i : Fin 8, ∑ k : Fin n, f ⟨i.val * n + k.val, by have := i.isLt; have := k.isLt; nlinarith⟩ := by
  rw [← finProdFinEquiv.sum_comp, Fintype.sum_prod_type]
  refine Finset.sum_congr rfl fun i _ => Finset.sum_congr rfl fun k _ => congrArg f (Fin.ext ?_)
  show k.val + n * i.val = i.val * n + k.val
  rw [add_comm, mul_comm]

theorem tiles (c : Dev nD) (p : Fin 1024) : ∑ i ∈ Finset.range 8, tile m c i p = dg (argX m c) (dyA m c) p := by
  unfold dg
  refine Eq.trans ?_ (split8 512 fun k : Fin 4096 => dyA m c (ix2 k p) * ((argX m c (ix2 k p) : EReal) * Ideal.rsqrt (msq (argX m c) k))).symm
  rw [← Fin.sum_univ_eq_sum_range]
  refine Finset.sum_congr rfl fun i _ => ?_
  unfold tile
  rw [dif_pos i.isLt]

/-- The results. -/
def resH (c : Dev nD) : Vec Ideal S4096x1024 .f32 := dx (argH m c) (argX m c) (dyA m c) (argG m c)
def resP (c : Dev nD) : Vec Ideal S4096x1792 .bf16 := fun y => catA m c (y 0) (y 1)
def resG (c : Dev nD) : Vec Ideal S1x1024 .f32 := fun j => dg (argX m c) (dyA m c) (j 1)

theorem cat_out (c : Dev nD) (t : Fin cfg0.N) (j : S512x1792.Idx) (y : S4096x1792.Idx)
    (h0 : (y 0).val = t.val * 512 + (j 0).val) (h1 : (y 1).val = (j 1).val) :
    (outsAt0 m c t.val t.isLt).2.1 j = resP m c y := by
  have e1 : y 1 = j 1 := Fin.ext h1
  unfold resP
  rw [e1]
  exact (out_cat m c t j).trans (cat_eq m c t (j 0) (y 0) h0 (j 1))

theorem final_9 (c : Dev nD) : (dats m 0 c).arrAt 9 cfg0.N = resH m c := by
  refine (dats m 0 c).arrAt_eq_of_covers 9 _ (by decide +kernel) fun t hf y => ?_
  blk_simp
  rw [after0_9]
  exact out_eq m c t _ _ (by blk_simp [index_9 t]) (by blk_simp [index_9 t])

theorem final_10 (c : Dev nD) : (dats m 0 c).arrAt 10 cfg0.N = resP m c := by
  refine (dats m 0 c).arrAt_eq_of_covers 10 _ (by decide +kernel) fun t hf y => ?_
  blk_simp
  rw [after0_10]
  exact cat_out m c t _ _ (by blk_simp [index_10 t]) (by blk_simp [index_10 t])

theorem final_11 (c : Dev nD) : (dats m 0 c).arrAt 11 cfg0.N = resG m c := by
  refine (dats m 0 c).arrAt_eq_of_covers 11 _ (by decide +kernel) fun t hf y => ?_
  have h : t.val % 8 = 7 := (flush0_11 t).mp hf
  have ht : t.val < 8 := lt_of_lt_of_eq t.isLt (show cfg0.N = 8 from N_0)
  have e1 : (((cfg0.win 11).blk t).view.emb y) 1 = y 1 := Fin.ext (by blk_simp [index_11 t])
  blk_simp
  rw [after0_11]
  unfold resG
  rw [dg_run m c _ t.val t.isLt, show t.val + 1 = 8 by omega, e1]
  exact tiles m c (y 1)

/-- The kernel's run: the three results, the arguments kept. -/
theorem run : θ_run defs (onTc (τ := τ) (main (F := Ideal))) ⟨m, fun _ => 0, ρ⟩ fun r => ∀ c : Dev nD,
    r.2.mem ((c.tc : Thread nD τ).loc main_v0_0) = resH m c
    ∧ r.2.mem ((c.tc : Thread nD τ).loc main_v0_1) = resP m c
    ∧ r.2.mem ((c.tc : Thread nD τ).loc main_v0_2) = resG m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨(h c).1.trans (final_9 m c), (h c).2.1.trans (final_10 m c), (h c).2.2.1.trans (final_11 m c), (h c).2.2.2⟩) (Cert.Kernel11Ideal.Value.run_blocks m ρ)

end Cert.Kernel11Ideal.Hand

end
-- ==== Proof.MixerBwdRef.lean ====
/-
  The reference's text for the mixer's backward pass to its input, read as the kernel's values.
-/
module

public import proofs.«01_k».proof.Proof.MixerBwd
public import proofs.«01_k».proof.Proof.Gen.Reference11Ideal.Read

@[expose] public section

set_option maxRecDepth 16384

noncomputable section

namespace Cert.Reference11Ideal.Hand

open Idealize.ShloMosaic Idealize.ShloMosaic.TcCoe Idealize.SL.Sem
open Cert.Reference11Ideal Cert.Reference11Ideal.Read
open Cert.Kernel10Ideal.Hand (msq dx dg)
open Cert.Kernel11Ideal.Hand (cat dy)
open Cert.Reference10Ideal.Hand (ix_eq zero)

variable (x0 x1 : Vec Ideal S4096x1024 .f32) (x2 : Vec Ideal S1x1024 .f32) (x3 : Vec Ideal S1792x1024 .bf16)
  (x4 x5 : Vec Ideal S4096x512 .bf16) (x6 : Vec Ideal S4096x384 .bf16) (x7 : Vec Ideal S4096x256 .bf16) (x8 : Vec Ideal S4096x128 .bf16)

theorem cat_ref (i : S4096x1792.Idx) : val_main_v0 (F := Ideal) x4 x5 x6 x7 x8 i = cat x4 x5 x6 x7 x8 (i 0) (i 1) := by
  unfold val_main_v0 cat
  pointwise

theorem sq_ref (i : S4096x1.Idx) : val_main_v7 (F := Ideal) x1 i = msq x1 (i 0) := by
  rw [val_main_v7_apply, val_main_v5_apply, val_main_v3_apply, val_main_v2_apply, val_main_cst_apply, zero, zero_add, val_main_v4_apply, val_main_cst_0_apply, val_main_v6_apply, val_main_cst_1_apply]
  unfold msq
  refine congrArg (fun s : EReal => Ideal.div s (Ideal.ofBits .f32 0x44800000#32) + Ideal.ofBits .f32 0x358637BD#32) (Finset.sum_congr rfl fun k _ => ?_)
  rw [val_main_v1_apply, ix_eq (idx_main_v2 (idx_main_v3 i) k) (i 0) k rfl rfl]
  rfl

theorem r_ref (i : S4096x1.Idx) : val_main_v8 (F := Ideal) x1 i = Ideal.rsqrt (msq x1 (i 0)) := by
  rw [val_main_v8_apply, sq_ref]
  rfl

theorem xh_ref (i : S4096x1024.Idx) : val_main_v13 (F := Ideal) x1 i = (x1 i : EReal) * Ideal.rsqrt (msq x1 (i 0)) := by
  rw [val_main_v13_apply, val_main_v12_apply, r_ref]
  rfl

theorem dy_ref (i : S4096x1024.Idx) : val_main_v20 (F := Ideal) x3 x4 x5 x6 x7 x8 i = dy x4 x5 x6 x7 x8 x3 i := by
  rw [val_main_v20_apply]
  unfold dy
  refine Finset.sum_congr rfl fun k _ => ?_
  rw [val_main_v19_apply, cat_ref, val_main_v17_apply, val_main_v16_apply, ix_eq (idx_main_v17 (ridx_main_v20 i k)) k (i 1) rfl rfl]
  rfl

/-- The weight's gradient. -/
theorem dg_ref : val_main_v23 (F := Ideal) x1 x3 x4 x5 x6 x7 x8 = fun j => dg x1 (dy x4 x5 x6 x7 x8 x3) (j 1) := by
  funext j
  rw [val_main_v23_apply, val_main_v22_apply, val_main_cst_3_apply, zero, zero_add]
  unfold dg
  refine Finset.sum_congr rfl fun k _ => ?_
  have h0 : (j 0).val = 0 := by have : (j 0).val < 1 := (j 0).isLt; omega
  rw [val_main_v21_apply, xh_ref, dy_ref, ix_eq (idx_main_v22 (idx_main_v23 j) k) k (j 1) rfl (by show (j 0).val * 1024 + (j 1).val = (j 1).val; omega)]
  exact mul_comm (G := EReal) _ _

theorem d_ref (i : S4096x1024.Idx) : val_main_v25 (F := Ideal) x2 x3 x4 x5 x6 x7 x8 i = dy x4 x5 x6 x7 x8 x3 i * (x2 (ix2 0 (i 1)) : EReal) := by
  rw [val_main_v25_apply, dy_ref, val_main_v24_apply, ix_eq (idx_main_v24 i) 0 (i 1) rfl rfl]
  rfl

/-- The factor multiplying a row in its gradient, as the reference writes it. -/
theorem c_ref (i : S4096x1024.Idx) : val_main_v36 (F := Ideal) x1 x2 x3 x4 x5 x6 x7 x8 i
    = Ideal.div ((∑ k : Fin 1024, (x1 (ix2 (i 0) k) : EReal) * (dy x4 x5 x6 x7 x8 x3 (ix2 (i 0) k) * (x2 (ix2 0 k) : EReal)))
        * (Ideal.ofBits .f32 0xBF000000#32 * Ideal.div (Ideal.rsqrt (msq x1 (i 0))) (msq x1 (i 0)))) (Ideal.ofBits .f32 0x44800000#32) := by
  rw [val_main_v36_apply, val_main_v35_apply, val_main_cst_6_apply, zero, zero_add, Fin.sum_univ_one, val_main_v34_apply, val_main_v32_apply, val_main_v28_apply, val_main_v27_apply,
    val_main_cst_4_apply, zero, zero_add, val_main_v33_apply, val_main_cst_5_apply, val_main_v11_apply, val_main_v10_apply, val_main_cst_2_apply, val_main_v9_apply, r_ref, sq_ref]
  refine congrArg (fun s : EReal => Ideal.div (s * (Ideal.ofBits .f32 0xBF000000#32 * Ideal.div (Ideal.rsqrt (msq x1 (i 0))) (msq x1 (i 0)))) (Ideal.ofBits .f32 0x44800000#32))
    (Finset.sum_congr rfl fun k _ => ?_)
  rw [val_main_v26_apply, d_ref, ix_eq (idx_main_v27 (idx_main_v28 (idx_main_v35 (idx_main_v36 i) 0)) k) (i 0) k (by show (i 0).val * 1 + 0 = (i 0).val; omega) rfl]
  rfl

/-- The row's gradient. -/
theorem dx_ref : val_main_v40 (F := Ideal) x0 x1 x2 x3 x4 x5 x6 x7 x8 = dx x0 x1 (dy x4 x5 x6 x7 x8 x3) x2 := by
  funext i
  rw [val_main_v40_apply, val_main_v38_apply, val_main_v39_apply, val_main_v37_apply, c_ref, val_main_v31_apply, val_main_v30_apply, d_ref, val_main_v29_apply, r_ref]
  exact (Cert.Rms.grad (msq x1 (i 0)) (Cert.Rms.pos _ (Finset.sum_nonneg fun k _ => Cert.Rms.sq_nonneg _)) (x0 i) (dy x4 x5 x6 x7 x8 x3 i * (x2 (ix2 0 (i 1)) : EReal)) (x1 i)
    (fun k : Fin 1024 => dy x4 x5 x6 x7 x8 x3 (ix2 (i 0) k) * (x2 (ix2 0 k) : EReal)) (fun k => x1 (ix2 (i 0) k))).symm

/-- The five gradients side by side. -/
theorem p_ref : val_main_v0 (F := Ideal) x4 x5 x6 x7 x8 = fun y => cat x4 x5 x6 x7 x8 (y 0) (y 1) := funext fun i => cat_ref x4 x5 x6 x7 x8 i

variable (m : (ℓ : Loc nD τ sig) → Buf (Elt Ideal) ℓ) (ρ : Dev nD → PrngReg)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => (h c).2.2.2, sem_eq_zero_of_no_sems rfl r.2⟩) (Cert.Reference11Ideal.Value.run m ρ)

end Cert.Reference11Ideal.Hand

end
-- ==== Proof.FfnUp.lean ====
/-
  The feed-forward block's second hidden projection: each grid point writes its block of the product.
-/
module

public import proofs.«01_k».proof.Proof.FfnInRef
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel12Ideal.Hand

open Idealize.ShloMosaic Idealize.ShloMosaic.TcCoe Idealize.ShloMosaic.Tactic
open Idealize.SL.Sem
open Idealize.ShloMosaic.Pipeline (Dat Cfg Window)
open Cert.Kernel12Ideal Cert.Kernel12Ideal.Gen

/-- The product. -/
def up (a : Vec Ideal S4096x1024 .bf16) (b : Vec Ideal S3072x1024 .bf16) : Vec Ideal S4096x3072 .bf16 :=
  fun y => ∑ k : Fin 1024, (a (ix2 (y 0) k) : EReal) * b (ix2 (y 1) k)

theorem pay1_apply (x : Vec Ideal S1024x1024 .bf16) (w : Vec Ideal S768x1024 .bf16) (j : S1024x768.Idx) :
    k0_pay1 x w j = ∑ k : Fin 1024, (x (ix2 (j 0) k) : EReal) * w (ix2 (j 1) k) := by
  unfold k0_pay1
  pointwise

variable (m : (ℓ : Loc nD τ sig) → Buf (Elt Ideal) ℓ) (ρ : Dev nD → PrngReg)

/-- The arguments. -/
abbrev argA (c : Dev nD) : Vec Ideal S4096x1024 .bf16 := m ((c.tc : Thread nD τ).loc main_arg0)
abbrev argB (c : Dev nD) : Vec Ideal S3072x1024 .bf16 := m ((c.tc : Thread nD τ).loc main_arg1)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![t.val % 4, 0] :=
  (by decide +kernel : ∀ t : Fin grid0.N, win0_1.index t = ![t.val % 4, 0])
theorem index_2 : ∀ t : Fin cfg0.N, win0_2.index t = ![t.val / 4, t.val % 4] :=
  (by decide +kernel : ∀ t : Fin grid0.N, win0_2.index t = ![t.val / 4, t.val % 4])

/-- A point's block, read from the arrays. -/
theorem out_eq (c : Dev nD) (t : Fin cfg0.N) (j : S1024x768.Idx) (y : S4096x3072.Idx)
    (h0 : (y 0).val = t.val / 4 * 1024 + (j 0).val) (h1 : (y 1).val = t.val % 4 * 768 + (j 1).val) :
    k0_pay1 (iblk m c 0 t) (iblk m c 1 t) j = up (argA m c) (argB m c) y := by
  rw [pay1_apply]
  refine Finset.sum_congr rfl fun k _ => congrArg₂ (· * ·) ?_ ?_
  · blk_ext [iblk, V, index_0 t]
  · blk_ext [iblk, V, index_1 t]

/-- The array ends at the product. -/
theorem final (c : Dev nD) : (dats m 0 c).arrAt 2 cfg0.N = up (argA m c) (argB m c) := by
  refine (dats m 0 c).arrAt_eq_of_covers 2 _ (by decide +kernel) fun t hf y => ?_
  blk_simp
  rw [after0_2]
  frame_out
  exact out_eq m c t _ _ (by blk_simp [index_2 t]) (by blk_simp [index_2 t])

/-- The kernel's run: the result at the product, the arguments kept. -/
theorem run : θ_run defs (onTc (τ := τ) (main (F := Ideal))) ⟨m, fun _ => 0, ρ⟩ fun r => ∀ c : Dev nD,
    r.2.mem ((c.tc : Thread nD τ).loc main_v0) = up (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel12Ideal.Value.run_blocks m ρ)

end Cert.Kernel12Ideal.Hand

namespace Cert.Reference12Ideal.Hand

open Idealize.ShloMosaic Idealize.ShloMosaic.TcCoe Idealize.SL.Sem
open Cert.Reference12Ideal
open Cert.Reference10Ideal.Hand (ix_eq)

variable (m : (ℓ : Loc nD τ sig) → Buf (Elt Ideal) ℓ) (ρ : Dev nD → PrngReg)

/-- The reference's term is the product. -/
theorem value (a : Vec Ideal S4096x1024 .bf16) (b : Vec Ideal S3072x1024 .bf16) :
    Cert.Reference12Ideal.Read.val_main_v4 (F := Ideal) a b = Cert.Kernel12Ideal.Hand.up a b := by
  funext y
  rw [Read.val_main_v4_apply]
  refine (Read.val_main_v3_apply a b _).trans (Finset.sum_congr rfl fun k _ => ?_)
  rw [Read.val_main_v2_apply, Read.val_main_v1_apply, Read.val_main_v0_apply]
  exact congrArg₂ (· * ·) (congrArg a (ix_eq (Read.lidx_main_v3 y k) (y 0) k rfl rfl)) (congrArg b (ix_eq (Read.idx_main_v2 (Read.ridx_main_v3 y k)) (y 1) k rfl rfl))

/-- The reference's run: the result at the product, the arguments kept. -/
theorem run : θ_run defs (onTc (τ := τ) (main (F := Ideal))) ⟨m, fun _ => 0, ρ⟩ fun r => ∀ c : Dev nD,
    r.2.mem ((c.tc : Thread nD τ).loc main_v4)
      = Cert.Kernel12Ideal.Hand.up (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v4_eq _ _)).trans (value _ _), (h c).2⟩) (Cert.Reference12Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference12Ideal.Hand

end
-- ==== Proof.FfnOutReal.lean ====
/-
  The logistic function at the extended reals: half the hyperbolic tangent of half the argument, plus a half.
-/
module

public import Idealize.ShloMosaic.PureOps.Ideal
public import Idealize.ShloMosaic.Lib.Pointwise

@[expose] public section

noncomputable section

namespace Cert.Rms

open Idealize.ShloMosaic

theorem phalf : Ideal.ofBits .f32 0x3F000000#32 = ((1 / 2 : ℝ) : EReal) := by
  simp [Ideal.ofBits, Ideal.ieee]
  rw [← EReal.coe_mul]
  norm_num

theorem one : Ideal.ofBits .f32 0x3F800000#32 = (1 : EReal) := by
  simp [Ideal.ofBits, Ideal.ieee]
  rw [← EReal.coe_mul]
  norm_num

theorem tanh_half (r : ℝ) : (1 / 2) * Real.tanh ((1 / 2) * r) + 1 / 2 = (1 + Real.exp (-r))⁻¹ := by
  have h1 : Real.exp (-r) = Real.exp (-((1 / 2) * r)) * Real.exp (-((1 / 2) * r)) := by
    rw [← Real.exp_add]; congr 1; ring
  have h2 : Real.exp (-((1 / 2) * r)) = (Real.exp ((1 / 2) * r))⁻¹ := Real.exp_neg _
  have hp := Real.exp_pos ((1 / 2) * r)
  rw [Real.tanh_eq_sinh_div_cosh, Real.sinh_eq, Real.cosh_eq, h1, h2]
  field_simp
  ring

theorem sigmoid (x : EReal) : Ideal.ofBits .f32 0x3F000000#32 * Ideal.tanh (Ideal.ofBits .f32 0x3F000000#32 * x) + Ideal.ofBits .f32 0x3F000000#32
    = Ideal.div (Ideal.ofBits .f32 0x3F800000#32) (Ideal.ofBits .f32 0x3F800000#32 + Ideal.exp (-x)) := by
  rw [phalf, one]
  induction x with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot]
    show _ = Ideal.div 1 (1 + ⊤)
    rw [EReal.add_top_of_ne_bot (by decide)]
    unfold Ideal.div
    rw [if_neg (by simp), EReal.inv_top, mul_zero]
    have : ((1 / 2 : ℝ) : EReal) * (-1) + ((1 / 2 : ℝ) : EReal) = ((1 / 2 * (-1) + 1 / 2 : ℝ) : EReal) := by push_cast; rfl
    rw [this]
    norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top]
    show _ = Ideal.div 1 (1 + 0)
    unfold Ideal.div
    rw [add_zero, if_neg (by simp), mul_one, ← EReal.coe_add]
    have : (1 : EReal)⁻¹ = ((1 : ℝ)⁻¹ : ℝ) := by rw [EReal.coe_inv]; rfl
    rw [one_mul, this]
    norm_num
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    have h : (1 : EReal) + ((Real.exp (-r) : ℝ) : EReal) = ((1 + Real.exp (-r) : ℝ) : EReal) := by push_cast; rfl
    have hp : (0 : ℝ) < 1 + Real.exp (-r) := by positivity
    rw [h, ← EReal.coe_mul, ← EReal.coe_add, tanh_half]
    unfold Ideal.div
    rw [if_neg (by exact_mod_cast hp.ne'), one_mul, EReal.coe_inv]

end Cert.Rms

end
-- ==== Proof.FfnOut.lean ====
/-
  The feed-forward block's output: the kernel sums the product of the gated hidden row and the weight over four chunks of 768
  columns, and at a tile's last chunk adds half the normalised sum to the input.
-/
module

public import proofs.«01_k».proof.Proof.FfnInRef
public import proofs.«01_k».proof.Proof.FfnOutReal
public import proofs.«01_k».proof.Proof.Gen.Kernel13Ideal.Value
public import proofs.«01_k».proof.Proof.Gen.Reference13Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel13Ideal.Hand

open Idealize.ShloMosaic Idealize.ShloMosaic.TcCoe Idealize.ShloMosaic.Tactic
open Idealize.SL.Sem
open Idealize.ShloMosaic.Pipeline (Dat Cfg Window)
open Cert.Kernel13Ideal Cert.Kernel13Ideal.Gen
open Cert.Kernel10Ideal.Hand (msq split4)

/-! ### The values -/

/-- The gated hidden entry, as the kernel writes it. -/
def act (g u : EReal) : EReal :=
  g * (Ideal.ofBits .f32 0x3F000000#32 * Ideal.tanh (Ideal.ofBits .f32 0x3F000000#32 * g) + Ideal.ofBits .f32 0x3F000000#32) * u

/-- The product. -/
def f (a b : Vec Ideal S4096x3072 .bf16) (w : Vec Ideal S3072x1024 .bf16) (y : S4096x1024.Idx) : EReal :=
  ∑ k : Fin 3072, act (a (ix2 (y 0) k)) (b (ix2 (y 0) k)) * (w (ix2 k (y 1)) : EReal)

/-- The input and half the normalised row. -/
def res {n : ℕ} (h s : (Shape.mk 2 ![n, 1024]).Idx → EReal) (g : S1x1024.Idx → EReal) (y : (Shape.mk 2 ![n, 1024]).Idx) : EReal :=
  h y + Ideal.ofBits .f32 0x3F000000#32 * (s y * Ideal.rsqrt (msq s (y 0)) * g (ix2 0 (y 1)))

/-- A chunk's product. -/
def part (a b : Vec Ideal S1024x768 .bf16) (w : Vec Ideal S768x1024 .bf16) (j : S1024x1024.Idx) : EReal :=
  ∑ k : Fin 768, act (a (ix2 (j 0) k)) (b (ix2 (j 0) k)) * (w (ix2 k (j 1)) : EReal)

/-! ### The stored terms -/

theorem pay1_apply (a b : Vec Ideal S1024x768 .bf16) (w : Vec Ideal S768x1024 .bf16) (j : S1024x1024.Idx) : k0_pay1 a b w j = part a b w j := by
  unfold k0_pay1 part act
  pointwise

theorem pay2_apply (a b : Vec Ideal S1024x768 .bf16) (w : Vec Ideal S768x1024 .bf16) (v : Vec Ideal S1024x1024 .f32) (j : S1024x1024.Idx) :
    k0_pay2 a b w v j = (v j : EReal) + part a b w j := by
  unfold k0_pay2
  pointwise
  rw [pay1_apply]

theorem pay3_apply (h s : Vec Ideal S1024x1024 .f32) (g : Vec Ideal S1x1024 .f32) (j : S1024x1024.Idx) : k0_pay3 h s g j = res h s g j := by
  unfold k0_pay3 res msq
  pointwise

variable (m : (ℓ : Loc nD τ sig) → Buf (Elt Ideal) ℓ) (ρ : Dev nD → PrngReg)

/-! ### What a point leaves -/

theorem prev_lt (t : Fin cfg0.N) : t.val - 1 < cfg0.N := Nat.lt_of_le_of_lt (Nat.sub_le _ _) t.isLt

theorem acc_first (c : Dev nD) (t : Fin cfg0.N) (h : t.val % 4 = 0) (j : S1024x1024.Idx) :
    (outsAt0 m c t.val t.isLt).2 j = part (iblk m c 1 t) (iblk m c 2 t) (iblk m c 4 t) j := by
  rw [outsAt0_A m c t h (by omega) (by omega)]
  frame_out
  rw [pay1_apply]

theorem acc_next (c : Dev nD) (t : Fin cfg0.N) (h : ¬t.val % 4 = 0) (j : S1024x1024.Idx) :
    (outsAt0 m c t.val t.isLt).2 j
      = (outsAt0 m c (t.val - 1) (prev_lt t)).2 j + part (iblk m c 1 t) (iblk m c 2 t) (iblk m c 4 t) j := by
  by_cases h3 : t.val % 4 = 3
  · rw [outsAt0_C m c t h (by omega) h3]
    frame_out
    rw [pay2_apply]
  · rw [outsAt0_B m c t h (by omega) h3]
    frame_out
    rw [pay2_apply]

theorem out_last (c : Dev nD) (t : Fin cfg0.N) (h : t.val % 4 = 3) (j : S1024x1024.Idx) :
    (outsAt0 m c t.val t.isLt).1 j = res (iblk m c 0 t) ((outsAt0 m c t.val t.isLt).2) (iblk m c 3 t) j := by
  rw [outsAt0_C m c t (by omega) (by omega) h]
  frame_out
  rw [pay3_apply]

/-! ### The blocks and the arrays -/

/-- The arguments. -/
abbrev argH (c : Dev nD) : Vec Ideal S4096x1024 .f32 := m ((c.tc : Thread nD τ).loc main_arg0)
abbrev argA (c : Dev nD) : Vec Ideal S4096x3072 .bf16 := m ((c.tc : Thread nD τ).loc main_arg1)
abbrev argB (c : Dev nD) : Vec Ideal S4096x3072 .bf16 := m ((c.tc : Thread nD τ).loc main_arg2)
abbrev argG (c : Dev nD) : Vec Ideal S1x1024 .f32 := m ((c.tc : Thread nD τ).loc main_arg3)
abbrev argW (c : Dev nD) : Vec Ideal S3072x1024 .bf16 := m ((c.tc : Thread nD τ).loc main_arg4)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![t.val / 4, t.val % 4] :=
  (by decide +kernel : ∀ t : Fin grid0.N, win0_1.index t = ![t.val / 4, t.val % 4])
theorem index_2 : ∀ t : Fin cfg0.N, win0_2.index t = ![t.val / 4, t.val % 4] :=
  (by decide +kernel : ∀ t : Fin grid0.N, win0_2.index t = ![t.val / 4, t.val % 4])
theorem index_3 : ∀ t : Fin cfg0.N, win0_3.index t = ![0, 0] :=
  (by decide +kernel : ∀ t : Fin grid0.N, win0_3.index t = ![0, 0])
theorem index_4 : ∀ t : Fin cfg0.N, win0_4.index t = ![t.val % 4, 0] :=
  (by decide +kernel : ∀ t : Fin grid0.N, win0_4.index t = ![t.val % 4, 0])
theorem index_5 : ∀ t : Fin cfg0.N, win0_5.index t = ![t.val / 4, 0] :=
  (by decide +kernel : ∀ t : Fin grid0.N, win0_5.index t = ![t.val / 4, 0])
theorem index_6 : ∀ t : Fin cfg0.N, win0_6.index t = ![t.val / 4, 0] :=
  (by decide +kernel : ∀ t : Fin grid0.N, win0_6.index t = ![t.val / 4, 0])

/-- The product of the arguments. -/
def fA (c : Dev nD) (y : S4096x1024.Idx) : EReal := f (argA m c) (argB m c) (argW m c) y

/-- A chunk's share of it. -/
def chunk (c : Dev nD) (i : Fin 4) (y : S4096x1024.Idx) : EReal :=
  ∑ k : Fin 768, act (argA m c (ix2 (y 0) ⟨i.val * 768 + k.val, by omega⟩)) (argB m c (ix2 (y 0) ⟨i.val * 768 + k.val, by omega⟩))
    * (argW m c (ix2 ⟨i.val * 768 + k.val, by omega⟩ (y 1)) : EReal)

theorem fA_eq (c : Dev nD) (y : S4096x1024.Idx) : fA m c y = ∑ i : Fin 4, chunk m c i y :=
  split4 768 fun k => act (argA m c (ix2 (y 0) k)) (argB m c (ix2 (y 0) k)) * (argW m c (ix2 k (y 1)) : EReal)

theorem part_eq (c : Dev nD) (t : Fin cfg0.N) (i : Fin 4) (hi : t.val % 4 = i.val) (j : S1024x1024.Idx) (y : S4096x1024.Idx)
    (h0 : (y 0).val = t.val / 4 * 1024 + (j 0).val) (h1 : (y 1).val = (j 1).val) :
    part (iblk m c 1 t) (iblk m c 2 t) (iblk m c 4 t) j = chunk m c i y := by
  obtain ⟨i, hl⟩ := i
  subst hi
  refine Finset.sum_congr rfl fun k _ => congrArg₂ (· * ·) (congrArg₂ act ?_ ?_) ?_
  · blk_ext [iblk, V, index_1 t]
  · blk_ext [iblk, V, index_2 t]
  · blk_ext [iblk, V, index_4 t]

/-- A tile's last point leaves the whole sum in the second result's block. -/
theorem acc_full (c : Dev nD) (t : Fin cfg0.N) (h : t.val % 4 = 3) (j : S1024x1024.Idx) (y : S4096x1024.Idx)
    (h0 : (y 0).val = t.val / 4 * 1024 + (j 0).val) (h1 : (y 1).val = (j 1).val) :
    (outsAt0 m c t.val t.isLt).2 j = fA m c y := by
  have l1 := prev_lt t
  have l2 : t.val - 1 - 1 < cfg0.N := by omega
  have l3 : t.val - 1 - 1 - 1 < cfg0.N := by omega
  rw [acc_next m c t (by omega), acc_next m c ⟨t.val - 1, l1⟩ (by show ¬(t.val - 1) % 4 = 0; omega),
    acc_next m c ⟨t.val - 1 - 1, l2⟩ (by show ¬(t.val - 1 - 1) % 4 = 0; omega), acc_first m c ⟨t.val - 1 - 1 - 1, l3⟩ (by show (t.val - 1 - 1 - 1) % 4 = 0; omega),
    part_eq m c ⟨t.val - 1 - 1 - 1, l3⟩ 0 (by show (t.val - 1 - 1 - 1) % 4 = 0; omega) j y (by show _ = (t.val - 1 - 1 - 1) / 4 * 1024 + _; omega) h1,
    part_eq m c ⟨t.val - 1 - 1, l2⟩ 1 (by show (t.val - 1 - 1) % 4 = 1; omega) j y (by show _ = (t.val - 1 - 1) / 4 * 1024 + _; omega) h1,
    part_eq m c ⟨t.val - 1, l1⟩ 2 (by show (t.val - 1) % 4 = 2; omega) j y (by show _ = (t.val - 1) / 4 * 1024 + _; omega) h1,
    part_eq m c t 3 h j y h0 h1, fA_eq, Fin.sum_univ_four]

theorem h_eq (c : Dev nD) (t : Fin cfg0.N) (j : S1024x1024.Idx) (y : S4096x1024.Idx)
    (h0 : (y 0).val = t.val / 4 * 1024 + (j 0).val) (h1 : (y 1).val = (j 1).val) :
    (iblk m c 0 t : Vec Ideal S1024x1024 .f32) j = argH m c y := by
  blk_ext [iblk, V, index_0 t]

theorem g_eq (c : Dev nD) (t : Fin cfg0.N) (j : S1x1024.Idx) : (iblk m c 3 t : Vec Ideal S1x1024 .f32) j = argG m c j := by
  blk_ext [iblk, V, index_3 t]

theorem sq_eq (c : Dev nD) (t : Fin cfg0.N) (ht : t.val % 4 = 3) (p : Fin 1024) (q : Fin 4096) (h : q.val = t.val / 4 * 1024 + p.val) :
    msq ((outsAt0 m c t.val t.isLt).2) p = msq (fA m c) q := by
  unfold msq
  congr 2
  exact Finset.sum_congr rfl fun k _ => by rw [acc_full m c t ht (ix2 p k) (ix2 q k) h rfl]

/-- What a tile's last point leaves in the first result's block. -/
theorem out_eq (c : Dev nD) (t : Fin cfg0.N) (h : t.val % 4 = 3) (j : S1024x1024.Idx) (y : S4096x1024.Idx)
    (h0 : (y 0).val = t.val / 4 * 1024 + (j 0).val) (h1 : (y 1).val = (j 1).val) :
    (outsAt0 m c t.val t.isLt).1 j = res (argH m c) (fA m c) (argG m c) y := by
  have e1 : y 1 = j 1 := Fin.ext h1
  rw [out_last m c t h]
  unfold res
  rw [h_eq m c t j y h0 h1, sq_eq m c t h (j 0) (y 0) h0, acc_full m c t h j y h0 h1, g_eq, e1]

/-- The results. -/
def resH (c : Dev nD) : Vec Ideal S4096x1024 .f32 := res (argH m c) (fA m c) (argG m c)
def resF (c : Dev nD) : Vec Ideal S4096x1024 .f32 := fA m c

theorem final_5 (c : Dev nD) : (dats m 0 c).arrAt 5 cfg0.N = resH m c := by
  refine (dats m 0 c).arrAt_eq_of_covers 5 _ (by decide +kernel) fun t hf y => ?_
  have h : t.val % 4 = 3 := (flush0_5 t).mp hf
  blk_simp
  rw [after0_5]
  exact out_eq m c t h _ _ (by blk_simp [index_5 t]) (by blk_simp [index_5 t])

theorem final_6 (c : Dev nD) : (dats m 0 c).arrAt 6 cfg0.N = resF m c := by
  refine (dats m 0 c).arrAt_eq_of_covers 6 _ (by decide +kernel) fun t hf y => ?_
  have h : t.val % 4 = 3 := (flush0_6 t).mp hf
  blk_simp
  rw [after0_6]
  exact acc_full m c t h _ _ (by blk_simp [index_6 t]) (by blk_simp [index_6 t])

/-- The kernel's run: the two results, the arguments kept. -/
theorem run : θ_run defs (onTc (τ := τ) (main (F := Ideal))) ⟨m, fun _ => 0, ρ⟩ fun r => ∀ c : Dev nD,
    r.2.mem ((c.tc : Thread nD τ).loc main_v0_0) = resH m c
    ∧ r.2.mem ((c.tc : Thread nD τ).loc main_v0_1) = resF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (final_5 m c), (h c).2.1.trans (final_6 m c), (h c).2.2⟩) (Cert.Kernel13Ideal.Value.run_blocks m ρ)

end Cert.Kernel13Ideal.Hand

namespace Cert.Reference13Ideal.Hand

open Idealize.ShloMosaic Idealize.ShloMosaic.TcCoe Idealize.SL.Sem
open Cert.Reference13Ideal Cert.Reference13Ideal.Read
open Cert.Kernel10Ideal.Hand (msq)
open Cert.Kernel13Ideal.Hand (act f res)
open Cert.Reference10Ideal.Hand (ix_eq zero)

variable (x0 : Vec Ideal S4096x1024 .f32) (x1 x2 : Vec Ideal S4096x3072 .bf16) (x3 : Vec Ideal S1x1024 .f32) (x4 : Vec Ideal S3072x1024 .bf16)

/-- The gated hidden entry. -/
theorem act_ref (i : S4096x3072.Idx) : val_main_v3 (F := Ideal) x1 x2 i = act (x1 i) (x2 i) := by
  rw [val_main_v3_apply, val_main_v1_apply, val_main_call0_v5_apply, val_main_call0_v4_apply, val_main_call0_cst_0_apply, val_main_call0_v3_apply, val_main_call0_v2_apply,
    val_main_call0_cst_apply, val_main_call0_v1_apply, val_main_call0_v0_apply, val_main_v0_apply, val_main_v2_apply]
  unfold act
  rw [Cert.Rms.sigmoid]
  rfl

/-- The product. -/
theorem f_ref : val_main_v5 (F := Ideal) x1 x2 x4 = f x1 x2 x4 := by
  funext i
  rw [val_main_v5_apply]
  unfold f
  refine Finset.sum_congr rfl fun k _ => ?_
  rw [act_ref, val_main_v4_apply, ix_eq (lidx_main_v5 i k) (i 0) k rfl rfl, ix_eq (ridx_main_v5 i k) k (i 1) rfl rfl]
  rfl

theorem sq_ref (i : S4096x1.Idx) : val_main_v12 (F := Ideal) x1 x2 x4 i = msq (f x1 x2 x4) (i 0) := by
  rw [val_main_v12_apply, val_main_v10_apply, val_main_v8_apply, val_main_v7_apply, val_main_cst_apply, zero, zero_add, val_main_v9_apply, val_main_cst_0_apply, val_main_v11_apply, val_main_cst_1_apply]
  unfold msq
  refine congrArg (fun s : EReal => Ideal.div s (Ideal.ofBits .f32 0x44800000#32) + Ideal.ofBits .f32 0x358637BD#32) (Finset.sum_congr rfl fun k _ => ?_)
  rw [val_main_v6_apply, f_ref, ix_eq (idx_main_v7 (idx_main_v8 i) k) (i 0) k rfl rfl]
  rfl

/-- The input and half the normalised row. -/
theorem res_ref : val_main_v20 (F := Ideal) x0 x1 x2 x3 x4 = res x0 (f x1 x2 x4) x3 := by
  funext i
  rw [val_main_v20_apply, val_main_v19_apply, val_main_v18_apply, val_main_cst_2_apply, val_main_v17_apply, val_main_v16_apply, val_main_v15_apply, val_main_v14_apply, val_main_v13_apply,
    sq_ref, f_ref, ix_eq (idx_main_v16 i) 0 (i 1) rfl rfl]
  rfl

variable (m : (ℓ : Loc nD τ sig) → Buf (Elt Ideal) ℓ) (ρ : Dev nD → PrngReg)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems rfl r.2⟩) (Cert.Reference13Ideal.Value.run m ρ)

end Cert.Reference13Ideal.Hand

end
-- ==== Proof.MixerIn.lean ====
/-
  The mixer's projections: each point normalises 512 rows, keeps them, and multiplies them by the weight, whose columns it
  stores in five parts.
-/
module

public import proofs.«01_k».proof.Proof.FfnInRef
public import proofs.«01_k».proof.Proof.Gen.Kernel14Ideal.Value
public import proofs.«01_k».proof.Proof.Gen.Reference14Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel14Ideal.Hand

open Idealize.ShloMosaic Idealize.ShloMosaic.TcCoe Idealize.ShloMosaic.Tactic
open Idealize.SL.Sem
open Idealize.ShloMosaic.Pipeline (Dat Cfg Window)
open Cert.Kernel14Ideal Cert.Kernel14Ideal.Gen
open Cert.Kernel10Ideal.Hand (msq)

/-! ### The values -/

/-- The normalised rows. -/
def nrm {n : ℕ} (h : (Shape.mk 2 ![n, 1024]).Idx → EReal) (g : S1x1024.Idx → EReal) (y : (Shape.mk 2 ![n, 1024]).Idx) : EReal :=
  h y * Ideal.rsqrt (msq h (y 0)) * g (ix2 0 (y 1))

/-- Their product with the weight, at a row and one of its 1792 columns. -/
def proj {n : ℕ} (h : (Shape.mk 2 ![n, 1024]).Idx → EReal) (g : S1x1024.Idx → EReal) (w : S1792x1024.Idx → EReal) (p : Fin n) (q : Fin 1792) : EReal :=
  ∑ k : Fin 1024, nrm h g (ix2 p k) * w (ix2 q k)

/-! ### The stored terms -/

theorem pay1_apply (h : Vec Ideal S512x1024 .f32) (g : Vec Ideal S1x1024 .f32) (j : S512x1024.Idx) : k0_pay1 h g j = nrm h g j := by
  unfold k0_pay1 nrm msq
  pointwise

theorem pay2_apply (h : Vec Ideal S512x1024 .f32) (g : Vec Ideal S1x1024 .f32) (w : Vec Ideal S1792x1024 .bf16) (j : S512x1792.Idx) :
    k0_pay2 h g w j = proj h g w (j 0) (j 1) := by
  unfold k0_pay2 proj
  pointwise
  simp only [pay1_apply]

theorem pay3_apply (h : Vec Ideal S512x1024 .f32) (g : Vec Ideal S1x1024 .f32) (w : Vec Ideal S1792x1024 .bf16) (j : S512x512.Idx) :
    k0_pay3 h g w j = proj h g w (j 0) ⟨0 + (j 1).val, by have : (j 1).val < 512 := (j 1).isLt; omega⟩ := by
  unfold k0_pay3
  refine (extractStridedSlice_apply _ _ _ j (ix2 (j 0) ⟨0 + (j 1).val, by have : (j 1).val < 512 := (j 1).isLt; omega⟩) (fun a => match a with
    | ⟨0, _⟩ => by show (j 0).val = 0 + (j 0).val; omega
    | ⟨1, _⟩ => by show 0 + (j 1).val = 0 + (j 1).val; omega)).trans ?_
  exact pay2_apply h g w _

theorem pay4_apply (h : Vec Ideal S512x1024 .f32) (g : Vec Ideal S1x1024 .f32) (w : Vec Ideal S1792x1024 .bf16) (j : S512x512.Idx) :
    k0_pay4 h g w j = proj h g w (j 0) ⟨512 + (j 1).val, by have : (j 1).val < 512 := (j 1).isLt; omega⟩ := by
  unfold k0_pay4
  refine (extractStridedSlice_apply _ _ _ j (ix2 (j 0) ⟨512 + (j 1).val, by have : (j 1).val < 512 := (j 1).isLt; omega⟩) (fun a => match a with
    | ⟨0, _⟩ => by show (j 0).val = 0 + (j 0).val; omega
    | ⟨1, _⟩ => by show 512 + (j 1).val = 512 + (j 1).val; omega)).trans ?_
  exact pay2_apply h g w _

theorem pay5_apply (h : Vec Ideal S512x1024 .f32) (g : Vec Ideal S1x1024 .f32) (w : Vec Ideal S1792x1024 .bf16) (j : S512x384.Idx) :
    k0_pay5 h g w j = proj h g w (j 0) ⟨1024 + (j 1).val, by have : (j 1).val < 384 := (j 1).isLt; omega⟩ := by
  unfold k0_pay5
  refine (extractStridedSlice_apply _ _ _ j (ix2 (j 0) ⟨1024 + (j 1).val, by have : (j 1).val < 384 := (j 1).isLt; omega⟩) (fun a => match a with
    | ⟨0, _⟩ => by show (j 0).val = 0 + (j 0).val; omega
    | ⟨1, _⟩ => by show 1024 + (j 1).val = 1024 + (j 1).val; omega)).trans ?_
  exact pay2_apply h g w _

theorem pay6_apply (h : Vec Ideal S512x1024 .f32) (g : Vec Ideal S1x1024 .f32) (w : Vec Ideal S1792x1024 .bf16) (j : S512x256.Idx) :
    k0_pay6 h g w j = proj h g w (j 0) ⟨1408 + (j 1).val, by have : (j 1).val < 256 := (j 1).isLt; omega⟩ := by
  unfold k0_pay6
  refine (extractStridedSlice_apply _ _ _ j (ix2 (j 0) ⟨1408 + (j 1).val, by have : (j 1).val < 256 := (j 1).isLt; omega⟩) (fun a => match a with
    | ⟨0, _⟩ => by show (j 0).val = 0 + (j 0).val; omega
    | ⟨1, _⟩ => by show 1408 + (j 1).val = 1408 + (j 1).val; omega)).trans ?_
  exact pay2_apply h g w _

theorem pay7_apply (h : Vec Ideal S512x1024 .f32) (g : Vec Ideal S1x1024 .f32) (w : Vec Ideal S1792x1024 .bf16) (j : S512x128.Idx) :
    k0_pay7 h g w j = proj h g w (j 0) ⟨1664 + (j 1).val, by have : (j 1).val < 128 := (j 1).isLt; omega⟩ := by
  unfold k0_pay7
  refine (extractStridedSlice_apply _ _ _ j (ix2 (j 0) ⟨1664 + (j 1).val, by have : (j 1).val < 128 := (j 1).isLt; omega⟩) (fun a => match a with
    | ⟨0, _⟩ => by show (j 0).val = 0 + (j 0).val; omega
    | ⟨1, _⟩ => by show 1664 + (j 1).val = 1664 + (j 1).val; omega)).trans ?_
  exact pay2_apply h g w _

variable (m : (ℓ : Loc nD τ sig) → Buf (Elt Ideal) ℓ) (ρ : Dev nD → PrngReg)

/-! ### The blocks and the arrays -/

/-- The arguments. -/
abbrev argH (c : Dev nD) : Vec Ideal S4096x1024 .f32 := m ((c.tc : Thread nD τ).loc main_arg0)
abbrev argG (c : Dev nD) : Vec Ideal S1x1024 .f32 := m ((c.tc : Thread nD τ).loc main_arg1)
abbrev argW (c : Dev nD) : Vec Ideal S1792x1024 .bf16 := m ((c.tc : Thread nD τ).loc main_arg2)

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![t.val, 0] :=
  (by decide +kernel : ∀ t : Fin grid0.N, win0_3.index t = ![t.val, 0])
theorem index_4 : ∀ t : Fin cfg0.N, win0_4.index t = ![t.val, 0] :=
  (by decide +kernel : ∀ t : Fin grid0.N, win0_4.index t = ![t.val, 0])
theorem index_5 : ∀ t : Fin cfg0.N, win0_5.index t = ![t.val, 0] :=
  (by decide +kernel : ∀ t : Fin grid0.N, win0_5.index t = ![t.val, 0])
theorem index_6 : ∀ t : Fin cfg0.N, win0_6.index t = ![t.val, 0] :=
  (by decide +kernel : ∀ t : Fin grid0.N, win0_6.index t = ![t.val, 0])
theorem index_7 : ∀ t : Fin cfg0.N, win0_7.index t = ![t.val, 0] :=
  (by decide +kernel : ∀ t : Fin grid0.N, win0_7.index t = ![t.val, 0])
theorem index_8 : ∀ t : Fin cfg0.N, win0_8.index t = ![t.val, 0] :=
  (by decide +kernel : ∀ t : Fin grid0.N, win0_8.index t = ![t.val, 0])

theorem h_eq (c : Dev nD) (t : Fin cfg0.N) (j : S512x1024.Idx) (y : S4096x1024.Idx)
    (h0 : (y 0).val = t.val * 512 + (j 0).val) (h1 : (y 1).val = (j 1).val) :
    (iblk m c 0 t : Vec Ideal S512x1024 .f32) j = argH m c y := by
  blk_ext [iblk, V, index_0 t]

theorem g_eq (c : Dev nD) (t : Fin cfg0.N) (j : S1x1024.Idx) : (iblk m c 1 t : Vec Ideal S1x1024 .f32) j = argG m c j := by
  blk_ext [iblk, V, index_1 t]

theorem w_eq (c : Dev nD) (t : Fin cfg0.N) (j : S1792x1024.Idx) : (iblk m c 2 t : Vec Ideal S1792x1024 .bf16) j = argW m c j := by
  blk_ext [iblk, V, index_2 t]

theorem sq_eq (c : Dev nD) (t : Fin cfg0.N) (p : Fin 512) (q : Fin 4096) (h : q.val = t.val * 512 + p.val) :
    msq (iblk m c 0 t : Vec Ideal S512x1024 .f32) p = msq (argH m c) q := by
  unfold msq
  congr 2
  exact Finset.sum_congr rfl fun k _ => by rw [h_eq m c t (ix2 p k) (ix2 q k) h rfl]

theorem nrm_eq (c : Dev nD) (t : Fin cfg0.N) (j : S512x1024.Idx) (y : S4096x1024.Idx)
    (h0 : (y 0).val = t.val * 512 + (j 0).val) (h1 : (y 1).val = (j 1).val) :
    nrm (iblk m c 0 t : Vec Ideal S512x1024 .f32) (iblk m c 1 t : Vec Ideal S1x1024 .f32) j = nrm (argH m c) (argG m c) y := by
  have e1 : y 1 = j 1 := Fin.ext h1
  unfold nrm
  rw [h_eq m c t j y h0 h1, sq_eq m c t (j 0) (y 0) h0, g_eq, e1]

theorem proj_eq (c : Dev nD) (t : Fin cfg0.N) (p : Fin 512) (q : Fin 4096) (r r' : Fin 1792) (h : q.val = t.val * 512 + p.val) (hr : r'.val = r.val) :
    proj (iblk m c 0 t : Vec Ideal S512x1024 .f32) (iblk m c 1 t : Vec Ideal S1x1024 .f32) (iblk m c 2 t : Vec Ideal S1792x1024 .bf16) p r = proj (argH m c) (argG m c) (argW m c) q r' := by
  obtain rfl : r' = r := Fin.ext hr
  exact Finset.sum_congr rfl fun k _ => congrArg₂ (· * ·) (nrm_eq m c t (ix2 p k) (ix2 q k) h rfl) (w_eq m c t _)

/-- What a point leaves in the first result's block. -/
theorem out_3 (c : Dev nD) (t : Fin cfg0.N) (j : S512x1024.Idx) (y : S4096x1024.Idx)
    (h0 : (y 0).val = t.val * 512 + (j 0).val) (h1 : (y 1).val = (j 1).val) :
    k0_pay1 (iblk m c 0 t) (iblk m c 1 t) j = nrm (argH m c) (argG m c) y :=
  (pay1_apply _ _ j).trans (nrm_eq m c t j y h0 h1)

/-- The results. -/
def res3 (c : Dev nD) : Vec Ideal S4096x1024 .bf16 := nrm (argH m c) (argG m c)
def res4 (c : Dev nD) : Vec Ideal S4096x512 .f32 := fun y => proj (argH m c) (argG m c) (argW m c) (y 0) ⟨0 + (y 1).val, by have : (y 1).val < 512 := (y 1).isLt; omega⟩
def res5 (c : Dev nD) : Vec Ideal S4096x512 .f32 := fun y => proj (argH m c) (argG m c) (argW m c) (y 0) ⟨512 + (y 1).val, by have : (y 1).val < 512 := (y 1).isLt; omega⟩
def res6 (c : Dev nD) : Vec Ideal S4096x384 .f32 := fun y => proj (argH m c) (argG m c) (argW m c) (y 0) ⟨1024 + (y 1).val, by have : (y 1).val < 384 := (y 1).isLt; omega⟩
def res7 (c : Dev nD) : Vec Ideal S4096x256 .f32 := fun y => proj (argH m c) (argG m c) (argW m c) (y 0) ⟨1408 + (y 1).val, by have : (y 1).val < 256 := (y 1).isLt; omega⟩
def res8 (c : Dev nD) : Vec Ideal S4096x128 .f32 := fun y => proj (argH m c) (argG m c) (argW m c) (y 0) ⟨1664 + (y 1).val, by have : (y 1).val < 128 := (y 1).isLt; omega⟩

theorem out_4 (c : Dev nD) (t : Fin cfg0.N) (j : S512x512.Idx) (y : S4096x512.Idx)
    (h0 : (y 0).val = t.val * 512 + (j 0).val) (h1 : (y 1).val = (j 1).val) :
    k0_pay3 (iblk m c 0 t) (iblk m c 1 t) (iblk m c 2 t) j = res4 m c y :=
  (pay3_apply _ _ _ j).trans (proj_eq m c t (j 0) (y 0) _ _ h0 (by show 0 + (y 1).val = 0 + (j 1).val; omega))

theorem out_5 (c : Dev nD) (t : Fin cfg0.N) (j : S512x512.Idx) (y : S4096x512.Idx)
    (h0 : (y 0).val = t.val * 512 + (j 0).val) (h1 : (y 1).val = (j 1).val) :
    k0_pay4 (iblk m c 0 t) (iblk m c 1 t) (iblk m c 2 t) j = res5 m c y :=
  (pay4_apply _ _ _ j).trans (proj_eq m c t (j 0) (y 0) _ _ h0 (by show 512 + (y 1).val = 512 + (j 1).val; omega))

theorem out_6 (c : Dev nD) (t : Fin cfg0.N) (j : S512x384.Idx) (y : S4096x384.Idx)
    (h0 : (y 0).val = t.val * 512 + (j 0).val) (h1 : (y 1).val = (j 1).val) :
    k0_pay5 (iblk m c 0 t) (iblk m c 1 t) (iblk m c 2 t) j = res6 m c y :=
  (pay5_apply _ _ _ j).trans (proj_eq m c t (j 0) (y 0) _ _ h0 (by show 1024 + (y 1).val = 1024 + (j 1).val; omega))

theorem out_7 (c : Dev nD) (t : Fin cfg0.N) (j : S512x256.Idx) (y : S4096x256.Idx)
    (h0 : (y 0).val = t.val * 512 + (j 0).val) (h1 : (y 1).val = (j 1).val) :
    k0_pay6 (iblk m c 0 t) (iblk m c 1 t) (iblk m c 2 t) j = res7 m c y :=
  (pay6_apply _ _ _ j).trans (proj_eq m c t (j 0) (y 0) _ _ h0 (by show 1408 + (y 1).val = 1408 + (j 1).val; omega))

theorem out_8 (c : Dev nD) (t : Fin cfg0.N) (j : S512x128.Idx) (y : S4096x128.Idx)
    (h0 : (y 0).val = t.val * 512 + (j 0).val) (h1 : (y 1).val = (j 1).val) :
    k0_pay7 (iblk m c 0 t) (iblk m c 1 t) (iblk m c 2 t) j = res8 m c y :=
  (pay7_apply _ _ _ j).trans (proj_eq m c t (j 0) (y 0) _ _ h0 (by show 1664 + (y 1).val = 1664 + (j 1).val; omega))

theorem final_3 (c : Dev nD) : (dats m 0 c).arrAt 3 cfg0.N = res3 m c := by
  refine (dats m 0 c).arrAt_eq_of_covers 3 _ (by decide +kernel) fun t hf y => ?_
  blk_simp
  rw [after0_3]
  frame_out
  exact out_3 m c t _ _ (by blk_simp [index_3 t]) (by blk_simp [index_3 t])

theorem final_4 (c : Dev nD) : (dats m 0 c).arrAt 4 cfg0.N = res4 m c := by
  refine (dats m 0 c).arrAt_eq_of_covers 4 _ (by decide +kernel) fun t hf y => ?_
  blk_simp
  rw [after0_4]
  frame_out
  exact out_4 m c t _ _ (by blk_simp [index_4 t]) (by blk_simp [index_4 t])

theorem final_5 (c : Dev nD) : (dats m 0 c).arrAt 5 cfg0.N = res5 m c := by
  refine (dats m 0 c).arrAt_eq_of_covers 5 _ (by decide +kernel) fun t hf y => ?_
  blk_simp
  rw [after0_5]
  frame_out
  exact out_5 m c t _ _ (by blk_simp [index_5 t]) (by blk_simp [index_5 t])

theorem final_6 (c : Dev nD) : (dats m 0 c).arrAt 6 cfg0.N = res6 m c := by
  refine (dats m 0 c).arrAt_eq_of_covers 6 _ (by decide +kernel) fun t hf y => ?_
  blk_simp
  rw [after0_6]
  frame_out
  exact out_6 m c t _ _ (by blk_simp [index_6 t]) (by blk_simp [index_6 t])

theorem final_7 (c : Dev nD) : (dats m 0 c).arrAt 7 cfg0.N = res7 m c := by
  refine (dats m 0 c).arrAt_eq_of_covers 7 _ (by decide +kernel) fun t hf y => ?_
  blk_simp
  rw [after0_7]
  frame_out
  exact out_7 m c t _ _ (by blk_simp [index_7 t]) (by blk_simp [index_7 t])

theorem final_8 (c : Dev nD) : (dats m 0 c).arrAt 8 cfg0.N = res8 m c := by
  refine (dats m 0 c).arrAt_eq_of_covers 8 _ (by decide +kernel) fun t hf y => ?_
  blk_simp
  rw [after0_8]
  frame_out
  exact out_8 m c t _ _ (by blk_simp [index_8 t]) (by blk_simp [index_8 t])

/-- The kernel's run: the six results, the arguments kept. -/
theorem run : θ_run defs (onTc (τ := τ) (main (F := Ideal))) ⟨m, fun _ => 0, ρ⟩ fun r => ∀ c : Dev nD,
    r.2.mem ((c.tc : Thread nD τ).loc main_v0_0) = res3 m c
    ∧ r.2.mem ((c.tc : Thread nD τ).loc main_v0_1) = res4 m c
    ∧ r.2.mem ((c.tc : Thread nD τ).loc main_v0_2) = res5 m c
    ∧ r.2.mem ((c.tc : Thread nD τ).loc main_v0_3) = res6 m c
    ∧ r.2.mem ((c.tc : Thread nD τ).loc main_v0_4) = res7 m c
    ∧ r.2.mem ((c.tc : Thread nD τ).loc main_v0_5) = res8 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (final_3 m c), (h c).2.1.trans (final_4 m c), (h c).2.2.1.trans (final_5 m c), (h c).2.2.2.1.trans (final_6 m c),
    (h c).2.2.2.2.1.trans (final_7 m c), (h c).2.2.2.2.2.1.trans (final_8 m c), (h c).2.2.2.2.2.2⟩) (Cert.Kernel14Ideal.Value.run_blocks m ρ)

end Cert.Kernel14Ideal.Hand

namespace Cert.Reference14Ideal.Hand

open Idealize.ShloMosaic Idealize.ShloMosaic.TcCoe Idealize.SL.Sem
open Cert.Reference14Ideal Cert.Reference14Ideal.Read
open Cert.Kernel10Ideal.Hand (msq)
open Cert.Kernel14Ideal.Hand (nrm proj)
open Cert.Reference10Ideal.Hand (ix_eq zero)

variable (x0 : Vec Ideal S4096x1024 .f32) (x1 : Vec Ideal S1x1024 .f32) (x2 : Vec Ideal S1792x1024 .bf16)

theorem sq_ref (i : S4096x1.Idx) : val_main_v6 (F := Ideal) x0 i = msq x0 (i 0) := by
  rw [val_main_v6_apply, val_main_v4_apply, val_main_v2_apply, val_main_v1_apply, val_main_cst_apply, zero, zero_add, val_main_v3_apply, val_main_cst_0_apply, val_main_v5_apply, val_main_cst_1_apply]
  unfold msq
  refine congrArg (fun s : EReal => Ideal.div s (Ideal.ofBits .f32 0x44800000#32) + Ideal.ofBits .f32 0x358637BD#32) (Finset.sum_congr rfl fun k _ => ?_)
  rw [val_main_v0_apply, ix_eq (idx_main_v1 (idx_main_v2 i) k) (i 0) k rfl rfl]
  rfl

theorem nrm_ref (i : S4096x1024.Idx) : val_main_v11 (F := Ideal) x0 x1 i = nrm x0 x1 i := by
  rw [val_main_v11_apply, val_main_v9_apply, val_main_v8_apply, val_main_v7_apply, sq_ref, val_main_v10_apply, ix_eq (idx_main_v10 i) 0 (i 1) rfl rfl]
  rfl

theorem nrm16_ref : val_main_v15 (F := Ideal) x0 x1 = nrm x0 x1 := by
  funext i
  rw [val_main_v15_apply, nrm_ref]
  rfl

theorem proj_ref (i : S4096x1792.Idx) : val_main_v14 (F := Ideal) x0 x1 x2 i = proj x0 x1 x2 (i 0) (i 1) := by
  rw [val_main_v14_apply]
  unfold proj
  refine Finset.sum_congr rfl fun k _ => ?_
  rw [nrm_ref, val_main_v13_apply, val_main_v12_apply, ix_eq (lidx_main_v14 i k) (i 0) k rfl rfl, ix_eq (idx_main_v13 (ridx_main_v14 i k)) (i 1) k rfl rfl]
  rfl

theorem part3_ref : val_main_v16 (F := Ideal) x0 x1 x2 = fun y => proj x0 x1 x2 (y 0) ⟨0 + (y 1).val, by have : (y 1).val < 512 := (y 1).isLt; omega⟩ := by
  funext i
  rw [val_main_v16_apply, proj_ref]
  exact congrArg (proj x0 x1 x2 (i 0)) (Fin.ext (by show _ = 0 + (i 1).val; simp))

theorem part4_ref : val_main_v17 (F := Ideal) x0 x1 x2 = fun y => proj x0 x1 x2 (y 0) ⟨512 + (y 1).val, by have : (y 1).val < 512 := (y 1).isLt; omega⟩ := by
  funext i
  rw [val_main_v17_apply, proj_ref]
  exact congrArg (proj x0 x1 x2 (i 0)) (Fin.ext (by show _ = 512 + (i 1).val; simp))

theorem part5_ref : val_main_v18 (F := Ideal) x0 x1 x2 = fun y => proj x0 x1 x2 (y 0) ⟨1024 + (y 1).val, by have : (y 1).val < 384 := (y 1).isLt; omega⟩ := by
  funext i
  rw [val_main_v18_apply, proj_ref]
  exact congrArg (proj x0 x1 x2 (i 0)) (Fin.ext (by show _ = 1024 + (i 1).val; simp))

theorem part6_ref : val_main_v19 (F := Ideal) x0 x1 x2 = fun y => proj x0 x1 x2 (y 0) ⟨1408 + (y 1).val, by have : (y 1).val < 256 := (y 1).isLt; omega⟩ := by
  funext i
  rw [val_main_v19_apply, proj_ref]
  exact congrArg (proj x0 x1 x2 (i 0)) (Fin.ext (by show _ = 1408 + (i 1).val; simp))

theorem part7_ref : val_main_v20 (F := Ideal) x0 x1 x2 = fun y => proj x0 x1 x2 (y 0) ⟨1664 + (y 1).val, by have : (y 1).val < 128 := (y 1).isLt; omega⟩ := by
  funext i
  rw [val_main_v20_apply, proj_ref]
  exact congrArg (proj x0 x1 x2 (i 0)) (Fin.ext (by show _ = 1664 + (i 1).val; simp))

variable (m : (ℓ : Loc nD τ sig) → Buf (Elt Ideal) ℓ) (ρ : Dev nD → PrngReg)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2.2.2.2.2, sem_eq_zero_of_no_sems rfl r.2⟩) (Cert.Reference14Ideal.Value.run m ρ)

end Cert.Reference14Ideal.Hand

end
-- ==== Proof.DwIn.lean ====
/-
  The gradient of the weight of the mixer's input product, the product of two arrays summed over the tokens: the
  kernel sums two halves of 2048 tokens, the reference all 4096 at once.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel4Ideal.Hand

open Idealize.ShloMosaic Idealize.ShloMosaic.TcCoe Idealize.ShloMosaic.Tactic
open Idealize.SL.Sem
open Idealize.ShloMosaic.Pipeline (Dat Cfg Window)
open Cert.Kernel4Ideal Cert.Kernel4Ideal.Gen

/-- The gradient: the sum over the tokens. -/
def grad (a : Vec Ideal S4096x1792 .bf16) (b : Vec Ideal S4096x1024 .bf16) : Vec Ideal S1792x1024 .bf16 :=
  fun y => ∑ k : Fin 4096, (a (ix2 k (y 0)) : EReal) * b (ix2 k (y 1))

/-- One half's product. -/
def half (x : Vec Ideal S2048x896 .bf16) (y : Vec Ideal S2048x1024 .bf16) (j : S896x1024.Idx) : EReal :=
  ∑ k : Fin 2048, (x (ix2 k (j 0)) : EReal) * y (ix2 k (j 1))

theorem pay1_apply (j : S896x1024.Idx) : (k0_pay1 (F := Ideal)) j = (0 : EReal) := by
  unfold k0_pay1
  pointwise

theorem pay2_apply (v : Vec Ideal S896x1024 .f32) (x : Vec Ideal S2048x896 .bf16) (y : Vec Ideal S2048x1024 .bf16) (j : S896x1024.Idx) :
    k0_pay2 v x y j = (v j : EReal) + half x y j := by
  unfold k0_pay2 half
  pointwise

theorem pay3_apply (v : Vec Ideal S896x1024 .f32) (j : S896x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x1792 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S896x1024.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S896x1024.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S896x1024.Idx) (y : S1792x1024.Idx)
    (h0 : (y 0).val = t.val / 2 * 896 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 4 := lt_of_lt_of_eq t.isLt (show cfg0.N = 4 from N_0)
  have h : t.val % 2 = 1 := (flush0_2 t).mp hf
  blk_simp
  rw [after0_2, out_odd m c t h]
  have e0 : ((((cfg0.win 2).blk t).view.emb y) 0 : ℕ) = t.val / 2 * 896 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 896 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel4Ideal.Value.run_blocks m ρ)

end Cert.Kernel4Ideal.Hand

namespace Cert.Reference4Ideal.Hand

open Idealize.ShloMosaic Idealize.ShloMosaic.TcCoe Idealize.SL.Sem
open Cert.Reference4Ideal

variable (m : (ℓ : Loc nD τ sig) → Buf (Elt Ideal) ℓ) (ρ : Dev nD → PrngReg)

/-- The reference's term is the gradient. -/
theorem value (a : Vec Ideal S4096x1792 .bf16) (b : Vec Ideal S4096x1024 .bf16) :
    Cert.Reference4Ideal.Read.val_main_v5 (F := Ideal) a b = Cert.Kernel4Ideal.Hand.grad a b := by
  funext y
  rw [Read.val_main_v5_apply, Read.val_main_v4_apply, Read.val_main_v3_apply]
  refine (Read.val_main_v2_apply a b _).trans (Finset.sum_congr rfl fun k _ => ?_)
  congr 2
  · funext d
    match d with
    | ⟨0, _⟩ => rfl
    | ⟨1, _⟩ => rfl
  · funext d
    match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v5)
      = Cert.Kernel4Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v5_eq _ _)).trans (value _ _), (h c).2⟩) (Cert.Reference4Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference4Ideal.Hand

end
-- ==== Proof.DwOutLru.lean ====
/-
  The gradient of the weight of the mixer's output product, the recurrence's rows, the product of two arrays summed
  over the tokens: the kernel sums two halves of 2048 tokens, the reference all 4096 at once.
-/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel5Ideal.Hand

open Idealize.ShloMosaic Idealize.ShloMosaic.TcCoe Idealize.ShloMosaic.Tactic
open Idealize.SL.Sem
open Idealize.ShloMosaic.Pipeline (Dat Cfg Window)
open Cert.Kernel5Ideal Cert.Kernel5Ideal.Gen

/-- The gradient: the sum over the tokens. -/
def grad (a : Vec Ideal S4096x512 .bf16) (b : Vec Ideal S4096x1024 .bf16) : Vec Ideal S512x1024 .bf16 :=
  fun y => ∑ k : Fin 4096, (a (ix2 k (y 0)) : EReal) * b (ix2 k (y 1))

/-- One half's product. -/
def half (x : Vec Ideal S2048x512 .bf16) (y : Vec Ideal S2048x1024 .bf16) (j : S512x1024.Idx) : EReal :=
  ∑ k : Fin 2048, (x (ix2 k (j 0)) : EReal) * y (ix2 k (j 1))

theorem pay1_apply (j : S512x1024.Idx) : (k0_pay1 (F := Ideal)) j = (0 : EReal) := by
  unfold k0_pay1
  pointwise

theorem pay2_apply (v : Vec Ideal S512x1024 .f32) (x : Vec Ideal S2048x512 .bf16) (y : Vec Ideal S2048x1024 .bf16) (j : S512x1024.Idx) :
    k0_pay2 v x y j = (v j : EReal) + half x y j := by
  unfold k0_pay2 half
  pointwise

theorem pay3_apply (v : Vec Ideal S512x1024 .f32) (j : S512x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x512 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S512x1024.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S512x1024.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S512x1024.Idx) (y : S512x1024.Idx)
    (h0 : (y 0).val = t.val / 2 * 512 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 2 := lt_of_lt_of_eq t.isLt (show cfg0.N = 2 from N_0)
  have h : t.val % 2 = 1 := (flush0_2 t).mp hf
  blk_simp
  rw [after0_2, out_odd m c t h]
  have e0 : ((((cfg0.win 2).blk t).view.emb y) 0 : ℕ) = t.val / 2 * 512 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 512 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel5Ideal.Value.run_blocks m ρ)

end Cert.Kernel5Ideal.Hand

namespace Cert.Reference5Ideal.Hand

open Idealize.ShloMosaic Idealize.ShloMosaic.TcCoe Idealize.SL.Sem
open Cert.Reference5Ideal

variable (m : (ℓ : Loc nD τ sig) → Buf (Elt Ideal) ℓ) (ρ : Dev nD → PrngReg)

/-- The reference's term is the gradient. -/
theorem value (a : Vec Ideal S4096x512 .bf16) (b : Vec Ideal S4096x1024 .bf16) :
    Cert.Reference5Ideal.Read.val_main_v4 (F := Ideal) a b = Cert.Kernel5Ideal.Hand.grad a b := by
  funext y
  rw [Read.val_main_v4_apply, Read.val_main_v3_apply]
  refine (Read.val_main_v2_apply a b _).trans (Finset.sum_congr rfl fun k _ => (mul_comm _ _).trans ?_)
  refine congrArg₂ (fun p q : EReal => p * q) (congrArg a (funext fun d => ?_)) (congrArg b (funext fun d => ?_))
  · match d with
    | ⟨0, _⟩ => rfl
    | ⟨1, _⟩ => rfl
  · match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v4)
      = Cert.Kernel5Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v4_eq _ _)).trans (value _ _), (h c).2⟩) (Cert.Reference5Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference5Ideal.Hand

end
-- ==== Proof.DwOutMla.lean ====
/-
  The gradient of the weight of the mixer's output product, attention's rows, the product of two arrays summed over
  the tokens: the kernel sums two halves of 2048 tokens, the reference all 4096 at once.
-/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel6Ideal.Hand

open Idealize.ShloMosaic Idealize.ShloMosaic.TcCoe Idealize.ShloMosaic.Tactic
open Idealize.SL.Sem
open Idealize.ShloMosaic.Pipeline (Dat Cfg Window)
open Cert.Kernel6Ideal Cert.Kernel6Ideal.Gen

/-- The gradient: the sum over the tokens. -/
def grad (a : Vec Ideal S4096x1024 .bf16) (b : Vec Ideal S4096x1024 .bf16) : Vec Ideal S1024x1024 .bf16 :=
  fun y => ∑ k : Fin 4096, (a (ix2 k (y 0)) : EReal) * b (ix2 k (y 1))

/-- One half's product. -/
def half (x : Vec Ideal S2048x1024 .bf16) (y : Vec Ideal S2048x1024 .bf16) (j : S1024x1024.Idx) : EReal :=
  ∑ k : Fin 2048, (x (ix2 k (j 0)) : EReal) * y (ix2 k (j 1))

theorem pay1_apply (j : S1024x1024.Idx) : (k0_pay1 (F := Ideal)) j = (0 : EReal) := by
  unfold k0_pay1
  pointwise

theorem pay2_apply (v : Vec Ideal S1024x1024 .f32) (x : Vec Ideal S2048x1024 .bf16) (y : Vec Ideal S2048x1024 .bf16) (j : S1024x1024.Idx) :
    k0_pay2 v x y j = (v j : EReal) + half x y j := by
  unfold k0_pay2 half
  pointwise

theorem pay3_apply (v : Vec Ideal S1024x1024 .f32) (j : S1024x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x1024 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S1024x1024.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S1024x1024.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S1024x1024.Idx) (y : S1024x1024.Idx)
    (h0 : (y 0).val = t.val / 2 * 1024 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 2 := lt_of_lt_of_eq t.isLt (show cfg0.N = 2 from N_0)
  have h : t.val % 2 = 1 := (flush0_2 t).mp hf
  blk_simp
  rw [after0_2, out_odd m c t h]
  have e0 : ((((cfg0.win 2).blk t).view.emb y) 0 : ℕ) = t.val / 2 * 1024 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 1024 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel6Ideal.Value.run_blocks m ρ)

end Cert.Kernel6Ideal.Hand

namespace Cert.Reference6Ideal.Hand

open Idealize.ShloMosaic Idealize.ShloMosaic.TcCoe Idealize.SL.Sem
open Cert.Reference6Ideal

variable (m : (ℓ : Loc nD τ sig) → Buf (Elt Ideal) ℓ) (ρ : Dev nD → PrngReg)

/-- The reference's term is the gradient. -/
theorem value (a : Vec Ideal S4096x1024 .bf16) (b : Vec Ideal S4096x1024 .bf16) :
    Cert.Reference6Ideal.Read.val_main_v4 (F := Ideal) a b = Cert.Kernel6Ideal.Hand.grad a b := by
  funext y
  rw [Read.val_main_v4_apply, Read.val_main_v3_apply]
  refine (Read.val_main_v2_apply a b _).trans (Finset.sum_congr rfl fun k _ => (mul_comm _ _).trans ?_)
  refine congrArg₂ (fun p q : EReal => p * q) (congrArg a (funext fun d => ?_)) (congrArg b (funext fun d => ?_))
  · match d with
    | ⟨0, _⟩ => rfl
    | ⟨1, _⟩ => rfl
  · match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v4)
      = Cert.Kernel6Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v4_eq _ _)).trans (value _ _), (h c).2⟩) (Cert.Reference6Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference6Ideal.Hand

end
-- ==== Proof.DwQb.lean ====
/-
  The gradient of the weight of attention's query product, the product of two arrays summed over the tokens: the
  kernel sums two halves of 2048 tokens, the reference all 4096 at once.
-/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel7Ideal.Hand

open Idealize.ShloMosaic Idealize.ShloMosaic.TcCoe Idealize.ShloMosaic.Tactic
open Idealize.SL.Sem
open Idealize.ShloMosaic.Pipeline (Dat Cfg Window)
open Cert.Kernel7Ideal Cert.Kernel7Ideal.Gen

/-- The gradient: the sum over the tokens. -/
def grad (a : Vec Ideal S4096x1024 .bf16) (b : Vec Ideal S4096x384 .bf16) : Vec Ideal S1024x384 .bf16 :=
  fun y => ∑ k : Fin 4096, (a (ix2 k (y 0)) : EReal) * b (ix2 k (y 1))

/-- One half's product. -/
def half (x : Vec Ideal S2048x1024 .bf16) (y : Vec Ideal S2048x384 .bf16) (j : S1024x384.Idx) : EReal :=
  ∑ k : Fin 2048, (x (ix2 k (j 0)) : EReal) * y (ix2 k (j 1))

theorem pay1_apply (j : S1024x384.Idx) : (k0_pay1 (F := Ideal)) j = (0 : EReal) := by
  unfold k0_pay1
  pointwise

theorem pay2_apply (v : Vec Ideal S1024x384 .f32) (x : Vec Ideal S2048x1024 .bf16) (y : Vec Ideal S2048x384 .bf16) (j : S1024x384.Idx) :
    k0_pay2 v x y j = (v j : EReal) + half x y j := by
  unfold k0_pay2 half
  pointwise

theorem pay3_apply (v : Vec Ideal S1024x384 .f32) (j : S1024x384.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x1024 .bf16 := m ((c.tc : Thread nD τ).loc main_arg0)
abbrev argB (c : Dev nD) : Vec Ideal S4096x384 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S1024x384.Idx) :
    (outsAt0 m c t.val t.isLt).2 j = half (iblk m c 0 t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S1024x384.Idx) :
    (outsAt0 m c t.val t.isLt).1 j
      = (outsAt0 m c (t.val - 1) (Nat.lt_of_le_of_lt (Nat.sub_le _ _) t.isLt)).2 j + half (iblk m c 0 t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S1024x384.Idx) (y : S1024x384.Idx)
    (h0 : (y 0).val = t.val / 2 * 1024 + (j 0).val) (h1 : (y 1).val = (j 1).val) :
    half (iblk m c 0 t) (iblk m c 1 t) j
      = ∑ k : Fin 2048, (argA m c (ix2 ⟨t.val % 2 * 2048 + k.val, by omega⟩ (y 0)) : EReal)
          * argB m c (ix2 ⟨t.val % 2 * 2048 + k.val, by omega⟩ (y 1)) := by
  refine Finset.sum_congr rfl fun k _ => ?_
  congr 1
  · blk_ext [iblk, V, index_0 t]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 2 := lt_of_lt_of_eq t.isLt (show cfg0.N = 2 from N_0)
  have h : t.val % 2 = 1 := (flush0_2 t).mp hf
  blk_simp
  rw [after0_2, out_odd m c t h]
  have e0 : ((((cfg0.win 2).blk t).view.emb y) 0 : ℕ) = t.val / 2 * 1024 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 1024 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (z 0)) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel7Ideal.Value.run_blocks m ρ)

end Cert.Kernel7Ideal.Hand

namespace Cert.Reference7Ideal.Hand

open Idealize.ShloMosaic Idealize.ShloMosaic.TcCoe Idealize.SL.Sem
open Cert.Reference7Ideal

variable (m : (ℓ : Loc nD τ sig) → Buf (Elt Ideal) ℓ) (ρ : Dev nD → PrngReg)

/-- The reference's term is the gradient. -/
theorem value (a : Vec Ideal S4096x1024 .bf16) (b : Vec Ideal S4096x384 .bf16) :
    Cert.Reference7Ideal.Read.val_main_v5 (F := Ideal) a b = Cert.Kernel7Ideal.Hand.grad a b := by
  funext y
  rw [Read.val_main_v5_apply, Read.val_main_v4_apply, Read.val_main_v3_apply]
  refine (Read.val_main_v2_apply a b _).trans (Finset.sum_congr rfl fun k _ => ?_)
  congr 2
  · funext d
    match d with
    | ⟨0, _⟩ => rfl
    | ⟨1, _⟩ => rfl
  · funext d
    match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v5)
      = Cert.Kernel7Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v5_eq _ _)).trans (value _ _), (h c).2⟩) (Cert.Reference7Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference7Ideal.Hand

end
-- ==== Proof.DwKvb.lean ====
/-
  The gradient of the weight of attention's key or value product, the product of two arrays summed over the tokens:
  the kernel sums two halves of 2048 tokens, the reference all 4096 at once. Of the first array only the first 256
  columns enter.
-/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel8Ideal.Hand

open Idealize.ShloMosaic Idealize.ShloMosaic.TcCoe Idealize.ShloMosaic.Tactic
open Idealize.SL.Sem
open Idealize.ShloMosaic.Pipeline (Dat Cfg Window)
open Cert.Kernel8Ideal Cert.Kernel8Ideal.Gen

/-- A column among the first 256, as a column of the first array. -/
def col (j : Fin 256) : Fin 384 := ⟨j.val, by omega⟩

/-- The gradient: the sum over the tokens. -/
def grad (a : Vec Ideal S4096x384 .bf16) (b : Vec Ideal S4096x1024 .bf16) : Vec Ideal S256x1024 .bf16 :=
  fun y => ∑ k : Fin 4096, (a (ix2 k (col (y 0))) : EReal) * b (ix2 k (y 1))

/-- One half's product. -/
def half (x : Vec Ideal S2048x256 .bf16) (y : Vec Ideal S2048x1024 .bf16) (j : S256x1024.Idx) : EReal :=
  ∑ k : Fin 2048, (x (ix2 k (j 0)) : EReal) * y (ix2 k (j 1))

theorem pay1_apply (j : S256x1024.Idx) : (k0_pay1 (F := Ideal)) j = (0 : EReal) := by
  unfold k0_pay1
  pointwise

theorem pay2_apply (v : Vec Ideal S256x1024 .f32) (x : Vec Ideal S2048x256 .bf16) (y : Vec Ideal S2048x1024 .bf16) (j : S256x1024.Idx) :
    k0_pay2 v x y j = (v j : EReal) + half x y j := by
  unfold k0_pay2 half
  pointwise

theorem pay3_apply (v : Vec Ideal S256x1024 .f32) (j : S256x1024.Idx) : k0_pay3 v j = (v j : EReal) := by
  unfold k0_pay3
  pointwise

variable (m : (ℓ : Loc nD τ sig) → Buf (Elt Ideal) ℓ) (ρ : Dev nD → PrngReg)

/-- The arguments. -/
abbrev argA (c : Dev nD) : Vec Ideal S4096x384 .bf16 := m ((c.tc : Thread nD τ).loc main_arg0)
abbrev argB (c : Dev nD) : Vec Ideal S4096x1024 .bf16 := m ((c.tc : Thread nD τ).loc main_arg1)

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

/-- What an even point leaves in the accumulator. -/
theorem acc_even (c : Dev nD) (t : Fin cfg0.N) (h : t.val % 2 = 0) (j : S256x1024.Idx) :
    (outsAt0 m c t.val t.isLt).2 j = half (X0_0 m c t) (iblk m c 1 t) j := by
  rw [outsAt0_A m c t h (by omega)]
  frame_out
  rw [pay2_apply, pay1_apply, zero_add]

/-- What an odd point leaves in the result's block. -/
theorem out_odd (c : Dev nD) (t : Fin cfg0.N) (h : t.val % 2 = 1) (j : S256x1024.Idx) :
    (outsAt0 m c t.val t.isLt).1 j
      = (outsAt0 m c (t.val - 1) (Nat.lt_of_le_of_lt (Nat.sub_le _ _) t.isLt)).2 j + half (X0_0 m c t) (iblk m c 1 t) j := by
  rw [outsAt0_B m c t (by omega) h]
  frame_out
  simp only [read_unread_whole]
  rw [pay3_apply, pay2_apply]

/-- A point's half of the sum, read from the arrays. -/
theorem half_eq (c : Dev nD) (t : Fin cfg0.N) (j : S256x1024.Idx) (y : S256x1024.Idx)
    (h0 : (y 0).val = t.val / 2 * 256 + (j 0).val) (h1 : (y 1).val = (j 1).val) :
    half (X0_0 m c t) (iblk m c 1 t) j
      = ∑ k : Fin 2048, (argA m c (ix2 ⟨t.val % 2 * 2048 + k.val, by omega⟩ (col (y 0))) : EReal)
          * argB m c (ix2 ⟨t.val % 2 * 2048 + k.val, by omega⟩ (y 1)) := by
  refine Finset.sum_congr rfl fun k _ => ?_
  congr 1
  · unfold X0_0 Pipeline.Window.fill
    rw [dif_pos (moved0_0 t _)]
    blk_ext [iblk, V, index_0 t, col]
  · blk_ext [iblk, V, index_1 t]

/-- The array ends at the gradient. -/
theorem final (c : Dev nD) : (dats m 0 c).arrAt 2 cfg0.N = grad (argA m c) (argB m c) := by
  refine (dats m 0 c).arrAt_eq_of_covers 2 _ (by decide +kernel) fun t hf y => ?_
  have ht : t.val < 2 := lt_of_lt_of_eq t.isLt (show cfg0.N = 2 from N_0)
  have h : t.val % 2 = 1 := (flush0_2 t).mp hf
  blk_simp
  rw [after0_2, out_odd m c t h]
  have e0 : ((((cfg0.win 2).blk t).view.emb y) 0 : ℕ) = t.val / 2 * 256 + (y 0).val := by blk_simp [index_2 t]
  have e1 : ((((cfg0.win 2).blk t).view.emb y) 1 : ℕ) = (y 1).val := by blk_simp [index_2 t]
  rw [acc_even m c ⟨t.val - 1, Nat.lt_of_le_of_lt (Nat.sub_le _ _) t.isLt⟩ (by show (t.val - 1) % 2 = 0; omega),
    half_eq m c ⟨t.val - 1, Nat.lt_of_le_of_lt (Nat.sub_le _ _) t.isLt⟩ _ (((cfg0.win 2).blk t).view.emb y) (by rw [e0]; show _ = (t.val - 1) / 2 * 256 + _; rw [show (t.val - 1) / 2 = t.val / 2 by omega]) e1,
    half_eq m c t _ (((cfg0.win 2).blk t).view.emb y) e0 e1]
  unfold grad
  generalize ((cfg0.win 2).blk t).view.emb y = z
  rw [← Fin.sum_congr' (fun k : Fin (2048 + 2048) => (argA m c (ix2 ⟨k.val, by omega⟩ (col (z 0))) : EReal) * argB m c (ix2 ⟨k.val, by omega⟩ (z 1))) rfl, Fin.sum_univ_add]
  congr 1
  · refine Finset.sum_congr rfl fun k _ => ?_
    have e : (t.val - 1) % 2 * 2048 + k.val = (Fin.castAdd 2048 k).val := by
      show _ = k.val; rw [show (t.val - 1) % 2 = 0 by omega, Nat.zero_mul, Nat.zero_add]
    simp only [e, Fin.val_cast]
  · refine Finset.sum_congr rfl fun k _ => ?_
    have e : t.val % 2 * 2048 + k.val = (Fin.natAdd 2048 k).val := by
      show _ = 2048 + k.val; rw [h, Nat.one_mul]
    simp only [e, Fin.val_cast]

/-- The kernel's run: the result at the gradient, the arguments kept. -/
theorem run : θ_run defs (onTc (τ := τ) (main (F := Ideal))) ⟨m, fun _ => 0, ρ⟩ fun r => ∀ c : Dev nD,
    r.2.mem ((c.tc : Thread nD τ).loc main_v0) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Cert.Kernel8Ideal.Value.run_blocks m ρ)

end Cert.Kernel8Ideal.Hand

namespace Cert.Reference8Ideal.Hand

open Idealize.ShloMosaic Idealize.ShloMosaic.TcCoe Idealize.SL.Sem
open Cert.Reference8Ideal

variable (m : (ℓ : Loc nD τ sig) → Buf (Elt Ideal) ℓ) (ρ : Dev nD → PrngReg)

/-- The reference's term is the gradient. -/
theorem value (a : Vec Ideal S4096x384 .bf16) (b : Vec Ideal S4096x1024 .bf16) :
    Cert.Reference8Ideal.Read.val_main_v5 (F := Ideal) a b = Cert.Kernel8Ideal.Hand.grad a b := by
  funext y
  rw [Read.val_main_v5_apply, Read.val_main_v4_apply]
  refine (Read.val_main_v3_apply a b _).trans (Finset.sum_congr rfl fun k _ => (mul_comm _ _).trans ?_)
  rw [Read.val_main_v1_apply, Read.val_main_v0_apply]
  refine congrArg₂ (fun p q : EReal => p * q) (congrArg a (funext fun d => ?_)) (congrArg b (funext fun d => ?_))
  · match d with
    | ⟨0, _⟩ => rfl
    | ⟨1, _⟩ => rfl
  · match d with
    | ⟨0, _⟩ => rfl
    | ⟨1, _⟩ => rfl

/-- The reference's run: the result at the gradient, the arguments kept. -/
theorem run : θ_run defs (onTc (τ := τ) (main (F := Ideal))) ⟨m, fun _ => 0, ρ⟩ fun r => ∀ c : Dev nD,
    r.2.mem ((c.tc : Thread nD τ).loc main_v5)
      = Cert.Kernel8Ideal.Hand.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1.trans (Read.val_main_v5_eq _ _)).trans (value _ _), (h c).2⟩) (Cert.Reference8Ideal.Value.run m ρ)

/-- It stops, keeps its arguments, and leaves no counter raised. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Reference8Ideal.Hand

end
-- ==== Proof.AttnRun.lean ====
/-
  The run of the backward pass of attention: the kernel's body at a grid point.
-/
module

public import proofs.«01_k».proof.Proof.Gen.Kernel3Ideal.Frame
public import proofs.«01_k».proof.Proof.Gen.Kernel3Ideal.Loops
public import proofs.«01_k».proof.Proof.Gen.Kernel3Ideal.Skeleton
public import Idealize.ShloMosaic.Lib.Pipeline.FrameBody
public import Idealize.ShloMosaic.Lib.VecWindow
public import Idealize.ShloMosaic.Lib.WordCmp
public import Idealize.ShloMosaic.Lib.Pointwise.Index

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

abbrev first (i : grid0.Coords) : Prop := (Scalar.cmpi .ne (Scalar.extui (Scalar.cmpi .eq (BitVec.ofNat 32 (i 1).val) 0#32)) 0#32) = 1#1

open VecWindow (window put)

/-! ## What the body computes -/

/-- The gradient of the queries, and the accumulated gradients of a block of keys and of their values. -/
abbrev St (F : FTy → Type) := Vec F S4096x128 .f32 × Vec F S512x128 .f32 × Vec F S512x128 .f32

section
variable (i : grid0.Coords) (q : Vec F S4096x128 .bf16) (k v : Vec F S512x128 .bf16) (do_ : Vec F S4096x128 .bf16) (lse : Vec F S1x1x4096 .f32) (dl : Vec F S1x4096 .f32)

/-- One trip of the loop: a tile of 1024 queries none of which is masked. -/
def trip (t : Fin (k0_t1_loop i).trips) (s : St F) : St F :=
  let q1 : Vec F S1024x128 .bf16 := window q (k0_off7 i t) S1024x128.size (k0_off7_inb i t)
  let o1 : Vec F S1024x128 .bf16 := window do_ (k0_off7 i t) S1024x128.size (k0_off7_inb i t)
  let l1 : Vec F S1x1x1024 .f32 := window lse (k0_off8 i t) S1x1x1024.size (k0_off8_inb i t)
  let d1 : Vec F S1x1024 .f32 := window dl (k0_off9 i t) S1x1024.size (k0_off9_inb i t)
  (put s.1 (k0_off7 i t) S1024x128.size (k0_pay1 k (k0_pay34 k v q1 o1 l1 d1) (window s.1 (k0_off7 i t) S1024x128.size (k0_off7_inb i t))),
    k0_pay35 k v q1 o1 l1 d1 s.2.1, k0_pay33 k q1 o1 l1 s.2.2)

/-- The trips before the `n`-th. -/
def iter (s : St F) : ℕ → St F
  | 0 => s
  | n + 1 => if h : n < (k0_t1_loop i).trips then trip i q k v do_ lse dl ⟨n, h⟩ (iter s n) else iter s n

/-- The diagonal tile where it has 1024 queries, -/
def wide (h : k0_cond2 i = 1#1) (s : St F) : St F :=
  let q1 : Vec F S1024x128 .bf16 := window q (k0_off1 i) S1024x128.size (k0_off1_inb i h)
  let o1 : Vec F S1024x128 .bf16 := window do_ (k0_off1 i) S1024x128.size (k0_off1_inb i h)
  let l1 : Vec F S1x1x1024 .f32 := window lse (k0_off2 i) S1x1x1024.size (k0_off2_inb i h)
  let d1 : Vec F S1x1024 .f32 := window dl (k0_off3 i) S1x1024.size (k0_off3_inb i h)
  (put s.1 (k0_off1 i) S1024x128.size (k0_pay44 k (k0_pay22 v o1 (k0_pay16 k q1) k0_pay17 (iota .tc S512x1024 32 [1] iota_S512x1024_d1_w32) 64#32 k0_pay18 k0_pay19 0#32 l1 d1) (window s.1 (k0_off1 i) S1024x128.size (k0_off1_inb i h))),
    k0_pay43 (k0_pay23 v q1 o1 (k0_pay16 k q1) k0_pay17 (iota .tc S512x1024 32 [1] iota_S512x1024_d1_w32) 64#32 k0_pay18 k0_pay19 0#32 l1 d1 s.2.1),
    k0_pay21 o1 (k0_pay16 k q1) k0_pay17 (iota .tc S512x1024 32 [1] iota_S512x1024_d1_w32) 64#32 k0_pay18 k0_pay19 0#32 l1 s.2.2)

/-- and where it has 512. -/
def narrow (h : k0_cond3 i = 1#1) (s : St F) : St F :=
  let q1 : Vec F S512x128 .bf16 := window q (k0_off4 i) S512x128.size (k0_off4_inb i h)
  let o1 : Vec F S512x128 .bf16 := window do_ (k0_off4 i) S512x128.size (k0_off4_inb i h)
  let l1 : Vec F S1x1x512 .f32 := window lse (k0_off5 i) S1x1x512.size (k0_off5_inb i h)
  let d1 : Vec F S1x512 .f32 := window dl (k0_off6 i) S1x512.size (k0_off6_inb i h)
  (put s.1 (k0_off4 i) S512x128.size (k0_pay46 k (k0_pay30 v o1 (k0_pay24 k q1) k0_pay25 (iota .tc S512x512 32 [1] iota_S512x512_d1_w32) 64#32 k0_pay26 k0_pay27 0#32 l1 d1) (window s.1 (k0_off4 i) S512x128.size (k0_off4_inb i h))),
    k0_pay45 (k0_pay31 v q1 o1 (k0_pay24 k q1) k0_pay25 (iota .tc S512x512 32 [1] iota_S512x512_d1_w32) 64#32 k0_pay26 k0_pay27 0#32 l1 d1 s.2.1),
    k0_pay29 o1 (k0_pay24 k q1) k0_pay25 (iota .tc S512x512 32 [1] iota_S512x512_d1_w32) 64#32 k0_pay26 k0_pay27 0#32 l1 s.2.2)

end

/-! ## Reading buffers -/

theorem ld_whole {s : Shape} {e : EltTy} (M : Memref sig .tc .vmem s e) (hM : M.IsWhole) (x : Vec F s e) {off : Fin s.rank → ℕ} (inb : ∀ a, off a + s.size a ≤ s.size a) :
    M.view.readAt (Elt F) (Rect.unit (s := s) off s.size inb).toLoadRect (hM.unread x) = x := by
  rw [View.readAt_full, hM.read_unread]

theorem ld_win {s : Shape} {e : EltTy} (M : Memref sig .tc .vmem s e) (hM : M.IsWhole) (x : Vec F s e) {off size : Fin s.rank → ℕ} (inb : ∀ a, off a + size a ≤ s.size a) :
    M.view.readAt (Elt F) (Rect.unit (s := s) off size inb).toLoadRect (hM.unread x) = window x off size inb := by
  rw [View.readAt_unit _ _ inb rfl inb, hM.read_unread]

theorem trips2 (i : grid0.Coords) : (k0_t2_loop i).trips = 0 := Nat.le_zero.mp (k0_t2_abs i).2.1

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S1x4096 .f32) (harg13 : arg13.IsWhole)

/-- One trip's stores, at any contents. -/
theorem tripL_eq (k v : Vec F S512x128 .bf16) (a1 v23 : BitVec 32) (t : Fin (k0_t1_loop i).trips)
    (X2 : BufTy.Contents (Elt F) arg2.view.ty) (X6 : BufTy.Contents (Elt F) arg6.view.ty) (X7 : BufTy.Contents (Elt F) arg7.view.ty) (X13 : BufTy.Contents (Elt F) arg13.view.ty)
    (f8 : BufTy.Contents (Elt F) arg8.view.ty) (f11 : BufTy.Contents (Elt F) arg11.view.ty) (f12 : BufTy.Contents (Elt F) arg12.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 a1 k v v23 X2 X6 X7 X13 t f8 f11 f12
      = (let q1 := arg2.view.readAt (Elt F) (Rect.unit (s := S4096x128) (k0_off7 i t) S1024x128.size (k0_off7_inb i t)).toLoadRect X2
         let o1 := arg6.view.readAt (Elt F) (Rect.unit (s := S4096x128) (k0_off7 i t) S1024x128.size (k0_off7_inb i t)).toLoadRect X6
         let l1 := arg7.view.readAt (Elt F) (Rect.unit (s := S1x1x4096) (k0_off8 i t) S1x1x1024.size (k0_off8_inb i t)).toLoadRect X7
         let d1 := arg13.view.readAt (Elt F) (Rect.unit (s := S1x4096) (k0_off9 i t) S1x1024.size (k0_off9_inb i t)).toLoadRect X13
         ([⟨Rect.unit (s := S4096x128) (k0_off7 i t) S1024x128.size (k0_off7_inb i t), k0_pay1 k (k0_pay34 k v q1 o1 l1 d1) (arg8.view.readAt (Elt F) (Rect.unit (s := S4096x128) (k0_off7 i t) S1024x128.size (k0_off7_inb i t)).toLoadRect f8)⟩],
          [⟨Rect.unit (s := S512x128) ![0, 0] S512x128.size inb_S512x128_S512x128_0_0, k0_pay35 k v q1 o1 l1 d1 (arg11.view.readAt (Elt F) (Rect.unit (s := S512x128) ![0, 0] S512x128.size inb_S512x128_S512x128_0_0).toLoadRect f11)⟩],
          [⟨Rect.unit (s := S512x128) ![0, 0] S512x128.size inb_S512x128_S512x128_0_0, k0_pay33 k q1 o1 l1 (arg12.view.readAt (Elt F) (Rect.unit (s := S512x128) ![0, 0] S512x128.size inb_S512x128_S512x128_0_0).toLoadRect f12)⟩])) := by
  unfold tripL_k0_t1 trip_k0_t1
  dsimp only
  sl_unfold_words
  rfl

/-- The trips before the `n`-th leave what the recursion says. -/
theorem read_pb (q : Vec F S4096x128 .bf16) (k v : Vec F S512x128 .bf16) (do_ : Vec F S4096x128 .bf16) (lse : Vec F S1x1x4096 .f32) (dl : Vec F S1x4096 .f32) (a1 v23 : BitVec 32) (s : St F)
    (g8 : BufTy.Contents (Elt F) arg8.view.ty) (g11 : BufTy.Contents (Elt F) arg11.view.ty) (g12 : BufTy.Contents (Elt F) arg12.view.ty)
    (h8 : arg8.view.read (Elt F) g8 = s.1) (h11 : arg11.view.read (Elt F) g11 = s.2.1) (h12 : arg12.view.read (Elt F) g12 = s.2.2) (n : ℕ) (hn : n ≤ (k0_t1_loop i).trips) :
    let L := pb_k0_t1 (F := F) Variants.none c none i arg2 harg2 arg3 harg3 arg4 harg4 arg5 harg5 arg6 harg6 arg7 harg7 arg8 harg8 arg9 harg9 arg10 harg10 arg11 harg11 arg12 harg12 arg13 harg13 a1 k v v23 (harg2.unread q) (harg6.unread do_) (harg7.unread lse) (harg13.unread dl) g8 g11 g12 n
    arg8.view.read (Elt F) (arg8.view.writes (Elt F) g8 L.1) = (iter i q k v do_ lse dl s n).1
      ∧ arg11.view.read (Elt F) (arg11.view.writes (Elt F) g11 L.2.1) = (iter i q k v do_ lse dl s n).2.1
      ∧ arg12.view.read (Elt F) (arg12.view.writes (Elt F) g12 L.2.2) = (iter i q k v do_ lse dl s n).2.2 := by
  induction n with
  | zero => exact ⟨h8, h11, h12⟩
  | succ n ih =>
    obtain ⟨i8, i11, i12⟩ := ih (Nat.le_of_succ_le hn)
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 a1 k v v23 (harg2.unread q) (harg6.unread do_) (harg7.unread lse) (harg13.unread dl) g8 g11 g12 ⟨n, hn⟩
    rw [tripL_eq] at e
    dsimp only at e ⊢
    rw [show iter i q k v do_ lse dl s (n + 1) = trip i q k v do_ lse dl ⟨n, hn⟩ (iter i q k v do_ lse dl s n) from dif_pos hn]
    rw [e]
    refine ⟨?_, ?_, ?_⟩ <;> dsimp only
    · rw [List.singleton_append, View.read_writes_cons_put _ _ _ _ _ rfl]
      rw [View.readAt_unit arg8.view _ _ rfl (k0_off7_inb i ⟨n, hn⟩), i8]
      simp only [ld_win]
      rfl
    · rw [List.singleton_append, View.read_writes_full, View.readAt_full, i11]
      simp only [ld_win]
      rfl
    · rw [List.singleton_append, View.read_writes_full, View.readAt_full, i12]
      simp only [ld_win]
      rfl

/-- The second loop makes no trip. -/
theorem pb2_nil (a1 : BitVec 32) (k v : Vec F S512x128 .bf16) (v23 v51 : BitVec 32)
    (X2 : BufTy.Contents (Elt F) arg2.view.ty) (X6 : BufTy.Contents (Elt F) arg6.view.ty) (X7 : BufTy.Contents (Elt F) arg7.view.ty) (X13 : BufTy.Contents (Elt F) arg13.view.ty)
    (f8 : BufTy.Contents (Elt F) arg8.view.ty) (f11 : BufTy.Contents (Elt F) arg11.view.ty) (f12 : BufTy.Contents (Elt F) arg12.view.ty) :
    pb_k0_t2 (F := F) Variants.none c none i arg2 harg2 arg3 harg3 arg4 harg4 arg5 harg5 arg6 harg6 arg7 harg7 arg8 harg8 arg9 harg9 arg10 harg10 arg11 harg11 arg12 harg12 arg13 harg13 a1 k v v23 v51 X2 X6 X7 X13 f8 f11 f12 (Scf.trips (k0_t2_loop i).lb (k0_t2_loop i).ub (k0_t2_loop i).st) = ([], [], []) := by
  rw [show Scf.trips (k0_t2_loop i).lb (k0_t2_loop i).ub (k0_t2_loop i).st = 0 from trips2 i]
  rfl

/-- What both loops leave, after the stores `L8`, `L11`, `L12`. -/
theorem read_after (q : Vec F S4096x128 .bf16) (k v : Vec F S512x128 .bf16) (do_ : Vec F S4096x128 .bf16) (lse : Vec F S1x1x4096 .f32) (dl : Vec F S1x4096 .f32) (a1 v23 v51 : BitVec 32) (s : St F)
    (g8 : BufTy.Contents (Elt F) arg8.view.ty) (g11 : BufTy.Contents (Elt F) arg11.view.ty) (g12 : BufTy.Contents (Elt F) arg12.view.ty)
    (L8 : List (View.Piece (Elt F) S4096x128 .f32)) (L11 L12 : List (View.Piece (Elt F) S512x128 .f32))
    (X13 : BufTy.Contents (Elt F) arg13.view.ty) (hX13 : arg13.view.read (Elt F) X13 = dl)
    (h8 : arg8.view.read (Elt F) (arg8.view.writes (Elt F) g8 L8) = s.1) (h11 : arg11.view.read (Elt F) (arg11.view.writes (Elt F) g11 L11) = s.2.1) (h12 : arg12.view.read (Elt F) (arg12.view.writes (Elt F) g12 L12) = s.2.2) :
    let p := pb_k0_t1 (F := F) Variants.none c none i arg2 harg2 arg3 harg3 arg4 harg4 arg5 harg5 arg6 harg6 arg7 harg7 arg8 harg8 arg9 harg9 arg10 harg10 arg11 harg11 arg12 harg12 arg13 harg13 a1 k v v23 (harg2.unread q) (harg6.unread do_) (harg7.unread lse) X13 (arg8.view.writes (Elt F) g8 L8) (arg11.view.writes (Elt F) g11 L11) (arg12.view.writes (Elt F) g12 L12) (Scf.trips (k0_t1_loop i).lb (k0_t1_loop i).ub (k0_t1_loop i).st)
    arg8.view.read (Elt F) (arg8.view.writes (Elt F) g8 ((pb_k0_t2 (F := F) Variants.none c none i arg2 harg2 arg3 harg3 arg4 harg4 arg5 harg5 arg6 harg6 arg7 harg7 arg8 harg8 arg9 harg9 arg10 harg10 arg11 harg11 arg12 harg12 arg13 harg13 a1 k v v23 v51 (harg2.unread q) (harg6.unread do_) (harg7.unread lse) X13 (arg8.view.writes (Elt F) g8 (p.1 ++ L8)) (arg11.view.writes (Elt F) g11 (p.2.1 ++ L11)) (arg12.view.writes (Elt F) g12 (p.2.2 ++ L12)) (Scf.trips (k0_t2_loop i).lb (k0_t2_loop i).ub (k0_t2_loop i).st)).1 ++ (p.1 ++ L8))) = (iter i q k v do_ lse dl s (k0_t1_loop i).trips).1
      ∧ arg11.view.read (Elt F) (arg11.view.writes (Elt F) g11 ((pb_k0_t2 (F := F) Variants.none c none i arg2 harg2 arg3 harg3 arg4 harg4 arg5 harg5 arg6 harg6 arg7 harg7 arg8 harg8 arg9 harg9 arg10 harg10 arg11 harg11 arg12 harg12 arg13 harg13 a1 k v v23 v51 (harg2.unread q) (harg6.unread do_) (harg7.unread lse) X13 (arg8.view.writes (Elt F) g8 (p.1 ++ L8)) (arg11.view.writes (Elt F) g11 (p.2.1 ++ L11)) (arg12.view.writes (Elt F) g12 (p.2.2 ++ L12)) (Scf.trips (k0_t2_loop i).lb (k0_t2_loop i).ub (k0_t2_loop i).st)).2.1 ++ (p.2.1 ++ L11))) = (iter i q k v do_ lse dl s (k0_t1_loop i).trips).2.1
      ∧ arg12.view.read (Elt F) (arg12.view.writes (Elt F) g12 ((pb_k0_t2 (F := F) Variants.none c none i arg2 harg2 arg3 harg3 arg4 harg4 arg5 harg5 arg6 harg6 arg7 harg7 arg8 harg8 arg9 harg9 arg10 harg10 arg11 harg11 arg12 harg12 arg13 harg13 a1 k v v23 v51 (harg2.unread q) (harg6.unread do_) (harg7.unread lse) X13 (arg8.view.writes (Elt F) g8 (p.1 ++ L8)) (arg11.view.writes (Elt F) g11 (p.2.1 ++ L11)) (arg12.view.writes (Elt F) g12 (p.2.2 ++ L12)) (Scf.trips (k0_t2_loop i).lb (k0_t2_loop i).ub (k0_t2_loop i).st)).2.2 ++ (p.2.2 ++ L12))) = (iter i q k v do_ lse dl s (k0_t1_loop i).trips).2.2 := by
  obtain rfl := harg13.eq_unread hX13
  intro p
  rw [pb2_nil]
  have e := read_pb c i arg2 harg2 arg3 harg3 arg4 harg4 arg5 harg5 arg6 harg6 arg7 harg7 arg8 harg8 arg9 harg9 arg10 harg10 arg11 harg11 arg12 harg12 arg13 harg13 q k v do_ lse dl a1 v23 s _ _ _ h8 h11 h12 (k0_t1_loop i).trips (le_refl _)
  refine ⟨?_, ?_, ?_⟩
  · show arg8.view.read (Elt F) (arg8.view.writes (Elt F) g8 (p.1 ++ L8)) = _
    rw [View.writes_append]; exact e.1
  · show arg11.view.read (Elt F) (arg11.view.writes (Elt F) g11 (p.2.1 ++ L11)) = _
    rw [View.writes_append]; exact e.2.1
  · show arg12.view.read (Elt F) (arg12.view.writes (Elt F) g12 (p.2.2 ++ L12)) = _
    rw [View.writes_append]; exact e.2.2

/-- A load of a whole buffer over the stores made to it. -/
theorem cov_whole {s : Shape} {e : EltTy} (M : Memref sig .tc .vmem s e) (L : List (View.Piece (Elt F) s e)) {off : Fin s.rank → ℕ} (inb : ∀ a, off a + s.size a ≤ s.size a) :
    M.view.readCov L (Rect.unit (s := s) off s.size inb).toLoadRect = M.view.read (Elt F) (M.view.writes (Elt F) M.view.junk L) := View.readAt_full _ _ _

/-- The rows of the `b`-th tile of 512. -/
def rows (x : Vec F S4096x128 .bf16) (b : ℕ) : Vec F S512x128 .bf16 := fun z => x (ix2 ⟨(512 * b + (z 0).val) % 4096, Nat.mod_lt _ (by decide)⟩ (z 1))

/-- The sums over a head's columns of the products of `do` and `o`. -/
def delta (o do_ : Vec F S4096x128 .bf16) : Vec F S1x4096 .f32 :=
  fun y => k0_pay6 (rows do_ ((y 1).val / 512)) (rows o ((y 1).val / 512)) (ix2 0 ⟨(y 1).val % 512, Nat.mod_lt _ (by decide)⟩)

theorem ld_rows (M : Memref sig .tc .vmem S4096x128 .bf16) (hM : M.IsWhole) (x : Vec F S4096x128 .bf16) (b : ℕ) (hb : b < 8) (inb : ∀ a, (![512 * b, 0] : Fin 2 → ℕ) a + S512x128.size a ≤ S4096x128.size a) :
    M.view.readAt (Elt F) (Rect.unit (s := S4096x128) ![512 * b, 0] S512x128.size inb).toLoadRect (hM.unread x) = rows x b := by
  rw [ld_win]
  funext z
  have h0 : (z 0).val < 512 := (z 0).isLt
  unfold window rows
  congr 1
  funext a
  match a with
  | 0 => exact Fin.ext (by show 512 * b + 1 * (z 0).val = (512 * b + (z 0).val) % 4096; omega)
  | 1 => exact Fin.ext (by show 0 + 1 * (z 1).val = (z 1).val; omega)

theorem put_row (x w : Vec F S1x4096 .f32) (p : Vec F S1x512 .f32) (b n : ℕ) (hn : n = 512 * b) (h : ∀ j : Fin 512, ∀ y : S1x4096.Idx, (y 1).val = 512 * b + j.val → w y = p (ix2 0 j))
    (hx : ∀ y : S1x4096.Idx, (y 1).val < 512 * b → x y = w y) (y : S1x4096.Idx) (hy : (y 1).val < 512 * (b + 1)) : put x ![0, n] S1x512.size p y = w y := by
  subst hn
  have h0 : (y 0).val < 1 := (y 0).isLt
  unfold put
  by_cases hl : (y 1).val < 512 * b
  · rw [dif_neg fun hh => by have := (hh 1).1; change 512 * b ≤ (y 1).val at this; omega]
    exact hx y hl
  · have hh : ∀ a, (![0, 512 * b] : Fin 2 → ℕ) a ≤ (y a).val ∧ (y a).val < (![0, 512 * b] : Fin 2 → ℕ) a + S1x512.size a := fun a => by
      match a with
      | 0 => show 0 ≤ (y 0).val ∧ (y 0).val < 0 + 1; omega
      | 1 => show 512 * b ≤ (y 1).val ∧ (y 1).val < 512 * b + 512; omega
    rw [dif_pos hh, h ⟨(y 1).val - 512 * b, by omega⟩ y (by show (y 1).val = 512 * b + ((y 1).val - 512 * b); omega)]
    congr 1
    funext a
    match a with
    | 0 => exact Fin.ext (by show (y 0).val - 0 = 0; omega)
    | 1 => exact Fin.ext rfl

/-- The eight stores of the sums. -/
theorem read_delta (o do_ : Vec F S4096x128 .bf16) (f : BufTy.Contents (Elt F) arg13.view.ty) (p0 p1 p2 p3 p4 p5 p6 p7 : Vec F S1x512 .f32)
    (h0 : p0 = k0_pay6 (rows do_ 0) (rows o 0)) (h1 : p1 = k0_pay6 (rows do_ 1) (rows o 1)) (h2 : p2 = k0_pay6 (rows do_ 2) (rows o 2)) (h3 : p3 = k0_pay6 (rows do_ 3) (rows o 3)) (h4 : p4 = k0_pay6 (rows do_ 4) (rows o 4)) (h5 : p5 = k0_pay6 (rows do_ 5) (rows o 5)) (h6 : p6 = k0_pay6 (rows do_ 6) (rows o 6)) (h7 : p7 = k0_pay6 (rows do_ 7) (rows o 7)) :
    arg13.view.read (Elt F) (arg13.view.writes (Elt F) f [⟨Rect.unit (s := S1x4096) ![0, 3584] S1x512.size inb_S1x4096_S1x512_0_3584, p7⟩, ⟨Rect.unit (s := S1x4096) ![0, 3072] S1x512.size inb_S1x4096_S1x512_0_3072, p6⟩, ⟨Rect.unit (s := S1x4096) ![0, 2560] S1x512.size inb_S1x4096_S1x512_0_2560, p5⟩, ⟨Rect.unit (s := S1x4096) ![0, 2048] S1x512.size inb_S1x4096_S1x512_0_2048, p4⟩, ⟨Rect.unit (s := S1x4096) ![0, 1536] S1x512.size inb_S1x4096_S1x512_0_1536, p3⟩, ⟨Rect.unit (s := S1x4096) ![0, 1024] S1x512.size inb_S1x4096_S1x512_0_1024, p2⟩, ⟨Rect.unit (s := S1x4096) ![0, 512] S1x512.size inb_S1x4096_S1x512_0_512, p1⟩, ⟨Rect.unit (s := S1x4096) ![0, 0] S1x512.size inb_S1x4096_S1x512_0_0, p0⟩]) = delta o do_ := by
  have key : ∀ b : ℕ, ∀ j : Fin 512, ∀ y : S1x4096.Idx, (y 1).val = 512 * b + j.val → delta o do_ y = k0_pay6 (rows do_ b) (rows o b) (ix2 0 j) := fun b j y e => by
    have e1 : (y 1).val / 512 = b := by omega
    have e2 : (⟨(y 1).val % 512, Nat.mod_lt _ (by decide)⟩ : Fin 512) = j := Fin.ext (by show (y 1).val % 512 = j.val; omega)
    unfold delta
    rw [e1, e2]
  subst h0 h1 h2 h3 h4 h5 h6 h7
  funext y
  rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl]
  refine put_row _ (delta o do_) _ 7 _ rfl (key 7) (fun y hy => ?_) y (y 1).isLt
  refine put_row _ (delta o do_) _ 6 _ rfl (key 6) (fun y hy => ?_) y hy
  refine put_row _ (delta o do_) _ 5 _ rfl (key 5) (fun y hy => ?_) y hy
  refine put_row _ (delta o do_) _ 4 _ rfl (key 4) (fun y hy => ?_) y hy
  refine put_row _ (delta o do_) _ 3 _ rfl (key 3) (fun y hy => ?_) y hy
  refine put_row _ (delta o do_) _ 2 _ rfl (key 2) (fun y hy => ?_) y hy
  refine put_row _ (delta o do_) _ 1 _ rfl (key 1) (fun y hy => ?_) y hy
  refine put_row _ (delta o do_) _ 0 _ rfl (key 0) (fun y hy => ?_) y hy
  omega

end
end Cert.Kernel3Ideal.Hand
-- ==== Proof.AttnBody.lean ====
/-
  The kernel's body at a grid point of the backward pass of attention.
-/
module

public import proofs.«01_k».proof.Proof.AttnRun
public import Idealize.ShloMosaic.Lib.Pipeline.FrameBody
public import Idealize.ShloMosaic.Lib.VecWindow
public import Idealize.ShloMosaic.Lib.WordCmp
public import Idealize.ShloMosaic.Lib.Pointwise.Index

@[expose] public section

set_option maxRecDepth 16384
set_option maxHeartbeats 4000000

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

open VecWindow (window put)

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S1x4096 .f32) (harg13 : arg13.IsWhole)

theorem body_b (hc : ¬ first i) (h2 : k0_cond2 i = 1#1) (h3 : ¬ k0_cond3 i = 1#1) (q : Vec F S4096x128 .bf16) (k v : Vec F S512x128 .bf16) (o do_ : Vec F S4096x128 .bf16) (lse : Vec F S1x1x4096 .f32) (dq : Vec F S4096x128 .f32) (dl : Vec F S1x4096 .f32) (E : Set ℕ) (K : PUnit → sProp 𝕄) :
    let s : St F := iter i q k v do_ lse dl (wide i q k v do_ lse dl h2 (dq, k0_pay41, k0_pay42)) (k0_t1_loop i).trips
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
        ∗ owns (c : Thread nD τ) arg8 fullShare dq ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ owns (c : Thread nD τ) arg13 fullShare dl
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
          ∗ owns (c : Thread nD τ) arg8 fullShare s.1 ∗ owns (c : Thread nD τ) arg9 fullShare (k0_pay3 s.2.1) ∗ owns (c : Thread nD τ) arg10 fullShare (k0_pay4 s.2.2) ∗ (∃ d, owns (c : Thread nD τ) arg11 fullShare d) ∗ (∃ d, owns (c : Thread nD τ) arg12 fullShare d) ∗ owns (c : Thread nD τ) arg13 fullShare dl) -∗ K ⟨⟩))
      ⊢ wp Idealize.ShloMosaic.frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  intro s
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg13.eq_unread hf13
  sl_exec (disch := first | sl_exact hc | sl_exact h2 | sl_exact h3)
  sl_step
  have e0 : body_b.sl.r c i arg2 harg2 h2 q = window q (k0_off1 i) S1024x128.size (k0_off1_inb i h2) := ld_win arg2 harg2 q _
  have e1 : body_b.sl.r_1 c i arg6 harg6 h2 do_ = window do_ (k0_off1 i) S1024x128.size (k0_off1_inb i h2) := ld_win arg6 harg6 do_ _
  have ev : body_b.sl.v64 c i arg2 harg2 arg3 harg3 h2 q k = k0_pay16 k (window q (k0_off1 i) S1024x128.size (k0_off1_inb i h2)) := by
    unfold body_b.sl.v64
    rw [ld_whole arg3 harg3 k, ld_win arg2 harg2 q]
    rfl
  have g8 : arg8.view.read (Elt F) (arg8.view.writes (Elt F) (harg8.unread dq) [⟨Rect.unit (s := S4096x128) (k0_off1 i) S1024x128.size (k0_off1_inb i h2), k0_pay44 (arg3.view.readAt (Elt F) (Rect.unit (s := S512x128) ![0, 0] S512x128.size inb_S512x128_S512x128_0_0).toLoadRect (harg3.unread k)) (body_b.sl.r_2 c i arg2 harg2 arg3 harg3 arg4 harg4 arg6 harg6 arg7 harg7 arg13 harg13 h2 q k v do_ lse dl) (arg8.view.readAt (Elt F) (Rect.unit (s := S4096x128) (k0_off1 i) S1024x128.size (k0_off1_inb i h2)).toLoadRect (harg8.unread dq))⟩]) = ((wide i q k v do_ lse dl h2 (dq, k0_pay41, k0_pay42))).1 := by
    rw [View.read_writes_cons_put _ _ _ _ _ rfl, View.writes_nil, harg8.read_unread]
    unfold body_b.sl.r_2
    rw [ld_whole arg3 harg3 k, ld_whole arg4 harg4 v, ld_win arg7 harg7 lse, ld_win arg13 harg13 dl, ld_win arg8 harg8 dq, e1, ev]
    rfl
  have g11 : arg11.view.read (Elt F) (arg11.view.writes (Elt F) arg11.view.junk (body_b.sl.H11_2 c i arg2 harg2 arg3 harg3 arg4 harg4 arg6 harg6 arg7 harg7 arg11 arg13 harg13 h2 q k v do_ lse dl)) = ((wide i q k v do_ lse dl h2 (dq, k0_pay41, k0_pay42))).2.1 := by
    unfold body_b.sl.H11_2
    rw [View.read_writes_full]
    unfold body_b.sl.r_3
    rw [ld_whole arg4 harg4 v, ld_win arg7 harg7 lse, ld_win arg13 harg13 dl, e0, e1, ev, show body_b.sl.v140 c arg11 = (k0_pay41 : Vec F S512x128 .f32) from View.readCov_full _ _ _ _ _]
    rfl
  have g12 : arg12.view.read (Elt F) (arg12.view.writes (Elt F) arg12.view.junk (body_b.sl.H12_2 c i arg2 harg2 arg3 harg3 arg6 harg6 arg7 harg7 arg12 h2 q k do_ lse)) = ((wide i q k v do_ lse dl h2 (dq, k0_pay41, k0_pay42))).2.2 := by
    unfold body_b.sl.H12_2
    rw [View.read_writes_full]
    rw [ld_win arg7 harg7 lse, e1, ev, show body_b.sl.v126 c arg12 = (k0_pay42 : Vec F S512x128 .f32) from View.readCov_full _ _ _ _ _]
    rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine ((read_after c i arg2 harg2 arg3 harg3 arg4 harg4 arg5 harg5 arg6 harg6 arg7 harg7 arg8 harg8 arg9 harg9 arg10 harg10 arg11 harg11 arg12 harg12 arg13 harg13 q _ _ do_ lse dl _ _ _ (wide i q k v do_ lse dl h2 (dq, k0_pay41, k0_pay42)) _ _ _ _ _ _ _ (harg13.read_unread _) g8 g11 g12).1).trans ?_
    rw [show body_b.sl.r_4 c arg3 harg3 k = k from ld_whole arg3 harg3 k _, show body_b.sl.r_5 c arg4 harg4 v = v from ld_whole arg4 harg4 v _]
  isplitl [H9]
  · iexists _; isplitr; swap; · iexact H9
    ipureintro
    rw [View.read_writes_full]
    unfold body_b.sl.v52
    rw [cov_whole]
    refine congrArg k0_pay3 (((read_after c i arg2 harg2 arg3 harg3 arg4 harg4 arg5 harg5 arg6 harg6 arg7 harg7 arg8 harg8 arg9 harg9 arg10 harg10 arg11 harg11 arg12 harg12 arg13 harg13 q _ _ do_ lse dl _ _ _ (wide i q k v do_ lse dl h2 (dq, k0_pay41, k0_pay42)) _ _ _ _ _ _ _ (harg13.read_unread _) g8 g11 g12).2.1).trans ?_)
    rw [show body_b.sl.r_4 c arg3 harg3 k = k from ld_whole arg3 harg3 k _, show body_b.sl.r_5 c arg4 harg4 v = v from ld_whole arg4 harg4 v _]
  isplitl [H10]
  · iexists _; isplitr; swap; · iexact H10
    ipureintro
    rw [View.read_writes_full]
    unfold body_b.sl.v55
    rw [cov_whole]
    refine congrArg k0_pay4 (((read_after c i arg2 harg2 arg3 harg3 arg4 harg4 arg5 harg5 arg6 harg6 arg7 harg7 arg8 harg8 arg9 harg9 arg10 harg10 arg11 harg11 arg12 harg12 arg13 harg13 q _ _ do_ lse dl _ _ _ (wide i q k v do_ lse dl h2 (dq, k0_pay41, k0_pay42)) _ _ _ _ _ _ _ (harg13.read_unread _) g8 g11 g12).2.2).trans ?_)
    rw [show body_b.sl.r_4 c arg3 harg3 k = k from ld_whole arg3 harg3 k _, show body_b.sl.r_5 c arg4 harg4 v = v from ld_whole arg4 harg4 v _]
  isplitl [H11]
  · iexists _; iexists _; isplitr; swap; · iexact H11
    ipureintro; rfl
  isplitl [H12]
  · iexists _; iexists _; isplitr; swap; · iexact H12
    ipureintro; rfl
  · iexists _; isplitr; swap; · iexact H13
    ipureintro
    exact harg13.read_unread _

theorem body_c (hc : ¬ first i) (h2 : ¬ k0_cond2 i = 1#1) (h3 : k0_cond3 i = 1#1) (q : Vec F S4096x128 .bf16) (k v : Vec F S512x128 .bf16) (o do_ : Vec F S4096x128 .bf16) (lse : Vec F S1x1x4096 .f32) (dq : Vec F S4096x128 .f32) (dl : Vec F S1x4096 .f32) (E : Set ℕ) (K : PUnit → sProp 𝕄) :
    let s : St F := iter i q k v do_ lse dl (narrow i q k v do_ lse dl h3 (dq, k0_pay41, k0_pay42)) (k0_t1_loop i).trips
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
        ∗ owns (c : Thread nD τ) arg8 fullShare dq ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ owns (c : Thread nD τ) arg13 fullShare dl
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
          ∗ owns (c : Thread nD τ) arg8 fullShare s.1 ∗ owns (c : Thread nD τ) arg9 fullShare (k0_pay3 s.2.1) ∗ owns (c : Thread nD τ) arg10 fullShare (k0_pay4 s.2.2) ∗ (∃ d, owns (c : Thread nD τ) arg11 fullShare d) ∗ (∃ d, owns (c : Thread nD τ) arg12 fullShare d) ∗ owns (c : Thread nD τ) arg13 fullShare dl) -∗ K ⟨⟩))
      ⊢ wp Idealize.ShloMosaic.frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  intro s
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg13.eq_unread hf13
  sl_exec (disch := first | sl_exact hc | sl_exact h2 | sl_exact h3)
  sl_step
  have e0 : body_c.sl.r c i arg2 harg2 h3 q = window q (k0_off4 i) S512x128.size (k0_off4_inb i h3) := ld_win arg2 harg2 q _
  have e1 : body_c.sl.r_1 c i arg6 harg6 h3 do_ = window do_ (k0_off4 i) S512x128.size (k0_off4_inb i h3) := ld_win arg6 harg6 do_ _
  have ev : body_c.sl.v64 c i arg2 harg2 arg3 harg3 h3 q k = k0_pay24 k (window q (k0_off4 i) S512x128.size (k0_off4_inb i h3)) := by
    unfold body_c.sl.v64
    rw [ld_whole arg3 harg3 k, ld_win arg2 harg2 q]
    rfl
  have g8 : arg8.view.read (Elt F) (arg8.view.writes (Elt F) (harg8.unread dq) [⟨Rect.unit (s := S4096x128) (k0_off4 i) S512x128.size (k0_off4_inb i h3), k0_pay46 (arg3.view.readAt (Elt F) (Rect.unit (s := S512x128) ![0, 0] S512x128.size inb_S512x128_S512x128_0_0).toLoadRect (harg3.unread k)) (body_c.sl.r_2 c i arg2 harg2 arg3 harg3 arg4 harg4 arg6 harg6 arg7 harg7 arg13 harg13 h3 q k v do_ lse dl) (arg8.view.readAt (Elt F) (Rect.unit (s := S4096x128) (k0_off4 i) S512x128.size (k0_off4_inb i h3)).toLoadRect (harg8.unread dq))⟩]) = ((narrow i q k v do_ lse dl h3 (dq, k0_pay41, k0_pay42))).1 := by
    rw [View.read_writes_cons_put _ _ _ _ _ rfl, View.writes_nil, harg8.read_unread]
    unfold body_c.sl.r_2
    rw [ld_whole arg3 harg3 k, ld_whole arg4 harg4 v, ld_win arg7 harg7 lse, ld_win arg13 harg13 dl, ld_win arg8 harg8 dq, e1, ev]
    rfl
  have g11 : arg11.view.read (Elt F) (arg11.view.writes (Elt F) arg11.view.junk (body_c.sl.H11_2 c i arg2 harg2 arg3 harg3 arg4 harg4 arg6 harg6 arg7 harg7 arg11 arg13 harg13 h3 q k v do_ lse dl)) = ((narrow i q k v do_ lse dl h3 (dq, k0_pay41, k0_pay42))).2.1 := by
    unfold body_c.sl.H11_2
    rw [View.read_writes_full]
    unfold body_c.sl.r_3
    rw [ld_whole arg4 harg4 v, ld_win arg7 harg7 lse, ld_win arg13 harg13 dl, e0, e1, ev, show body_c.sl.v140 c arg11 = (k0_pay41 : Vec F S512x128 .f32) from View.readCov_full _ _ _ _ _]
    rfl
  have g12 : arg12.view.read (Elt F) (arg12.view.writes (Elt F) arg12.view.junk (body_c.sl.H12_2 c i arg2 harg2 arg3 harg3 arg6 harg6 arg7 harg7 arg12 h3 q k do_ lse)) = ((narrow i q k v do_ lse dl h3 (dq, k0_pay41, k0_pay42))).2.2 := by
    unfold body_c.sl.H12_2
    rw [View.read_writes_full]
    rw [ld_win arg7 harg7 lse, e1, ev, show body_c.sl.v126 c arg12 = (k0_pay42 : Vec F S512x128 .f32) from View.readCov_full _ _ _ _ _]
    rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine ((read_after c i arg2 harg2 arg3 harg3 arg4 harg4 arg5 harg5 arg6 harg6 arg7 harg7 arg8 harg8 arg9 harg9 arg10 harg10 arg11 harg11 arg12 harg12 arg13 harg13 q _ _ do_ lse dl _ _ _ (narrow i q k v do_ lse dl h3 (dq, k0_pay41, k0_pay42)) _ _ _ _ _ _ _ (harg13.read_unread _) g8 g11 g12).1).trans ?_
    rw [show body_c.sl.r_4 c arg3 harg3 k = k from ld_whole arg3 harg3 k _, show body_c.sl.r_5 c arg4 harg4 v = v from ld_whole arg4 harg4 v _]
  isplitl [H9]
  · iexists _; isplitr; swap; · iexact H9
    ipureintro
    rw [View.read_writes_full]
    unfold body_c.sl.v52
    rw [cov_whole]
    refine congrArg k0_pay3 (((read_after c i arg2 harg2 arg3 harg3 arg4 harg4 arg5 harg5 arg6 harg6 arg7 harg7 arg8 harg8 arg9 harg9 arg10 harg10 arg11 harg11 arg12 harg12 arg13 harg13 q _ _ do_ lse dl _ _ _ (narrow i q k v do_ lse dl h3 (dq, k0_pay41, k0_pay42)) _ _ _ _ _ _ _ (harg13.read_unread _) g8 g11 g12).2.1).trans ?_)
    rw [show body_c.sl.r_4 c arg3 harg3 k = k from ld_whole arg3 harg3 k _, show body_c.sl.r_5 c arg4 harg4 v = v from ld_whole arg4 harg4 v _]
  isplitl [H10]
  · iexists _; isplitr; swap; · iexact H10
    ipureintro
    rw [View.read_writes_full]
    unfold body_c.sl.v55
    rw [cov_whole]
    refine congrArg k0_pay4 (((read_after c i arg2 harg2 arg3 harg3 arg4 harg4 arg5 harg5 arg6 harg6 arg7 harg7 arg8 harg8 arg9 harg9 arg10 harg10 arg11 harg11 arg12 harg12 arg13 harg13 q _ _ do_ lse dl _ _ _ (narrow i q k v do_ lse dl h3 (dq, k0_pay41, k0_pay42)) _ _ _ _ _ _ _ (harg13.read_unread _) g8 g11 g12).2.2).trans ?_)
    rw [show body_c.sl.r_4 c arg3 harg3 k = k from ld_whole arg3 harg3 k _, show body_c.sl.r_5 c arg4 harg4 v = v from ld_whole arg4 harg4 v _]
  isplitl [H11]
  · iexists _; iexists _; isplitr; swap; · iexact H11
    ipureintro; rfl
  isplitl [H12]
  · iexists _; iexists _; isplitr; swap; · iexact H12
    ipureintro; rfl
  · iexists _; isplitr; swap; · iexact H13
    ipureintro
    exact harg13.read_unread _

end
end Cert.Kernel3Ideal.Hand
-- ==== Proof.AttnBodyA.lean ====
/-
  The kernel's body at a grid point of the backward pass of attention.
-/
module

public import proofs.«01_k».proof.Proof.AttnRun
public import Idealize.ShloMosaic.Lib.Pipeline.FrameBody
public import Idealize.ShloMosaic.Lib.VecWindow
public import Idealize.ShloMosaic.Lib.WordCmp
public import Idealize.ShloMosaic.Lib.Pointwise.Index

@[expose] public section

set_option maxRecDepth 16384
set_option maxHeartbeats 4000000

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

open VecWindow (window put)

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S1x4096 .f32) (harg13 : arg13.IsWhole)

theorem body_a (hc : first i) (h2 : k0_cond2 i = 1#1) (h3 : ¬ k0_cond3 i = 1#1) (q : Vec F S4096x128 .bf16) (k v : Vec F S512x128 .bf16) (o do_ : Vec F S4096x128 .bf16) (lse : Vec F S1x1x4096 .f32) (dl : Vec F S1x4096 .f32) (E : Set ℕ) (K : PUnit → sProp 𝕄) :
    let s : St F := iter i q k v do_ lse (delta o do_) (wide i q k v do_ lse (delta o do_) h2 (k0_pay5, k0_pay41, k0_pay42)) (k0_t1_loop i).trips
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ owns (c : Thread nD τ) arg13 fullShare dl
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare do_ ∗ owns (c : Thread nD τ) arg7 fullShare lse
          ∗ owns (c : Thread nD τ) arg8 fullShare s.1 ∗ owns (c : Thread nD τ) arg9 fullShare (k0_pay3 s.2.1) ∗ owns (c : Thread nD τ) arg10 fullShare (k0_pay4 s.2.2) ∗ (∃ d, owns (c : Thread nD τ) arg11 fullShare d) ∗ (∃ d, owns (c : Thread nD τ) arg12 fullShare d) ∗ owns (c : Thread nD τ) arg13 fullShare (delta o do_)) -∗ K ⟨⟩))
      ⊢ wp Idealize.ShloMosaic.frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  intro s
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg13.eq_unread hf13
  sl_exec (disch := first | sl_exact hc | sl_exact h2 | sl_exact h3)
  sl_step
  have hd : arg13.view.read (Elt F) (arg13.view.writes (Elt F) arg13.view.junk (body_a.sl.H13_8 c arg5 harg5 arg6 harg6 o do_)) = delta o do_ :=
    read_delta arg13 o do_ _ _ _ _ _ _ _ _ _
      (congrArg₂ k0_pay6 (ld_rows arg6 harg6 do_ 0 (by decide) _) (ld_rows arg5 harg5 o 0 (by decide) _))
      (congrArg₂ k0_pay6 (ld_rows arg6 harg6 do_ 1 (by decide) _) (ld_rows arg5 harg5 o 1 (by decide) _))
      (congrArg₂ k0_pay6 (ld_rows arg6 harg6 do_ 2 (by decide) _) (ld_rows arg5 harg5 o 2 (by decide) _))
      (congrArg₂ k0_pay6 (ld_rows arg6 harg6 do_ 3 (by decide) _) (ld_rows arg5 harg5 o 3 (by decide) _))
      (congrArg₂ k0_pay6 (ld_rows arg6 harg6 do_ 4 (by decide) _) (ld_rows arg5 harg5 o 4 (by decide) _))
      (congrArg₂ k0_pay6 (ld_rows arg6 harg6 do_ 5 (by decide) _) (ld_rows arg5 harg5 o 5 (by decide) _))
      (congrArg₂ k0_pay6 (ld_rows arg6 harg6 do_ 6 (by decide) _) (ld_rows arg5 harg5 o 6 (by decide) _))
      (congrArg₂ k0_pay6 (ld_rows arg6 harg6 do_ 7 (by decide) _) (ld_rows arg5 harg5 o 7 (by decide) _))
  have h8 : arg8.view.read (Elt F) (arg8.view.writes (Elt F) arg8.view.junk body_a.sl.H8_1) = (k0_pay5 : Vec F S4096x128 .f32) := by
    unfold body_a.sl.H8_1
    rw [View.read_writes_full]
    rfl
  have hl : ∀ inb, arg13.view.readAt (Elt F) (Rect.unit (s := S1x4096) (k0_off3 i) S1x1024.size inb).toLoadRect (arg13.view.writes (Elt F) arg13.view.junk (body_a.sl.H13_8 c arg5 harg5 arg6 harg6 o do_)) = window (delta o do_) (k0_off3 i) S1x1024.size inb := fun inb => by
    rw [View.readAt_unit arg13.view _ _ rfl inb, hd]
  have ed : body_a.sl.v135 c i arg5 harg5 arg6 harg6 arg13 h2 o do_ = window (delta o do_) (k0_off3 i) S1x1024.size (k0_off3_inb i h2) := hl _
  have e0 : body_a.sl.r c i arg2 harg2 h2 q = window q (k0_off1 i) S1024x128.size (k0_off1_inb i h2) := ld_win arg2 harg2 q _
  have e1 : body_a.sl.r_1 c i arg6 harg6 h2 do_ = window do_ (k0_off1 i) S1024x128.size (k0_off1_inb i h2) := ld_win arg6 harg6 do_ _
  have ev : body_a.sl.v64_1 c i arg2 harg2 arg3 harg3 h2 q k = k0_pay16 k (window q (k0_off1 i) S1024x128.size (k0_off1_inb i h2)) := by
    unfold body_a.sl.v64_1
    rw [ld_whole arg3 harg3 k, ld_win arg2 harg2 q]
    rfl
  have g8 : arg8.view.read (Elt F) (arg8.view.writes (Elt F) arg8.view.junk (⟨Rect.unit (s := S4096x128) (k0_off1 i) S1024x128.size (k0_off1_inb i h2), k0_pay44 (arg3.view.readAt (Elt F) (Rect.unit (s := S512x128) ![0, 0] S512x128.size inb_S512x128_S512x128_0_0).toLoadRect (harg3.unread k)) (body_a.sl.r_2 c i arg2 harg2 arg3 harg3 arg4 harg4 arg5 harg5 arg6 harg6 arg7 harg7 arg13 h2 q k v o do_ lse) (arg8.view.readAt (Elt F) (Rect.unit (s := S4096x128) (k0_off1 i) S1024x128.size (k0_off1_inb i h2)).toLoadRect (arg8.view.writes (Elt F) arg8.view.junk body_a.sl.H8_1))⟩ :: body_a.sl.H8_1)) = ((wide i q k v do_ lse (delta o do_) h2 (k0_pay5, k0_pay41, k0_pay42))).1 := by
    rw [View.read_writes_cons_put _ _ _ _ _ rfl, h8]
    unfold body_a.sl.r_2
    rw [ld_whole arg3 harg3 k, ld_whole arg4 harg4 v, ld_win arg7 harg7 lse, ed, View.readAt_unit arg8.view _ _ rfl (k0_off1_inb i h2), h8, e1, ev]
    rfl
  have g11 : arg11.view.read (Elt F) (arg11.view.writes (Elt F) arg11.view.junk (body_a.sl.H11_2 c i arg2 harg2 arg3 harg3 arg4 harg4 arg5 harg5 arg6 harg6 arg7 harg7 arg11 arg13 h2 q k v o do_ lse)) = ((wide i q k v do_ lse (delta o do_) h2 (k0_pay5, k0_pay41, k0_pay42))).2.1 := by
    unfold body_a.sl.H11_2
    rw [View.read_writes_full]
    unfold body_a.sl.r_3
    rw [ld_whole arg4 harg4 v, ld_win arg7 harg7 lse, ed, e0, e1, ev, show body_a.sl.v140_1 c arg11 = (k0_pay41 : Vec F S512x128 .f32) from View.readCov_full _ _ _ _ _]
    rfl
  have g12 : arg12.view.read (Elt F) (arg12.view.writes (Elt F) arg12.view.junk (body_a.sl.H12_2 c i arg2 harg2 arg3 harg3 arg6 harg6 arg7 harg7 arg12 h2 q k do_ lse)) = ((wide i q k v do_ lse (delta o do_) h2 (k0_pay5, k0_pay41, k0_pay42))).2.2 := by
    unfold body_a.sl.H12_2
    rw [View.read_writes_full]
    rw [ld_win arg7 harg7 lse, e1, ev, show body_a.sl.v126_1 c arg12 = (k0_pay42 : Vec F S512x128 .f32) from View.readCov_full _ _ _ _ _]
    rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine ((read_after c i arg2 harg2 arg3 harg3 arg4 harg4 arg5 harg5 arg6 harg6 arg7 harg7 arg8 harg8 arg9 harg9 arg10 harg10 arg11 harg11 arg12 harg12 arg13 harg13 q _ _ do_ lse (delta o do_) _ _ _ (wide i q k v do_ lse (delta o do_) h2 (k0_pay5, k0_pay41, k0_pay42)) _ _ _ _ _ _ _ hd g8 g11 g12).1).trans ?_
    rw [show body_a.sl.r_4 c arg3 harg3 k = k from ld_whole arg3 harg3 k _, show body_a.sl.r_5 c arg4 harg4 v = v from ld_whole arg4 harg4 v _]
  isplitl [H9]
  · iexists _; isplitr; swap; · iexact H9
    ipureintro
    rw [View.read_writes_full]
    unfold body_a.sl.v52
    rw [cov_whole]
    refine congrArg k0_pay3 (((read_after c i arg2 harg2 arg3 harg3 arg4 harg4 arg5 harg5 arg6 harg6 arg7 harg7 arg8 harg8 arg9 harg9 arg10 harg10 arg11 harg11 arg12 harg12 arg13 harg13 q _ _ do_ lse (delta o do_) _ _ _ (wide i q k v do_ lse (delta o do_) h2 (k0_pay5, k0_pay41, k0_pay42)) _ _ _ _ _ _ _ hd g8 g11 g12).2.1).trans ?_)
    rw [show body_a.sl.r_4 c arg3 harg3 k = k from ld_whole arg3 harg3 k _, show body_a.sl.r_5 c arg4 harg4 v = v from ld_whole arg4 harg4 v _]
  isplitl [H10]
  · iexists _; isplitr; swap; · iexact H10
    ipureintro
    rw [View.read_writes_full]
    unfold body_a.sl.v55
    rw [cov_whole]
    refine congrArg k0_pay4 (((read_after c i arg2 harg2 arg3 harg3 arg4 harg4 arg5 harg5 arg6 harg6 arg7 harg7 arg8 harg8 arg9 harg9 arg10 harg10 arg11 harg11 arg12 harg12 arg13 harg13 q _ _ do_ lse (delta o do_) _ _ _ (wide i q k v do_ lse (delta o do_) h2 (k0_pay5, k0_pay41, k0_pay42)) _ _ _ _ _ _ _ hd g8 g11 g12).2.2).trans ?_)
    rw [show body_a.sl.r_4 c arg3 harg3 k = k from ld_whole arg3 harg3 k _, show body_a.sl.r_5 c arg4 harg4 v = v from ld_whole arg4 harg4 v _]
  isplitl [H11]
  · iexists _; iexists _; isplitr; swap; · iexact H11
    ipureintro; rfl
  isplitl [H12]
  · iexists _; iexists _; isplitr; swap; · iexact H12
    ipureintro; rfl
  · iexists _; isplitr; swap; · iexact H13
    ipureintro
    exact hd

end
end Cert.Kernel3Ideal.Hand
-- ==== Proof.AttnLaunch.lean ====
/-
  The launch of the backward pass of attention: what the points of the grid leave and carry on.
-/
module

public import proofs.«01_k».proof.Proof.AttnBody
public import proofs.«01_k».proof.Proof.AttnBodyA
public import Idealize.ShloMosaic.Lib.Pipeline.FrameBody
public import Idealize.ShloMosaic.Lib.VecWindow
public import Idealize.ShloMosaic.Lib.WordCmp
public import Idealize.ShloMosaic.Lib.Claim
public import Idealize.ShloMosaic.Lib.Pointwise.Index

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

theorem first_iff : ∀ t : Fin cfg0.N, first (grid0.coords t) ↔ t.val % 8 = 0 :=
  (by decide +kernel : ∀ t : Fin grid0.N, first (grid0.coords t) ↔ t.val % 8 = 0)
theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)

variable (m : (ℓ : Loc nD τ sig) → Buf (Elt F) ℓ) (ρ : Dev nD → PrngReg)

abbrev mr0 (t : Fin cfg0.N) : Memref sig .tc .vmem S4096x128 .bf16 := win0_0.stage (cfg0.slots t 0)
abbrev hr0 (t : Fin cfg0.N) : (mr0 t).IsWhole := hstage0_0 ((cfg0.slots t 0).cast nbuf0_0)
abbrev mr1 (t : Fin cfg0.N) : Memref sig .tc .vmem S512x128 .bf16 := win0_1.stage (cfg0.slots t 1)
abbrev hr1 (t : Fin cfg0.N) : (mr1 t).IsWhole := hstage0_1 ((cfg0.slots t 1).cast nbuf0_1)
abbrev mr2 (t : Fin cfg0.N) : Memref sig .tc .vmem S512x128 .bf16 := win0_2.stage (cfg0.slots t 2)
abbrev hr2 (t : Fin cfg0.N) : (mr2 t).IsWhole := hstage0_2 ((cfg0.slots t 2).cast nbuf0_2)
abbrev mr3 (t : Fin cfg0.N) : Memref sig .tc .vmem S4096x128 .bf16 := win0_3.stage (cfg0.slots t 3)
abbrev hr3 (t : Fin cfg0.N) : (mr3 t).IsWhole := hstage0_3 ((cfg0.slots t 3).cast nbuf0_3)
abbrev mr4 (t : Fin cfg0.N) : Memref sig .tc .vmem S4096x128 .bf16 := win0_4.stage (cfg0.slots t 4)
abbrev hr4 (t : Fin cfg0.N) : (mr4 t).IsWhole := hstage0_4 ((cfg0.slots t 4).cast nbuf0_4)
abbrev mr5 (t : Fin cfg0.N) : Memref sig .tc .vmem S1x1x4096 .f32 := win0_5.stage (cfg0.slots t 5)
abbrev hr5 (t : Fin cfg0.N) : (mr5 t).IsWhole := hstage0_5 ((cfg0.slots t 5).cast nbuf0_5)
abbrev mr6 (t : Fin cfg0.N) : Memref sig .tc .vmem S4096x128 .f32 := win0_6.stage (cfg0.slots t 6)
abbrev hr6 (t : Fin cfg0.N) : (mr6 t).IsWhole := hstage0_6 ((cfg0.slots t 6).cast nbuf0_6)
abbrev mr7 (t : Fin cfg0.N) : Memref sig .tc .vmem S512x128 .bf16 := win0_7.stage (cfg0.slots t 7)
abbrev hr7 (t : Fin cfg0.N) : (mr7 t).IsWhole := hstage0_7 ((cfg0.slots t 7).cast nbuf0_7)
abbrev mr8 (t : Fin cfg0.N) : Memref sig .tc .vmem S512x128 .bf16 := win0_8.stage (cfg0.slots t 8)
abbrev hr8 (t : Fin cfg0.N) : (mr8 t).IsWhole := hstage0_8 ((cfg0.slots t 8).cast nbuf0_8)
abbrev scr0 : Memref sig .tc .vmem S512x128 .f32 := Memref.whole cc0_scratch0
abbrev scr1 : Memref sig .tc .vmem S512x128 .f32 := Memref.whole cc0_scratch1
abbrev scr2 : Memref sig .tc .vmem S1x4096 .f32 := Memref.whole cc0_scratch2

abbrev blkQ (c : Dev nD) (t : Fin cfg0.N) : Vec F S4096x128 .bf16 := iblk m c 0 t
abbrev blkK (c : Dev nD) (t : Fin cfg0.N) : Vec F S512x128 .bf16 := iblk m c 1 t
abbrev blkV (c : Dev nD) (t : Fin cfg0.N) : Vec F S512x128 .bf16 := iblk m c 2 t
abbrev blkO (c : Dev nD) (t : Fin cfg0.N) : Vec F S4096x128 .bf16 := iblk m c 3 t
abbrev blkD (c : Dev nD) (t : Fin cfg0.N) : Vec F S4096x128 .bf16 := iblk m c 4 t
abbrev blkL (c : Dev nD) (t : Fin cfg0.N) : Vec F S1x1x4096 .f32 := iblk m c 5 t

/-- What a point makes of the query's gradient so far, with the tile's two sums. -/
def step (i : grid0.Coords) (q : Vec F S4096x128 .bf16) (k v : Vec F S512x128 .bf16) (do_ : Vec F S4096x128 .bf16) (lse : Vec F S1x1x4096 .f32) (dl : Vec F S1x4096 .f32) (dq : Vec F S4096x128 .f32) : St F :=
  if h2 : k0_cond2 i = 1#1 then iter i q k v do_ lse dl (wide i q k v do_ lse dl h2 (dq, k0_pay41, k0_pay42)) (k0_t1_loop i).trips
  else if h3 : k0_cond3 i = 1#1 then iter i q k v do_ lse dl (narrow i q k v do_ lse dl h3 (dq, k0_pay41, k0_pay42)) (k0_t1_loop i).trips
  else (dq, k0_pay41, k0_pay42)

/-- What point `t` leaves, given the query's gradient and the sums `delta` it works from. -/
def leave (c : Dev nD) (t : Fin cfg0.N) (x : Vec F S4096x128 .f32 × Vec F S1x4096 .f32) : St F :=
  step (grid0.coords t) (blkQ m c t) (blkK m c t) (blkV m c t) (blkD m c t) (blkL m c t) x.2 x.1

/-- The query's gradient and the sums `delta` that point `n` works from. -/
def into (c : Dev nD) : ℕ → Vec F S4096x128 .f32 × Vec F S1x4096 .f32
  | 0 => (k0_pay5, delta (blkO m c ⟨0, by decide⟩) (blkD m c ⟨0, by decide⟩))
  | n + 1 => if hn : n + 1 < cfg0.N then
      if (n + 1) % 8 = 0 then (k0_pay5, delta (blkO m c ⟨n + 1, hn⟩) (blkD m c ⟨n + 1, hn⟩))
      else ((leave m c ⟨n, Nat.lt_of_succ_lt hn⟩ (into c n)).1, (into c n).2)
    else into c n

/-- What point `t` leaves. -/
def res (c : Dev nD) (t : Fin cfg0.N) : St F := leave m c t (into m c t.val)

theorem into_first (c : Dev nD) (t : Fin cfg0.N) (h : t.val % 8 = 0) : into m c t.val = (k0_pay5, delta (blkO m c t) (blkD m c t)) := by
  obtain ⟨n, hn⟩ := t
  cases n with
  | zero => rfl
  | succ n => unfold into; rw [dif_pos hn, if_pos h]

theorem into_next (c : Dev nD) (n : ℕ) (hn : n + 1 < cfg0.N) (h : ¬ (n + 1) % 8 = 0) :
    into m c (n + 1) = ((res m c ⟨n, Nat.lt_of_succ_lt hn⟩).1, (into m c n).2) := by
  rw [into, dif_pos hn, if_neg h]; rfl

/-- The scratch arrays owned at some contents: the launch's invariant before the first point. -/
theorem start_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- Between points the last scratch row holds the sums `delta`. -/
def inv (c : Dev nD) : (n : ℕ) → n ≤ cfg0.N → sProp 𝕄
  | 0, _ => Pipeline.ΦA spec0 c
  | n + 1, _ => iprop(iprop((∃ d, owns (c : Thread nD τ) scr0 fullShare d) ∗ (∃ d, owns (c : Thread nD τ) scr1 fullShare d) ∗ owns (c : Thread nD τ) scr2 fullShare (into m c n).2) ∗ (∃ r, prngReg c r))

theorem inv_succ (c : Dev nD) (n : ℕ) (h : n + 1 ≤ cfg0.N) :
    inv m c (n + 1) h = iprop(iprop((∃ d, owns (c : Thread nD τ) scr0 fullShare d) ∗ (∃ d, owns (c : Thread nD τ) scr1 fullShare d) ∗ owns (c : Thread nD τ) scr2 fullShare (into m c n).2) ∗ (∃ r, prngReg c r)) := rfl

/-- At any point the three scratch arrays are owned, -/
theorem inv_any (c : Dev nD) (n : ℕ) (h : n ≤ cfg0.N) : inv m c n h ⊢ iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  cases n with
  | zero => rw [show inv m c 0 h = Pipeline.ΦA spec0 c from rfl, start_eq]
  | succ n =>
    rw [inv_succ]
    iintro ⟨⟨H0, H1, H2⟩, Hg⟩
    isplitl [H0 H1 H2]
    · isplitl [H0]; · iexact H0
      isplitl [H1]; · iexact H1
      iexists _; iexact H2
    iexact Hg

/-- What the pipeline holds at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (res m c t).1
    | ⟨7, _⟩ => k0_pay3 (res m c t).2.1
    | ⟨8, _⟩ => k0_pay4 (res m c t).2.2
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (res m c t).1 := by dsimp only [dats]
theorem after_7 (c : Dev nD) (t : Fin cfg0.N) : (dats m 0 c).after 7 t = k0_pay3 (res m c t).2.1 := by dsimp only [dats]
theorem after_8 (c : Dev nD) (t : Fin cfg0.N) : (dats m 0 c).after 8 t = k0_pay4 (res m c t).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem live_0 : ∀ i : grid0.Coords, cfg0.idle 0 i = false := fun _ => rfl
theorem live_1 : ∀ i : grid0.Coords, cfg0.idle 1 i = false := fun _ => rfl
theorem live_2 : ∀ i : grid0.Coords, cfg0.idle 2 i = false := fun _ => rfl
theorem live_3 : ∀ i : grid0.Coords, cfg0.idle 3 i = false := fun _ => rfl
theorem live_4 : ∀ i : grid0.Coords, cfg0.idle 4 i = false := fun _ => rfl
theorem live_5 : ∀ i : grid0.Coords, cfg0.idle 5 i = false := fun _ => rfl
theorem live_6 : ∀ i : grid0.Coords, cfg0.idle 6 i = false := fun _ => rfl
theorem live_7 : ∀ i : grid0.Coords, cfg0.idle 7 i = false := fun _ => rfl
theorem live_8 : ∀ i : grid0.Coords, cfg0.idle 8 i = false := fun _ => rfl

/-- Past the head's first point the query's gradient is what the point before left. -/
theorem before_6 (c : Dev nD) (t : Fin cfg0.N) (h : ¬ t.val % 8 = 0) (d) : (dats m 0 c).before 6 t d = (into m c t.val).1 := by
  have ht : t.val ≠ 0 := fun h0 => h (by rw [h0])
  have hf : (cfg0.win 6).flush ⟨t.val - 1, Nat.lt_of_le_of_lt (Nat.sub_le _ _) t.isLt⟩ = false := by
    have := (flush0_6 ⟨t.val - 1, Nat.lt_of_le_of_lt (Nat.sub_le _ _) t.isLt⟩).not.mpr (by dsimp only; omega)
    exact Bool.not_eq_true _ ▸ this
  rw [(dats m 0 c).before_out_kept 6 rfl t ht hf (fun _ => rfl) (fun _ _ => rfl) d, after_6]
  obtain ⟨n, hn⟩ := t
  cases n with
  | zero => exact absurd rfl ht
  | succ n => dsimp only; rw [into_next m c n hn h]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (mr0 t) fullShare ((dats m 0 c).after 0 t) from by
    unfold Dat.leavesExact; rw [live_0 (grid0.coords t)], after_0]
  rw [show (dats m 0 c).leavesExact 1 t = owns (c : Thread nD τ) (mr1 t) fullShare ((dats m 0 c).after 1 t) from by
    unfold Dat.leavesExact; rw [live_1 (grid0.coords t)], after_1]
  rw [show (dats m 0 c).leavesExact 2 t = owns (c : Thread nD τ) (mr2 t) fullShare ((dats m 0 c).after 2 t) from by
    unfold Dat.leavesExact; rw [live_2 (grid0.coords t)], after_2]
  rw [show (dats m 0 c).leavesExact 3 t = owns (c : Thread nD τ) (mr3 t) fullShare ((dats m 0 c).after 3 t) from by
    unfold Dat.leavesExact; rw [live_3 (grid0.coords t)], after_3]
  rw [show (dats m 0 c).leavesExact 4 t = owns (c : Thread nD τ) (mr4 t) fullShare ((dats m 0 c).after 4 t) from by
    unfold Dat.leavesExact; rw [live_4 (grid0.coords t)], after_4]
  rw [show (dats m 0 c).leavesExact 5 t = owns (c : Thread nD τ) (mr5 t) fullShare ((dats m 0 c).after 5 t) from by
    unfold Dat.leavesExact; rw [live_5 (grid0.coords t)], after_5]
  rw [show (dats m 0 c).leavesExact 6 t = owns (c : Thread nD τ) (mr6 t) fullShare ((dats m 0 c).after 6 t) from by
    unfold Dat.leavesExact; rw [live_6 (grid0.coords t)], after_6]
  rw [show (dats m 0 c).leavesExact 7 t = owns (c : Thread nD τ) (mr7 t) fullShare ((dats m 0 c).after 7 t) from by
    unfold Dat.leavesExact; rw [live_7 (grid0.coords t)], after_7]
  rw [show (dats m 0 c).leavesExact 8 t = owns (c : Thread nD τ) (mr8 t) fullShare ((dats m 0 c).after 8 t) from by
    unfold Dat.leavesExact; rw [live_8 (grid0.coords t)], after_8]
  rw [inv_castSucc]
  by_cases hz : t.val % 8 = 0
  · have hx : into m c t.val = (k0_pay5, delta (blkO m c t) (blkD m c t)) := into_first m c t hz
    have h2 := (cond2_iff t).mpr (by omega)
    have h3 := (cond3_iff t).not.mpr (by omega)
    have hr : res m c t = iter (grid0.coords t) (blkQ m c t) (blkK m c t) (blkV m c t) (blkD m c t) (blkL m c t) (delta (blkO m c t) (blkD m c t)) (wide (grid0.coords t) (blkQ m c t) (blkK m c t) (blkV m c t) (blkD m c t) (blkL m c t) (delta (blkO m c t) (blkD m c t)) h2 (k0_pay5, k0_pay41, k0_pay42)) (k0_t1_loop (grid0.coords t)).trips := by
      unfold res leave step
      rw [dif_pos h2, hx]
    rw [hr, hx]
    refine (Idealize.SL.BI.sep_mono_l (inv_any m c _ _)).trans ?_
    show (iprop(_ ∗ _) : sProp 𝕄) ⊢ _
    iintro ⟨⟨⟨HA, HB, ⟨%x13, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_a c (grid0.coords t) _ (hr0 t) _ (hr1 t) _ (hr2 t) _ (hr3 t) _ (hr4 t) _ (hr5 t) _ (hr6 t) _ (hr7 t) _ (hr8 t) _ (Memref.isWhole_whole _) _ (Memref.isWhole_whole _) _ (Memref.isWhole_whole _) ((first_iff t).mpr hz) h2 h3 (blkQ m c t) (blkK m c t) (blkV m c t) (blkO m c t) (blkD m c t) (blkL m c t) x13 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HA]; · iexact HA
    isplitl [HB]; · iexact HB
    isplitl [HC]; · iexact HC
    iintro ⟨H0, H1, H2, H3, H4, H5, H6, H7, H8, HA, HB, HC⟩
    isplitl [HA HB HC Hg]
    · isplitl [HA HB HC]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_6 m c t hz]
    obtain ⟨n, hn, hi⟩ : ∃ n, ∃ hn : n + 1 ≤ cfg0.N, inv m c t.val (Nat.le_of_lt t.isLt) = iprop(iprop((∃ d, owns (c : Thread nD τ) scr0 fullShare d) ∗ (∃ d, owns (c : Thread nD τ) scr1 fullShare d) ∗ owns (c : Thread nD τ) scr2 fullShare (into m c t.val).2) ∗ (∃ r, prngReg c r)) := by
      obtain ⟨n, hn⟩ := t
      cases n with
      | zero => exact absurd rfl hz
      | succ n =>
        refine ⟨n, Nat.le_of_lt hn, ?_⟩
        rw [inv_succ]; dsimp only; rw [into_next m c n hn hz]
    by_cases hp : t.val % 2 = 0
    · have h2 := (cond2_iff t).mpr hp
      have h3 := (cond3_iff t).not.mpr (by omega)
      have hr : res m c t = iter (grid0.coords t) (blkQ m c t) (blkK m c t) (blkV m c t) (blkD m c t) (blkL m c t) (into m c t.val).2 (wide (grid0.coords t) (blkQ m c t) (blkK m c t) (blkV m c t) (blkD m c t) (blkL m c t) (into m c t.val).2 h2 ((into m c t.val).1, k0_pay41, k0_pay42)) (k0_t1_loop (grid0.coords t)).trips := by
        unfold res leave step
        rw [dif_pos h2]
      rw [hr, hi]
      iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_b c (grid0.coords t) _ (hr0 t) _ (hr1 t) _ (hr2 t) _ (hr3 t) _ (hr4 t) _ (hr5 t) _ (hr6 t) _ (hr7 t) _ (hr8 t) _ (Memref.isWhole_whole _) _ (Memref.isWhole_whole _) _ (Memref.isWhole_whole _) (fun h => hz ((first_iff t).mp h)) h2 h3 (blkQ m c t) (blkK m c t) (blkV m c t) (blkO m c t) (blkD m c t) (blkL m c t) (into m c t.val).1 (into m c t.val).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HA]; · iexact HA
      isplitl [HB]; · iexact HB
      isplitl [HC]; · iexact HC
      iintro ⟨H0, H1, H2, H3, H4, H5, H6, H7, H8, HA, HB, HC⟩
      isplitl [HA HB HC Hg]
      · isplitl [HA HB HC]
        · isplitl [HA]; · iexact HA
          isplitl [HB]; · iexact HB
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have h2 := (cond2_iff t).not.mpr hp
      have h3 := (cond3_iff t).mpr (by omega)
      have hr : res m c t = iter (grid0.coords t) (blkQ m c t) (blkK m c t) (blkV m c t) (blkD m c t) (blkL m c t) (into m c t.val).2 (narrow (grid0.coords t) (blkQ m c t) (blkK m c t) (blkV m c t) (blkD m c t) (blkL m c t) (into m c t.val).2 h3 ((into m c t.val).1, k0_pay41, k0_pay42)) (k0_t1_loop (grid0.coords t)).trips := by
        unfold res leave step
        rw [dif_neg h2, dif_pos h3]
      rw [hr, hi]
      iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_c c (grid0.coords t) _ (hr0 t) _ (hr1 t) _ (hr2 t) _ (hr3 t) _ (hr4 t) _ (hr5 t) _ (hr6 t) _ (hr7 t) _ (hr8 t) _ (Memref.isWhole_whole _) _ (Memref.isWhole_whole _) _ (Memref.isWhole_whole _) (fun h => hz ((first_iff t).mp h)) h2 h3 (blkQ m c t) (blkK m c t) (blkV m c t) (blkO m c t) (blkD m c t) (blkL m c t) (into m c t.val).1 (into m c t.val).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HA]; · iexact HA
      isplitl [HB]; · iexact HB
      isplitl [HC]; · iexact HC
      iintro ⟨H0, H1, H2, H3, H4, H5, H6, H7, H8, HA, HB, HC⟩
      isplitl [HA HB HC Hg]
      · isplitl [HA HB HC]
        · isplitl [HA]; · iexact HA
          isplitl [HB]; · iexact HB
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [start_eq]
  exact inv_any m c (Fin.last cfg0.N).val (Nat.le_of_lt_succ (Fin.last cfg0.N).isLt)

set_option backward.isDefEq.respectTransparency.types false in
/-- THE RUN: every fair execution ends with the pipeline's arrays at what the points wrote, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Hand
-- ==== Proof.AttnModel.lean ====
/-
  The gradient of block-causal attention over the reals, for one head.
-/
module

public import Idealize.ShloMosaic.PureOps.Ideal
public import Mathlib.Algebra.BigOperators.Intervals
public import Mathlib.Analysis.SpecialFunctions.Log.Basic

@[expose] public section

noncomputable section

namespace Cert.Attn

open Idealize.ShloMosaic

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- One head: its queries, keys, values, the gradient of its output, and the number its scores are lowered by. -/
structure Head where
  q : ℕ → ℕ → ℝ
  k : ℕ → ℕ → ℝ
  v : ℕ → ℕ → ℝ
  g : ℕ → ℕ → ℝ
  m : ℕ → ℝ

namespace Head

variable (H : Head)

def s (a b : ℕ) : ℝ := ∑ d : Fin 128, H.q a d * H.k b d
def e (a b : ℕ) : ℝ := if b / 64 ≤ a / 64 then Real.exp (H.s a b - H.m a) else 0
def l (a : ℕ) : ℝ := ∑ b : Fin 4096, H.e a b
def p (a b : ℕ) : ℝ := H.e a b / H.l a
def dp (a b : ℕ) : ℝ := ∑ d : Fin 128, H.g a d * H.v b d
def o (a d : ℕ) : ℝ := ∑ b : Fin 4096, H.p a b * H.v b d
def lse (a : ℕ) : ℝ := H.m a + Real.log (H.l a)
def dl (a : ℕ) : ℝ := ∑ d : Fin 128, H.g a d * H.o a d
def ds (a b : ℕ) : ℝ := H.p a b * (H.dp a b - H.dl a)
def dq (a d : ℕ) : ℝ := ∑ b : Fin 4096, H.ds a b * H.k b d
def dk (b d : ℕ) : ℝ := ∑ a : Fin 4096, H.ds a b * H.q a d
def dv (b d : ℕ) : ℝ := ∑ a : Fin 4096, H.p a b * H.g a d

theorem e_nonneg (a b : ℕ) : 0 ≤ H.e a b := by
  unfold e; split
  · exact (Real.exp_pos _).le
  · exact le_refl _

theorem l_pos (a : ℕ) (h : a < 4096) : 0 < H.l a := by
  refine lt_of_lt_of_le ?_ (Finset.single_le_sum (f := fun b : Fin 4096 => H.e a b) (fun b _ => H.e_nonneg a b) (Finset.mem_univ (⟨a, h⟩ : Fin 4096)))
  unfold e
  rw [if_pos (le_refl _)]
  exact Real.exp_pos _

/-- A probability from the logarithm of the sum. -/
theorem exp_lse (a b : ℕ) (h : a < 4096) (hb : b / 64 ≤ a / 64) : Real.exp (H.s a b - H.lse a) = H.p a b := by
  unfold p e lse
  rw [if_pos hb, ← sub_sub, Real.exp_sub, Real.exp_log (H.l_pos a h)]

theorem p_zero (a b : ℕ) (hb : ¬ b / 64 ≤ a / 64) : H.p a b = 0 := by
  unfold p e; rw [if_neg hb, zero_div]

theorem ds_zero (a b : ℕ) (hb : ¬ b / 64 ≤ a / 64) : H.ds a b = 0 := by
  unfold ds; rw [H.p_zero a b hb, zero_mul]

/-- The row sums of the gradient against the output are those of the probabilities' gradient against the probabilities. -/
theorem dl_eq (a : ℕ) : H.dl a = ∑ b : Fin 4096, H.p a b * H.dp a b := by
  unfold dl o dp
  simp only [Finset.mul_sum]
  rw [Finset.sum_comm]
  refine Finset.sum_congr rfl fun b _ => Finset.sum_congr rfl fun d _ => ?_
  ring

/-- The scores' gradient as the chain rule through the quotient gives it. -/
theorem ds_quot (a b : ℕ) (h : a < 4096) :
    (H.dp a b / H.l a + -(∑ c : Fin 4096, H.dp a c * (1 / (H.l a * H.l a)) * H.e a c)) * H.e a b = H.ds a b := by
  have hl : H.l a ≠ 0 := (H.l_pos a h).ne'
  unfold ds
  rw [H.dl_eq]
  have e1 : (∑ c : Fin 4096, H.dp a c * (1 / (H.l a * H.l a)) * H.e a c) = (∑ c : Fin 4096, H.p a c * H.dp a c) / H.l a := by
    rw [Finset.sum_div]
    refine Finset.sum_congr rfl fun c _ => ?_
    unfold p; field_simp
  rw [e1]
  unfold p
  field_simp
  ring

/-! ## Sums by tiles -/

theorem sum_tile (f : ℕ → ℝ) (u n : ℕ) : ∑ a ∈ Finset.Ico u (u + n), f a = ∑ a : Fin n, f (u + a) := by
  rw [Finset.sum_Ico_eq_sum_range, Nat.add_sub_cancel_left, Finset.sum_range]

theorem sum_grow (f : ℕ → ℝ) (w u n : ℕ) (h : w ≤ u) :
    ∑ a ∈ Finset.Ico w (u + n), f a = (∑ a ∈ Finset.Ico w u, f a) + ∑ a : Fin n, f (u + a) := by
  rw [← sum_tile, Finset.sum_Ico_consecutive _ h (Nat.le_add_right _ _)]

theorem sum_all (f : ℕ → ℝ) (w : ℕ) (hw : w ≤ 4096) (h : ∀ a, a < w → f a = 0) : ∑ a ∈ Finset.Ico w 4096, f a = ∑ a : Fin 4096, f a := by
  rw [← Finset.sum_range (f := f), Finset.range_eq_Ico, ← Finset.sum_Ico_consecutive _ (Nat.zero_le w) hw,
    Finset.sum_eq_zero (s := Finset.Ico 0 w) fun a ha => h a (Finset.mem_Ico.mp ha).2, zero_add]

/-- A tile of 512 keys' part of a query's gradient. -/
def dqT (j a d : ℕ) : ℝ := ∑ r : Fin 512, H.ds a (512 * j + r) * H.k (512 * j + r) d

/-- The tiles before the `n`-th make up their part of a query's gradient. -/
def dqS (n a d : ℕ) : ℝ := ∑ b ∈ Finset.Ico 0 (512 * n), H.ds a b * H.k b d

theorem dqS_succ (n a d : ℕ) : H.dqS (n + 1) a d = H.dqS n a d + H.dqT n a d := by
  unfold dqS dqT
  rw [show 512 * (n + 1) = 512 * n + 512 by ring, sum_grow _ _ _ _ (Nat.zero_le _)]

theorem dqT_zero (j a d : ℕ) (h : a < 512 * j) : H.dqT j a d = 0 :=
  Finset.sum_eq_zero fun r _ => by rw [H.ds_zero a _ (by omega), zero_mul]

theorem dqS_all (a d : ℕ) : H.dqS 8 a d = H.dq a d := by
  unfold dqS dq
  exact sum_all _ 0 (Nat.zero_le _) fun a h => absurd h (Nat.not_lt_zero a)

theorem dk_all (b d : ℕ) (w : ℕ) (hw : w ≤ 4096) (h : ∀ a, a < w → ¬ b / 64 ≤ a / 64) :
    ∑ a ∈ Finset.Ico w 4096, H.ds a b * H.q a d = H.dk b d :=
  sum_all _ w hw fun a ha => by rw [H.ds_zero a b (h a ha), zero_mul]

theorem dv_all (b d : ℕ) (w : ℕ) (hw : w ≤ 4096) (h : ∀ a, a < w → ¬ b / 64 ≤ a / 64) :
    ∑ a ∈ Finset.Ico w 4096, H.p a b * H.g a d = H.dv b d :=
  sum_all _ w hw fun a ha => by rw [H.p_zero a b (h a ha), zero_mul]

end Head
end Cert.Attn
-- ==== Proof.AttnPay.lean ====
/-
  One tile of the gradient of attention, read at an index and then over the reals.
-/
module

public import proofs.«01_k».proof.Proof.AttnLaunch
public import proofs.«01_k».proof.Proof.AttnModel
public import Idealize.ShloMosaic.Lib.Pipeline.ValueKit
public import Idealize.ShloMosaic.Lib.Pointwise

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen
open Cert.Attn (Head coe_sum)

theorem sle_ofNat (a b : ℕ) (ha : a < 64) (hb : b < 64) : IntOp.cmpi CmpIPredicate.sle (BitVec.ofNat 32 a) (BitVec.ofNat 32 b) = if a ≤ b then 1#1 else 0#1 := by
  have h : ∀ a b : Fin 64, IntOp.cmpi CmpIPredicate.sle (BitVec.ofNat 32 a.val) (BitVec.ofNat 32 b.val) = if a.val ≤ b.val then 1#1 else 0#1 := by decide +kernel
  exact h ⟨a, ha⟩ ⟨b, hb⟩

theorem k0_pay17_apply (r : Fin 512) (c : Fin 1024) : k0_pay17 (ix2 r c) = BitVec.ofNat 32 (r.val / 64) := by
  unfold k0_pay17
  pointwise
  clear c
  revert r
  decide +kernel

theorem chunk_1024 (r : Fin 512) (c : Fin 1024) :
    Scalar.select (IntOp.andi (IntOp.cmpi CmpIPredicate.ne (k0_pay19 (ix2 r c)) (Scalar.subi (Scalar.extui (Scalar.cmpi CmpIPredicate.sgt 64#32 0#32)) (Scalar.extui (Scalar.cmpi CmpIPredicate.slt 64#32 0#32)))) (IntOp.cmpi CmpIPredicate.ne (IntOp.remsi ArithUnit.vector (BitVec.ofNat 32 c.val) 64#32) 0#32)) (IntOp.subi (k0_pay18 (ix2 r c)) 1#32) (k0_pay18 (ix2 r c))
      = BitVec.ofNat 32 (c.val / 64) := by
  unfold k0_pay18 k0_pay19
  pointwise
  clear r
  revert c
  decide +kernel

theorem k0_pay20_apply (s : FVec Ideal S512x1024 .f32) (l : FVec Ideal S1x1x1024 .f32) (r : Fin 512) (c : Fin 1024) :
    k0_pay20 (F := Ideal) s k0_pay17 (iota .tc S512x1024 32 [1] iota_S512x1024_d1_w32) 64#32 k0_pay18 k0_pay19 0#32 l (ix2 r c) = Ideal.exp ((if r.val / 64 ≤ c.val / 64 then s (ix2 r c) else (⊥ : EReal)) - l (ix3 0 0 c)) := by
  unfold k0_pay20
  pointwise
  rw [chunk_1024 r c, k0_pay17_apply, sle_ofNat _ _ (by have := r.isLt; omega) (by have := c.isLt; omega)]
  split
  · rfl
  · rfl

theorem k0_pay16_apply (k : FVec Ideal S512x128 .bf16) (q : FVec Ideal S1024x128 .bf16) (r : Fin 512) (c : Fin 1024) :
    k0_pay16 (F := Ideal) k q (ix2 r c) = ∑ d : Fin 128, (k (ix2 r d) : EReal) * q (ix2 c d) := by
  unfold k0_pay16
  pointwise

theorem k0_pay22_apply (v : FVec Ideal S512x128 .bf16) (o : FVec Ideal S1024x128 .bf16) (s : FVec Ideal S512x1024 .f32) (l : FVec Ideal S1x1x1024 .f32) (dl : FVec Ideal S1x1024 .f32) (r : Fin 512) (c : Fin 1024) :
    k0_pay22 (F := Ideal) v o s k0_pay17 (iota .tc S512x1024 32 [1] iota_S512x1024_d1_w32) 64#32 k0_pay18 k0_pay19 0#32 l dl (ix2 r c) = (k0_pay20 (F := Ideal) s k0_pay17 (iota .tc S512x1024 32 [1] iota_S512x1024_d1_w32) 64#32 k0_pay18 k0_pay19 0#32 l (ix2 r c) : EReal) * ((∑ d : Fin 128, (v (ix2 r d) : EReal) * o (ix2 c d)) - dl (ix2 0 c)) := by
  unfold k0_pay22
  pointwise

theorem k0_pay23_apply (v : FVec Ideal S512x128 .bf16) (q o : FVec Ideal S1024x128 .bf16) (s : FVec Ideal S512x1024 .f32) (l : FVec Ideal S1x1x1024 .f32) (dl : FVec Ideal S1x1024 .f32) (x : FVec Ideal S512x128 .f32) (r : Fin 512) (d : Fin 128) :
    k0_pay43 (F := Ideal) (k0_pay23 (F := Ideal) v q o s k0_pay17 (iota .tc S512x1024 32 [1] iota_S512x1024_d1_w32) 64#32 k0_pay18 k0_pay19 0#32 l dl x) (ix2 r d) = (x (ix2 r d) : EReal) + ∑ c : Fin 1024, (k0_pay22 (F := Ideal) v o s k0_pay17 (iota .tc S512x1024 32 [1] iota_S512x1024_d1_w32) 64#32 k0_pay18 k0_pay19 0#32 l dl (ix2 r c) : EReal) * q (ix2 c d) := by
  unfold k0_pay43 k0_pay23
  pointwise

theorem k0_pay21_apply (o : FVec Ideal S1024x128 .bf16) (s : FVec Ideal S512x1024 .f32) (l : FVec Ideal S1x1x1024 .f32) (x : FVec Ideal S512x128 .f32) (r : Fin 512) (d : Fin 128) :
    k0_pay21 (F := Ideal) o s k0_pay17 (iota .tc S512x1024 32 [1] iota_S512x1024_d1_w32) 64#32 k0_pay18 k0_pay19 0#32 l x (ix2 r d) = (x (ix2 r d) : EReal) + ∑ c : Fin 1024, (k0_pay20 (F := Ideal) s k0_pay17 (iota .tc S512x1024 32 [1] iota_S512x1024_d1_w32) 64#32 k0_pay18 k0_pay19 0#32 l (ix2 r c) : EReal) * o (ix2 c d) := by
  unfold k0_pay21
  pointwise

theorem k0_pay44_apply (k : FVec Ideal S512x128 .bf16) (ds : FVec Ideal S512x1024 .bf16) (x : FVec Ideal S1024x128 .f32) (c : Fin 1024) (d : Fin 128) :
    k0_pay44 (F := Ideal) k ds x (ix2 c d) = (x (ix2 c d) : EReal) + ∑ r : Fin 512, (ds (ix2 r c) : EReal) * k (ix2 r d) := by
  unfold k0_pay44
  pointwise

theorem k0_pay25_apply (r : Fin 512) (c : Fin 512) : k0_pay25 (ix2 r c) = BitVec.ofNat 32 (r.val / 64) := by
  unfold k0_pay25
  pointwise
  clear c
  revert r
  decide +kernel

theorem chunk_512 (r : Fin 512) (c : Fin 512) :
    Scalar.select (IntOp.andi (IntOp.cmpi CmpIPredicate.ne (k0_pay27 (ix2 r c)) (Scalar.subi (Scalar.extui (Scalar.cmpi CmpIPredicate.sgt 64#32 0#32)) (Scalar.extui (Scalar.cmpi CmpIPredicate.slt 64#32 0#32)))) (IntOp.cmpi CmpIPredicate.ne (IntOp.remsi ArithUnit.vector (BitVec.ofNat 32 c.val) 64#32) 0#32)) (IntOp.subi (k0_pay26 (ix2 r c)) 1#32) (k0_pay26 (ix2 r c))
      = BitVec.ofNat 32 (c.val / 64) := by
  unfold k0_pay26 k0_pay27
  pointwise
  clear r
  revert c
  decide +kernel

theorem k0_pay28_apply (s : FVec Ideal S512x512 .f32) (l : FVec Ideal S1x1x512 .f32) (r : Fin 512) (c : Fin 512) :
    k0_pay28 (F := Ideal) s k0_pay25 (iota .tc S512x512 32 [1] iota_S512x512_d1_w32) 64#32 k0_pay26 k0_pay27 0#32 l (ix2 r c) = Ideal.exp ((if r.val / 64 ≤ c.val / 64 then s (ix2 r c) else (⊥ : EReal)) - l (ix3 0 0 c)) := by
  unfold k0_pay28
  pointwise
  rw [chunk_512 r c, k0_pay25_apply, sle_ofNat _ _ (by have := r.isLt; omega) (by have := c.isLt; omega)]
  split
  · rfl
  · rfl

theorem k0_pay24_apply (k : FVec Ideal S512x128 .bf16) (q : FVec Ideal S512x128 .bf16) (r : Fin 512) (c : Fin 512) :
    k0_pay24 (F := Ideal) k q (ix2 r c) = ∑ d : Fin 128, (k (ix2 r d) : EReal) * q (ix2 c d) := by
  unfold k0_pay24
  pointwise

theorem k0_pay30_apply (v : FVec Ideal S512x128 .bf16) (o : FVec Ideal S512x128 .bf16) (s : FVec Ideal S512x512 .f32) (l : FVec Ideal S1x1x512 .f32) (dl : FVec Ideal S1x512 .f32) (r : Fin 512) (c : Fin 512) :
    k0_pay30 (F := Ideal) v o s k0_pay25 (iota .tc S512x512 32 [1] iota_S512x512_d1_w32) 64#32 k0_pay26 k0_pay27 0#32 l dl (ix2 r c) = (k0_pay28 (F := Ideal) s k0_pay25 (iota .tc S512x512 32 [1] iota_S512x512_d1_w32) 64#32 k0_pay26 k0_pay27 0#32 l (ix2 r c) : EReal) * ((∑ d : Fin 128, (v (ix2 r d) : EReal) * o (ix2 c d)) - dl (ix2 0 c)) := by
  unfold k0_pay30
  pointwise

theorem k0_pay31_apply (v : FVec Ideal S512x128 .bf16) (q o : FVec Ideal S512x128 .bf16) (s : FVec Ideal S512x512 .f32) (l : FVec Ideal S1x1x512 .f32) (dl : FVec Ideal S1x512 .f32) (x : FVec Ideal S512x128 .f32) (r : Fin 512) (d : Fin 128) :
    k0_pay45 (F := Ideal) (k0_pay31 (F := Ideal) v q o s k0_pay25 (iota .tc S512x512 32 [1] iota_S512x512_d1_w32) 64#32 k0_pay26 k0_pay27 0#32 l dl x) (ix2 r d) = (x (ix2 r d) : EReal) + ∑ c : Fin 512, (k0_pay30 (F := Ideal) v o s k0_pay25 (iota .tc S512x512 32 [1] iota_S512x512_d1_w32) 64#32 k0_pay26 k0_pay27 0#32 l dl (ix2 r c) : EReal) * q (ix2 c d) := by
  unfold k0_pay45 k0_pay31
  pointwise

theorem k0_pay29_apply (o : FVec Ideal S512x128 .bf16) (s : FVec Ideal S512x512 .f32) (l : FVec Ideal S1x1x512 .f32) (x : FVec Ideal S512x128 .f32) (r : Fin 512) (d : Fin 128) :
    k0_pay29 (F := Ideal) o s k0_pay25 (iota .tc S512x512 32 [1] iota_S512x512_d1_w32) 64#32 k0_pay26 k0_pay27 0#32 l x (ix2 r d) = (x (ix2 r d) : EReal) + ∑ c : Fin 512, (k0_pay28 (F := Ideal) s k0_pay25 (iota .tc S512x512 32 [1] iota_S512x512_d1_w32) 64#32 k0_pay26 k0_pay27 0#32 l (ix2 r c) : EReal) * o (ix2 c d) := by
  unfold k0_pay29
  pointwise

theorem k0_pay46_apply (k : FVec Ideal S512x128 .bf16) (ds : FVec Ideal S512x512 .bf16) (x : FVec Ideal S512x128 .f32) (c : Fin 512) (d : Fin 128) :
    k0_pay46 (F := Ideal) k ds x (ix2 c d) = (x (ix2 c d) : EReal) + ∑ r : Fin 512, (ds (ix2 r c) : EReal) * k (ix2 r d) := by
  unfold k0_pay46
  pointwise

theorem k0_pay32_apply (k : FVec Ideal S512x128 .bf16) (q : FVec Ideal S1024x128 .bf16) (l : FVec Ideal S1x1x1024 .f32) (r : Fin 512) (c : Fin 1024) :
    k0_pay32 (F := Ideal) k q l (ix2 r c) = Ideal.exp ((∑ d : Fin 128, (k (ix2 r d) : EReal) * q (ix2 c d)) - l (ix3 0 0 c)) := by
  unfold k0_pay32
  pointwise

theorem k0_pay34_apply (k v : FVec Ideal S512x128 .bf16) (q o : FVec Ideal S1024x128 .bf16) (l : FVec Ideal S1x1x1024 .f32) (dl : FVec Ideal S1x1024 .f32) (r : Fin 512) (c : Fin 1024) :
    k0_pay34 (F := Ideal) k v q o l dl (ix2 r c) = (k0_pay32 (F := Ideal) k q l (ix2 r c) : EReal) * ((∑ d : Fin 128, (v (ix2 r d) : EReal) * o (ix2 c d)) - dl (ix2 0 c)) := by
  unfold k0_pay34
  pointwise

theorem k0_pay35_apply (k v : FVec Ideal S512x128 .bf16) (q o : FVec Ideal S1024x128 .bf16) (l : FVec Ideal S1x1x1024 .f32) (dl : FVec Ideal S1x1024 .f32) (x : FVec Ideal S512x128 .f32) (r : Fin 512) (d : Fin 128) :
    k0_pay35 (F := Ideal) k v q o l dl x (ix2 r d) = (x (ix2 r d) : EReal) + ∑ c : Fin 1024, (k0_pay34 (F := Ideal) k v q o l dl (ix2 r c) : EReal) * q (ix2 c d) := by
  unfold k0_pay35
  pointwise

theorem k0_pay33_apply (k : FVec Ideal S512x128 .bf16) (q o : FVec Ideal S1024x128 .bf16) (l : FVec Ideal S1x1x1024 .f32) (x : FVec Ideal S512x128 .f32) (r : Fin 512) (d : Fin 128) :
    k0_pay33 (F := Ideal) k q o l x (ix2 r d) = (x (ix2 r d) : EReal) + ∑ c : Fin 1024, (k0_pay32 (F := Ideal) k q l (ix2 r c) : EReal) * o (ix2 c d) := by
  unfold k0_pay33
  pointwise

theorem k0_pay1_apply (k : FVec Ideal S512x128 .bf16) (ds : FVec Ideal S512x1024 .bf16) (x : FVec Ideal S1024x128 .f32) (c : Fin 1024) (d : Fin 128) :
    k0_pay1 (F := Ideal) k ds x (ix2 c d) = (x (ix2 c d) : EReal) + ∑ r : Fin 512, (ds (ix2 r c) : EReal) * k (ix2 r d) := by
  unfold k0_pay1
  pointwise

theorem k0_pay6_apply (a b : FVec Ideal S512x128 .bf16) (r : Fin 512) :
    k0_pay6 (F := Ideal) a b (ix2 0 r) = ∑ d : Fin 128, (a (ix2 r d) : EReal) * b (ix2 r d) := by
  unfold k0_pay6
  pointwise

theorem k0_pay5_apply (j : S4096x128.Idx) : k0_pay5 (F := Ideal) j = (0 : EReal) := by
  unfold k0_pay5
  pointwise
theorem k0_pay41_apply (j : S512x128.Idx) : k0_pay41 (F := Ideal) j = (0 : EReal) := by
  unfold k0_pay41
  pointwise
theorem k0_pay42_apply (j : S512x128.Idx) : k0_pay42 (F := Ideal) j = (0 : EReal) := by
  unfold k0_pay42
  pointwise
theorem k0_pay3_apply (x : FVec Ideal S512x128 .f32) (j : S512x128.Idx) : k0_pay3 (F := Ideal) x j = (x j : EReal) := by
  unfold k0_pay3
  pointwise
theorem k0_pay4_apply (x : FVec Ideal S512x128 .f32) (j : S512x128.Idx) : k0_pay4 (F := Ideal) x j = (x j : EReal) := by
  unfold k0_pay4
  pointwise

end Cert.Kernel3Ideal.Hand
-- ==== Proof.AttnOff.lean ====
/-
  Where the rows of a grid point's tiles begin.
-/
module
public import proofs.«01_k».proof.Proof.AttnPay
@[expose] public section
set_option maxRecDepth 16384
noncomputable section
namespace Cert.Kernel3Ideal.Hand
open Idealize.ShloMosaic Idealize.ShloMosaic.TcCoe Idealize.ShloMosaic.Tactic
open Cert.Kernel3Ideal Cert.Kernel3Ideal.Gen
/-- The first query past the diagonal tile. -/
def start (t : ℕ) : ℕ := 512 * (t % 8) + (if t % 2 = 0 then 1024 else 512)
theorem trips_eq : ∀ t : Fin cfg0.N, start t.val + 1024 * (k0_t1_loop (grid0.coords t)).trips = 4096 :=
  (by decide +kernel : ∀ t : Fin grid0.N, start t.val + 1024 * (k0_t1_loop (grid0.coords t)).trips = 4096)
theorem off7_eq : ∀ t : Fin cfg0.N, ∀ n : Fin (k0_t1_loop (grid0.coords t)).trips, k0_off7 (grid0.coords t) n = ![start t.val + 1024 * n.val, 0] :=
  (by decide +kernel : ∀ t : Fin grid0.N, ∀ n : Fin (k0_t1_loop (grid0.coords t)).trips, k0_off7 (grid0.coords t) n = ![start t.val + 1024 * n.val, 0])
theorem off8_eq : ∀ t : Fin cfg0.N, ∀ n : Fin (k0_t1_loop (grid0.coords t)).trips, k0_off8 (grid0.coords t) n = ![0, 0, start t.val + 1024 * n.val] :=
  (by decide +kernel : ∀ t : Fin grid0.N, ∀ n : Fin (k0_t1_loop (grid0.coords t)).trips, k0_off8 (grid0.coords t) n = ![0, 0, start t.val + 1024 * n.val])
theorem off9_eq : ∀ t : Fin cfg0.N, ∀ n : Fin (k0_t1_loop (grid0.coords t)).trips, k0_off9 (grid0.coords t) n = ![0, start t.val + 1024 * n.val] :=
  (by decide +kernel : ∀ t : Fin grid0.N, ∀ n : Fin (k0_t1_loop (grid0.coords t)).trips, k0_off9 (grid0.coords t) n = ![0, start t.val + 1024 * n.val])
theorem off1_eq : ∀ t : Fin cfg0.N, k0_off1 (grid0.coords t) = ![512 * (t.val % 8), 0] :=
  (by decide +kernel : ∀ t : Fin grid0.N, k0_off1 (grid0.coords t) = ![512 * (t.val % 8), 0])
theorem off2_eq : ∀ t : Fin cfg0.N, k0_off2 (grid0.coords t) = ![0, 0, 512 * (t.val % 8)] :=
  (by decide +kernel : ∀ t : Fin grid0.N, k0_off2 (grid0.coords t) = ![0, 0, 512 * (t.val % 8)])
theorem off3_eq : ∀ t : Fin cfg0.N, k0_off3 (grid0.coords t) = ![0, 512 * (t.val % 8)] :=
  (by decide +kernel : ∀ t : Fin grid0.N, k0_off3 (grid0.coords t) = ![0, 512 * (t.val % 8)])
theorem off4_eq : ∀ t : Fin cfg0.N, k0_off4 (grid0.coords t) = ![512 * (t.val % 8), 0] :=
  (by decide +kernel : ∀ t : Fin grid0.N, k0_off4 (grid0.coords t) = ![512 * (t.val % 8), 0])
theorem off5_eq : ∀ t : Fin cfg0.N, k0_off5 (grid0.coords t) = ![0, 0, 512 * (t.val % 8)] :=
  (by decide +kernel : ∀ t : Fin grid0.N, k0_off5 (grid0.coords t) = ![0, 0, 512 * (t.val % 8)])
theorem off6_eq : ∀ t : Fin cfg0.N, k0_off6 (grid0.coords t) = ![0, 512 * (t.val % 8)] :=
  (by decide +kernel : ∀ t : Fin grid0.N, k0_off6 (grid0.coords t) = ![0, 512 * (t.val % 8)])
end Cert.Kernel3Ideal.Hand
-- ==== Proof.AttnTile.lean ====
/-
  A grid point of attention's gradient over the reals: the tiles of queries taken one after another.
-/
module

public import proofs.«01_k».proof.Proof.AttnOff

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen
open Cert.Attn (Head coe_sum)
open VecWindow (window put)

/-! ## Windows of arrays of reals -/

theorem window_rows {n : ℕ} {φ : FTy} (x : FVec Ideal S4096x128 φ) (f : ℕ → ℕ → ℝ) (hx : ∀ (a : Fin 4096) (d : Fin 128), x (ix2 a d) = ((f a d : ℝ) : EReal))
    (off : Fin 2 → ℕ) (u : ℕ) (ho : off = ![u, 0]) (inb : ∀ a, off a + (⟨2, ![n, 128]⟩ : Shape).size a ≤ S4096x128.size a) (c : Fin n) (d : Fin 128) :
    (window x off (⟨2, ![n, 128]⟩ : Shape).size inb : FVec Ideal ⟨2, ![n, 128]⟩ φ) (ix2 c d) = ((f (u + c) d : ℝ) : EReal) := by
  subst ho
  have h : u + n ≤ 4096 := inb 0
  rw [← hx ⟨u + c.val, by omega⟩ d]
  unfold window
  congr 1
  funext a
  match a with
  | 0 => exact Fin.ext (by show u + 1 * c.val = u + c.val; omega)
  | 1 => exact Fin.ext (by show 0 + 1 * d.val = d.val; omega)

theorem window_row3 {n : ℕ} (x : FVec Ideal S1x1x4096 .f32) (f : ℕ → ℝ) (hx : ∀ a : Fin 4096, x (ix3 0 0 a) = ((f a : ℝ) : EReal))
    (off : Fin 3 → ℕ) (u : ℕ) (ho : off = ![0, 0, u]) (inb : ∀ a, off a + (⟨3, ![1, 1, n]⟩ : Shape).size a ≤ S1x1x4096.size a) (c : Fin n) :
    (window x off (⟨3, ![1, 1, n]⟩ : Shape).size inb : FVec Ideal ⟨3, ![1, 1, n]⟩ .f32) (ix3 0 0 c) = ((f (u + c) : ℝ) : EReal) := by
  subst ho
  have h : u + n ≤ 4096 := inb 2
  rw [← hx ⟨u + c.val, by omega⟩]
  unfold window
  congr 1
  funext a
  match a with
  | 0 => rfl
  | 1 => rfl
  | 2 => exact Fin.ext (by show u + 1 * c.val = u + c.val; omega)

theorem window_row2 {n : ℕ} (x : FVec Ideal S1x4096 .f32) (f : ℕ → ℝ) (hx : ∀ a : Fin 4096, x (ix2 0 a) = ((f a : ℝ) : EReal))
    (off : Fin 2 → ℕ) (u : ℕ) (ho : off = ![0, u]) (inb : ∀ a, off a + (⟨2, ![1, n]⟩ : Shape).size a ≤ S1x4096.size a) (c : Fin n) :
    (window x off (⟨2, ![1, n]⟩ : Shape).size inb : FVec Ideal ⟨2, ![1, n]⟩ .f32) (ix2 0 c) = ((f (u + c) : ℝ) : EReal) := by
  subst ho
  have h : u + n ≤ 4096 := inb 1
  rw [← hx ⟨u + c.val, by omega⟩]
  unfold window
  congr 1
  funext a
  match a with
  | 0 => rfl
  | 1 => exact Fin.ext (by show u + 1 * c.val = u + c.val; omega)

theorem put_in {n : ℕ} (x : FVec Ideal S4096x128 .f32) (w : FVec Ideal ⟨2, ![n, 128]⟩ .f32) (off : Fin 2 → ℕ) (u : ℕ) (ho : off = ![u, 0]) (y : Fin 4096) (d : Fin 128)
    (h0 : u ≤ y.val) (h1 : y.val < u + n) : put x off (⟨2, ![n, 128]⟩ : Shape).size w (ix2 y d) = w (ix2 ⟨y.val - u, by omega⟩ d) := by
  subst ho
  unfold put
  rw [dif_pos fun a => by
    match a with
    | 0 => exact ⟨h0, h1⟩
    | 1 => exact ⟨Nat.zero_le _, by show d.val < 0 + 128; omega⟩]
  congr 1
  funext a
  match a with
  | 0 => rfl
  | 1 => rfl

theorem put_out {n : ℕ} (x : FVec Ideal S4096x128 .f32) (w : FVec Ideal ⟨2, ![n, 128]⟩ .f32) (off : Fin 2 → ℕ) (u : ℕ) (ho : off = ![u, 0]) (y : Fin 4096) (d : Fin 128)
    (h : ¬ (u ≤ y.val ∧ y.val < u + n)) : put x off (⟨2, ![n, 128]⟩ : Shape).size w (ix2 y d) = x (ix2 y d) := by
  subst ho
  unfold put
  exact dif_neg fun hh => h (hh 0)

/-! ## The state between tiles -/

variable (H : Head)

/-- The tiles up to query `u` are in: the queries' gradient, and the sums of the keys and of the values. -/
def GoodQ (dq0 : ℕ → ℕ → ℝ) (j u : ℕ) (x : FVec Ideal S4096x128 .f32) : Prop :=
  ∀ (y : Fin 4096) (d : Fin 128), x (ix2 y d) = ((dq0 y d + (if 512 * j ≤ y.val ∧ y.val < u then H.dqT j y d else 0) : ℝ) : EReal)
def GoodK (j u : ℕ) (x : FVec Ideal S512x128 .f32) : Prop :=
  ∀ (r : Fin 512) (d : Fin 128), x (ix2 r d) = ((∑ a ∈ Finset.Ico (512 * j) u, H.ds a (512 * j + r) * H.q a d : ℝ) : EReal)
def GoodV (j u : ℕ) (x : FVec Ideal S512x128 .f32) : Prop :=
  ∀ (r : Fin 512) (d : Fin 128), x (ix2 r d) = ((∑ a ∈ Finset.Ico (512 * j) u, H.p a (512 * j + r) * H.g a d : ℝ) : EReal)
def Good (dq0 : ℕ → ℕ → ℝ) (j u : ℕ) (s : St Ideal) : Prop := GoodQ H dq0 j u s.1 ∧ GoodK H j u s.2.1 ∧ GoodV H j u s.2.2

theorem goodQ_next {n : ℕ} (dq0 : ℕ → ℕ → ℝ) (j u : ℕ) (x : FVec Ideal S4096x128 .f32) (hx : GoodQ H dq0 j u x) (hu : 512 * j ≤ u) (off : Fin 2 → ℕ) (ho : off = ![u, 0])
    (inb : ∀ a, off a + (⟨2, ![n, 128]⟩ : Shape).size a ≤ S4096x128.size a) (w : FVec Ideal ⟨2, ![n, 128]⟩ .f32) (ds : Fin 512 → Fin n → EReal) (k : FVec Ideal S512x128 .bf16)
    (hw : ∀ (c : Fin n) (d : Fin 128), w (ix2 c d) = ((window x off (⟨2, ![n, 128]⟩ : Shape).size inb : FVec Ideal ⟨2, ![n, 128]⟩ .f32) (ix2 c d) : EReal) + ∑ r : Fin 512, ds r c * (k (ix2 r d) : EReal))
    (hds : ∀ (r : Fin 512) (c : Fin n), ds r c = ((H.ds (u + c) (512 * j + r) : ℝ) : EReal)) (hk : ∀ (r : Fin 512) (d : Fin 128), k (ix2 r d) = ((H.k (512 * j + r) d : ℝ) : EReal)) :
    GoodQ H dq0 j (u + n) (put x off (⟨2, ![n, 128]⟩ : Shape).size w) := by
  intro y d
  by_cases h : u ≤ y.val ∧ y.val < u + n
  · rw [put_in x w off u ho y d h.1 h.2, hw, window_rows x (fun y d => dq0 y d + (if 512 * j ≤ y ∧ y < u then H.dqT j y d else 0)) hx off u ho inb]
    simp only [hds, hk]
    simp only [← EReal.coe_mul, ← coe_sum, ← EReal.coe_add]
    rw [show u + (y.val - u) = y.val by omega, if_neg (by omega), if_pos (by omega), add_zero]
    rfl
  · rw [put_out x w off u ho y d h, hx y d]
    congr 3
    rw [show (512 * j ≤ y.val ∧ y.val < u) = (512 * j ≤ y.val ∧ y.val < u + n) from propext (by omega)]

theorem goodK_next {n : ℕ} (j u : ℕ) (x x' : FVec Ideal S512x128 .f32) (hx : GoodK H j u x) (hu : 512 * j ≤ u) (ds : Fin 512 → Fin n → EReal) (q : FVec Ideal ⟨2, ![n, 128]⟩ .bf16)
    (hw : ∀ (r : Fin 512) (d : Fin 128), x' (ix2 r d) = (x (ix2 r d) : EReal) + ∑ c : Fin n, ds r c * (q (ix2 c d) : EReal))
    (hds : ∀ (r : Fin 512) (c : Fin n), ds r c = ((H.ds (u + c) (512 * j + r) : ℝ) : EReal)) (hq : ∀ (c : Fin n) (d : Fin 128), q (ix2 c d) = ((H.q (u + c) d : ℝ) : EReal)) :
    GoodK H j (u + n) x' := by
  intro r d
  rw [hw, hx]
  simp only [hds, hq]
  simp only [← EReal.coe_mul, ← coe_sum, ← EReal.coe_add]
  rw [Head.sum_grow _ _ _ _ hu]

theorem goodV_next {n : ℕ} (j u : ℕ) (x x' : FVec Ideal S512x128 .f32) (hx : GoodV H j u x) (hu : 512 * j ≤ u) (p : Fin 512 → Fin n → EReal) (g : FVec Ideal ⟨2, ![n, 128]⟩ .bf16)
    (hw : ∀ (r : Fin 512) (d : Fin 128), x' (ix2 r d) = (x (ix2 r d) : EReal) + ∑ c : Fin n, p r c * (g (ix2 c d) : EReal))
    (hp : ∀ (r : Fin 512) (c : Fin n), p r c = ((H.p (u + c) (512 * j + r) : ℝ) : EReal)) (hg : ∀ (c : Fin n) (d : Fin 128), g (ix2 c d) = ((H.g (u + c) d : ℝ) : EReal)) :
    GoodV H j (u + n) x' := by
  intro r d
  rw [hw, hx]
  simp only [hp, hg]
  simp only [← EReal.coe_mul, ← coe_sum, ← EReal.coe_add]
  rw [Head.sum_grow _ _ _ _ hu]

/-- A tile's probability and its score's gradient, from the rows they are made of. -/
theorem tile_p {n : ℕ} (j u : ℕ) (hu : u + n ≤ 4096) (k : FVec Ideal S512x128 .bf16) (q : FVec Ideal ⟨2, ![n, 128]⟩ .bf16) (l : FVec Ideal ⟨3, ![1, 1, n]⟩ .f32)
    (hk : ∀ (r : Fin 512) (d : Fin 128), k (ix2 r d) = ((H.k (512 * j + r) d : ℝ) : EReal)) (hq : ∀ (c : Fin n) (d : Fin 128), q (ix2 c d) = ((H.q (u + c) d : ℝ) : EReal))
    (hl : ∀ c : Fin n, l (ix3 0 0 c) = ((H.lse (u + c) : ℝ) : EReal)) (r : Fin 512) (c : Fin n) (h : (512 * j + r.val) / 64 ≤ (u + c.val) / 64) :
    Ideal.exp ((∑ d : Fin 128, (k (ix2 r d) : EReal) * q (ix2 c d)) - l (ix3 0 0 c)) = ((H.p (u + c) (512 * j + r) : ℝ) : EReal) := by
  simp only [hk, hq, hl]
  simp only [← EReal.coe_mul, ← coe_sum, ← EReal.coe_sub]
  rw [Ideal.exp_coe, ← H.exp_lse _ _ (by omega) h]
  unfold Head.s
  simp only [mul_comm]

theorem tile_ds {n : ℕ} (j u : ℕ) (v : FVec Ideal S512x128 .bf16) (o : FVec Ideal ⟨2, ![n, 128]⟩ .bf16) (dl : FVec Ideal ⟨2, ![1, n]⟩ .f32)
    (hv : ∀ (r : Fin 512) (d : Fin 128), v (ix2 r d) = ((H.v (512 * j + r) d : ℝ) : EReal)) (ho : ∀ (c : Fin n) (d : Fin 128), o (ix2 c d) = ((H.g (u + c) d : ℝ) : EReal))
    (hd : ∀ c : Fin n, dl (ix2 0 c) = ((H.dl (u + c) : ℝ) : EReal)) (r : Fin 512) (c : Fin n) (p : EReal) (hp : p = ((H.p (u + c) (512 * j + r) : ℝ) : EReal)) :
    p * ((∑ d : Fin 128, (v (ix2 r d) : EReal) * o (ix2 c d)) - dl (ix2 0 c)) = ((H.ds (u + c) (512 * j + r) : ℝ) : EReal) := by
  simp only [hv, ho, hd, hp]
  simp only [← EReal.coe_mul, ← coe_sum, ← EReal.coe_sub]
  unfold Head.ds Head.dp
  simp only [mul_comm]

/-! ## The tiles -/

section
variable (q : Vec Ideal S4096x128 .bf16) (k v : Vec Ideal S512x128 .bf16) (do_ : Vec Ideal S4096x128 .bf16) (lse : Vec Ideal S1x1x4096 .f32) (dl : Vec Ideal S1x4096 .f32)

/-- What a point is given, as reals. -/
structure Given (j : ℕ) : Prop where
  q : ∀ (a : Fin 4096) (d : Fin 128), q (ix2 a d) = ((H.q a d : ℝ) : EReal)
  g : ∀ (a : Fin 4096) (d : Fin 128), do_ (ix2 a d) = ((H.g a d : ℝ) : EReal)
  k : ∀ (r : Fin 512) (d : Fin 128), k (ix2 r d) = ((H.k (512 * j + r) d : ℝ) : EReal)
  v : ∀ (r : Fin 512) (d : Fin 128), v (ix2 r d) = ((H.v (512 * j + r) d : ℝ) : EReal)
  l : ∀ a : Fin 4096, lse (ix3 0 0 a) = ((H.lse a : ℝ) : EReal)
  d : ∀ a : Fin 4096, dl (ix2 0 a) = ((H.dl a : ℝ) : EReal)

variable (t : Fin cfg0.N) (dq0 : ℕ → ℕ → ℝ)

theorem good_trip (G : Given H q k v do_ lse dl (t.val % 8)) (n : Fin (k0_t1_loop (grid0.coords t)).trips) (s : St Ideal) (hs : Good H dq0 (t.val % 8) (start t.val + 1024 * n.val) s) :
    Good H dq0 (t.val % 8) (start t.val + 1024 * (n.val + 1)) (trip (grid0.coords t) q k v do_ lse dl n s) := by
  have hb : 512 * (t.val % 8) + 512 ≤ start t.val + 1024 * n.val := by unfold start; split <;> omega
  have hn : start t.val + 1024 * n.val + 1024 ≤ 4096 := by have := trips_eq t; have := n.isLt; omega
  have h7 := off7_eq t n
  have h8 := off8_eq t n
  have h9 := off9_eq t n
  rw [show start t.val + 1024 * (n.val + 1) = start t.val + 1024 * n.val + 1024 by ring]
  generalize start t.val + 1024 * n.val = u at hs hb hn h7 h8 h9 ⊢
  generalize t.val % 8 = j at G hs hb ⊢
  have Q := fun (c : Fin 1024) (d : Fin 128) => window_rows (n := 1024) (φ := .bf16) q H.q G.q _ u h7 (k0_off7_inb (grid0.coords t) n) c d
  have O := fun (c : Fin 1024) (d : Fin 128) => window_rows (n := 1024) (φ := .bf16) do_ H.g G.g _ u h7 (k0_off7_inb (grid0.coords t) n) c d
  have L := fun (c : Fin 1024) => window_row3 (n := 1024) lse H.lse G.l _ u h8 (k0_off8_inb (grid0.coords t) n) c
  have D := fun (c : Fin 1024) => window_row2 (n := 1024) dl H.dl G.d _ u h9 (k0_off9_inb (grid0.coords t) n) c
  have P := fun (r : Fin 512) (c : Fin 1024) => (k0_pay32_apply k _ _ r c).trans (tile_p H j u hn k _ _ G.k Q L r c (by omega))
  have S := fun (r : Fin 512) (c : Fin 1024) => (k0_pay34_apply k v _ _ _ _ r c).trans (tile_ds H j u v _ _ G.v O D r c _ (P r c))
  refine ⟨?_, ?_, ?_⟩
  · exact goodQ_next H dq0 j u s.1 hs.1 (by omega) _ h7 (k0_off7_inb (grid0.coords t) n) _ _ k (fun c d => k0_pay1_apply k _ _ c d) S G.k
  · exact goodK_next H j u s.2.1 _ hs.2.1 (by omega) _ _ (fun r d => k0_pay35_apply k v _ _ _ _ _ r d) S Q
  · exact goodV_next H j u s.2.2 _ hs.2.2 (by omega) _ _ (fun r d => k0_pay33_apply k _ _ _ _ r d) P O

theorem good_iter (G : Given H q k v do_ lse dl (t.val % 8)) (s : St Ideal) (hs : Good H dq0 (t.val % 8) (start t.val) s) :
    Good H dq0 (t.val % 8) 4096 (iter (grid0.coords t) q k v do_ lse dl s (k0_t1_loop (grid0.coords t)).trips) := by
  rw [← trips_eq t]
  have key : ∀ n, n ≤ (k0_t1_loop (grid0.coords t)).trips → Good H dq0 (t.val % 8) (start t.val + 1024 * n) (iter (grid0.coords t) q k v do_ lse dl s n) := fun n => by
    induction n with
    | zero => exact fun _ => hs
    | succ n ih =>
      intro hn
      rw [show iter (grid0.coords t) q k v do_ lse dl s (n + 1) = trip (grid0.coords t) q k v do_ lse dl ⟨n, hn⟩ (iter (grid0.coords t) q k v do_ lse dl s n) from dif_pos hn]
      exact good_trip H q k v do_ lse dl t dq0 G ⟨n, hn⟩ _ (ih (Nat.le_of_succ_le hn))
  exact key _ (le_refl _)

theorem good_wide (G : Given H q k v do_ lse dl (t.val % 8)) (h : k0_cond2 (grid0.coords t) = 1#1) (ht : t.val % 2 = 0) (s : St Ideal) (hs : Good H dq0 (t.val % 8) (512 * (t.val % 8)) s) :
    Good H dq0 (t.val % 8) (512 * (t.val % 8) + 1024) (wide (grid0.coords t) q k v do_ lse dl h s) := by
  have h1 := off1_eq t
  have h2 := off2_eq t
  have h3 := off3_eq t
  have hn : 512 * (t.val % 8) + 1024 ≤ 4096 := by omega
  generalize hj : t.val % 8 = j at G hs h1 h2 h3 hn ⊢
  clear hj
  have Q := fun (c : Fin 1024) (d : Fin 128) => window_rows (n := 1024) (φ := .bf16) q H.q G.q _ _ h1 (k0_off1_inb (grid0.coords t) h) c d
  have O := fun (c : Fin 1024) (d : Fin 128) => window_rows (n := 1024) (φ := .bf16) do_ H.g G.g _ _ h1 (k0_off1_inb (grid0.coords t) h) c d
  have L := fun (c : Fin 1024) => window_row3 (n := 1024) lse H.lse G.l _ _ h2 (k0_off2_inb (grid0.coords t) h) c
  have D := fun (c : Fin 1024) => window_row2 (n := 1024) dl H.dl G.d _ _ h3 (k0_off3_inb (grid0.coords t) h) c
  have P := fun (r : Fin 512) (c : Fin 1024) => (k0_pay20_apply (k0_pay16 k _) _ r c).trans (show _ = ((H.p (512 * j + c) (512 * j + r) : ℝ) : EReal) by
    by_cases hc : r.val / 64 ≤ c.val / 64
    · rw [if_pos hc, k0_pay16_apply]
      exact tile_p H j (512 * j) hn k _ _ G.k Q L r c (by omega)
    · rw [if_neg hc, L c, H.p_zero _ _ (by omega)]
      rfl)
  have S := fun (r : Fin 512) (c : Fin 1024) => (k0_pay22_apply v _ _ _ _ r c).trans (tile_ds H j (512 * j) v _ _ G.v O D r c _ (P r c))
  refine ⟨?_, ?_, ?_⟩
  · exact goodQ_next H dq0 j (512 * j) s.1 hs.1 (by omega) _ h1 (k0_off1_inb (grid0.coords t) h) _ _ k (fun c d => k0_pay44_apply k _ _ c d) S G.k
  · exact goodK_next H j (512 * j) s.2.1 _ hs.2.1 (by omega) _ _ (fun r d => k0_pay23_apply v _ _ _ _ _ _ r d) S Q
  · exact goodV_next H j (512 * j) s.2.2 _ hs.2.2 (by omega) _ _ (fun r d => k0_pay21_apply _ _ _ _ r d) P O

theorem good_narrow (G : Given H q k v do_ lse dl (t.val % 8)) (h : k0_cond3 (grid0.coords t) = 1#1) (ht : t.val % 2 = 1) (s : St Ideal) (hs : Good H dq0 (t.val % 8) (512 * (t.val % 8)) s) :
    Good H dq0 (t.val % 8) (512 * (t.val % 8) + 512) (narrow (grid0.coords t) q k v do_ lse dl h s) := by
  have h1 := off4_eq t
  have h2 := off5_eq t
  have h3 := off6_eq t
  have hn : 512 * (t.val % 8) + 512 ≤ 4096 := by omega
  generalize hj : t.val % 8 = j at G hs h1 h2 h3 hn ⊢
  clear hj
  have Q := fun (c : Fin 512) (d : Fin 128) => window_rows (n := 512) (φ := .bf16) q H.q G.q _ _ h1 (k0_off4_inb (grid0.coords t) h) c d
  have O := fun (c : Fin 512) (d : Fin 128) => window_rows (n := 512) (φ := .bf16) do_ H.g G.g _ _ h1 (k0_off4_inb (grid0.coords t) h) c d
  have L := fun (c : Fin 512) => window_row3 (n := 512) lse H.lse G.l _ _ h2 (k0_off5_inb (grid0.coords t) h) c
  have D := fun (c : Fin 512) => window_row2 (n := 512) dl H.dl G.d _ _ h3 (k0_off6_inb (grid0.coords t) h) c
  have P := fun (r : Fin 512) (c : Fin 512) => (k0_pay28_apply (k0_pay24 k _) _ r c).trans (show _ = ((H.p (512 * j + c) (512 * j + r) : ℝ) : EReal) by
    by_cases hc : r.val / 64 ≤ c.val / 64
    · rw [if_pos hc, k0_pay24_apply]
      exact tile_p H j (512 * j) hn k _ _ G.k Q L r c (by omega)
    · rw [if_neg hc, L c, H.p_zero _ _ (by omega)]
      rfl)
  have S := fun (r : Fin 512) (c : Fin 512) => (k0_pay30_apply v _ _ _ _ r c).trans (tile_ds H j (512 * j) v _ _ G.v O D r c _ (P r c))
  refine ⟨?_, ?_, ?_⟩
  · exact goodQ_next H dq0 j (512 * j) s.1 hs.1 (by omega) _ h1 (k0_off4_inb (grid0.coords t) h) _ _ k (fun c d => k0_pay46_apply k _ _ c d) S G.k
  · exact goodK_next H j (512 * j) s.2.1 _ hs.2.1 (by omega) _ _ (fun r d => k0_pay31_apply v _ _ _ _ _ _ r d) S Q
  · exact goodV_next H j (512 * j) s.2.2 _ hs.2.2 (by omega) _ _ (fun r d => k0_pay29_apply _ _ _ _ r d) P O

/-- What a point leaves: its part added to the queries' gradient, and its keys' and values' gradients. -/
theorem good_step (G : Given H q k v do_ lse dl (t.val % 8)) (dq : Vec Ideal S4096x128 .f32) (hdq : ∀ (y : Fin 4096) (d : Fin 128), dq (ix2 y d) = ((dq0 y d : ℝ) : EReal)) :
    (∀ (y : Fin 4096) (d : Fin 128), (step (grid0.coords t) q k v do_ lse dl dq).1 (ix2 y d) = ((dq0 y d + H.dqT (t.val % 8) y d : ℝ) : EReal))
    ∧ (∀ (r : Fin 512) (d : Fin 128), (step (grid0.coords t) q k v do_ lse dl dq).2.1 (ix2 r d) = ((H.dk (512 * (t.val % 8) + r) d : ℝ) : EReal))
    ∧ (∀ (r : Fin 512) (d : Fin 128), (step (grid0.coords t) q k v do_ lse dl dq).2.2 (ix2 r d) = ((H.dv (512 * (t.val % 8) + r) d : ℝ) : EReal)) := by
  have h0 : Good H dq0 (t.val % 8) (512 * (t.val % 8)) (dq, k0_pay41 (F := Ideal), k0_pay42 (F := Ideal)) := ⟨fun y d => by
      rw [if_neg (by omega), add_zero]; exact hdq y d, fun r d => by
      rw [Finset.Ico_self, Finset.sum_empty, EReal.coe_zero]; exact k0_pay41_apply (ix2 r d), fun r d => by
      rw [Finset.Ico_self, Finset.sum_empty, EReal.coe_zero]; exact k0_pay42_apply (ix2 r d)⟩
  have key : Good H dq0 (t.val % 8) 4096 (step (grid0.coords t) q k v do_ lse dl dq) := by
    unfold step
    by_cases h2 : t.val % 2 = 0
    · rw [dif_pos ((cond2_iff t).mpr h2)]
      refine good_iter H q k v do_ lse dl t dq0 G _ ?_
      have := good_wide H q k v do_ lse dl t dq0 G ((cond2_iff t).mpr h2) h2 _ h0
      rwa [show start t.val = 512 * (t.val % 8) + 1024 by unfold start; rw [if_pos h2]]
    · have h3 : t.val % 2 = 1 := by omega
      rw [dif_neg ((cond2_iff t).not.mpr h2), dif_pos ((cond3_iff t).mpr h3)]
      refine good_iter H q k v do_ lse dl t dq0 G _ ?_
      have := good_narrow H q k v do_ lse dl t dq0 G ((cond3_iff t).mpr h3) h3 _ h0
      rwa [show start t.val = 512 * (t.val % 8) + 512 by unfold start; rw [if_neg h2]]
  generalize step (grid0.coords t) q k v do_ lse dl dq = s at key
  obtain ⟨kq, kk, kv⟩ := key
  refine ⟨fun y d => ?_, fun r d => ?_, fun r d => ?_⟩
  · rw [kq y d]
    by_cases h : 512 * (t.val % 8) ≤ y.val
    · rw [if_pos ⟨h, y.isLt⟩]
    · rw [if_neg (by omega), H.dqT_zero _ _ _ (by omega)]
  · rw [kk r d, H.dk_all _ _ _ (by omega) fun a ha => by omega]
  · rw [kv r d, H.dv_all _ _ _ (by omega) fun a ha => by omega]

end
end Cert.Kernel3Ideal.Hand
-- ==== Proof.AttnLine.lean ====
/-
  The terms the host lines hand the call of attention's gradient.
-/
module

public import proofs.«01_k».proof.Proof.Gen.Kernel3Ideal.Frame
public import Idealize.ShloMosaic.Lib.Pointwise
public import Idealize.ShloMosaic.Lib.StableHlo.RunRead

@[expose] public section

set_option maxRecDepth 16384

noncomputable section

namespace Cert.Kernel3Ideal.Hand

open Idealize.ShloMosaic Idealize.ShloMosaic.TcCoe Idealize.ShloMosaic.Tactic Idealize.ShloMosaic.StableHlo
open Cert.Kernel3Ideal Cert.Kernel3Ideal.Gen

/-! ## The lines of the attention's weights, from the masked scores -/

section Lines

variable (s : FVec Ideal S8x4096x4096 .f32) (x2 : FVec Ideal S4096x1024 .bf16)

/-- The largest score of each row. -/
def lineM : FVec Ideal S8x4096 .f32 := Host.reduce FloatOps.maximumf s (constant S_ .f32 0xFF800000#32) reducesTo_S8x4096x4096_S8x4096_d2 h_S_

/-- A number for each row, along the row. -/
def along (r : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 r)

/-- The exponentials. -/
def lineE : FVec Ideal S8x4096x4096 .f32 := Host.exp (subf s (along (lineM s)))

/-- Their sums. -/
def lineL : FVec Ideal S8x4096 .f32 := Host.reduceAdd (lineE s) (constant S_ .f32 0x00000000#32) reducesTo_S8x4096x4096_S8x4096_d2 h_S_

/-- The weights. -/
def lineP : FVec Ideal S8x4096x4096 .f32 := Host.divf (lineE s) (along (lineL s))

/-- The values, a head at a time. -/
def lineV : FVec Ideal S4096x8x128 .f32 := shapeCast S4096x8x128 (extf .f32 x2 bitsLt_bf16_f32) shapeCasts_S4096x1024_S4096x8x128

/-- The forward output. -/
def lineO : FVec Ideal S4096x1024 .bf16 :=
  truncf .bf16 (shapeCast S4096x1024 (transpose S4096x8x128 [2, 0, 1] (Host.dotGeneral dot_S4096x8x128_S8x4096x4096_S8x128x4096_0_2_2_1_1_0 none (lineV x2) (lineP s)) transposes_S8x128x4096_S4096x8x128_2_0_1) shapeCasts_S4096x8x128_S4096x1024) bitsLt_bf16_f32

/-- The logarithm of the weights' sum. -/
def lineLse : FVec Ideal S8x1x4096 .f32 :=
  broadcastInDim S8x1x4096 ![0, 2] bcast_S8x4096_S8x1x4096_0_2 (addf (lineM s) (Host.log (lineL s)))

end Lines

end Cert.Kernel3Ideal.Hand

end
-- ==== Proof.AttnLines.lean ====
/-
  The host lines, read a stretch at a time, and what they hand the call of attention's gradient.
-/
module

public import proofs.«01_k».proof.Proof.AttnLine
public import proofs.«01_k».proof.Proof.Gen.Reference3Ideal.Read
public import proofs.«01_k».proof.Proof.Gen.Kernel3Ideal.Frame
public import Idealize.ShloMosaic.Lib.Pointwise
public import Idealize.ShloMosaic.Lib.StableHlo.RunRead

@[expose] public section

set_option maxRecDepth 16384

noncomputable section

namespace Cert.Kernel3Ideal.Hand

open Idealize.ShloMosaic Idealize.ShloMosaic.TcCoe Idealize.ShloMosaic.Tactic Idealize.ShloMosaic.StableHlo
open Cert.Kernel3Ideal Cert.Kernel3Ideal.Gen
open Cert.Reference3Ideal.Read

/-! ## The lines, a stretch at a time -/

section Stretches

variable (W : Valuation τ sig (Elt Ideal))

theorem tail_lse : after hostOps0_4 W (Proc.devRef .tc main_v35) = lineLse (W (Proc.devRef .tc main_v13)) := by
  simp only [hostOps0_4]
  after_results_simp
  all_goals rfl

theorem tail_o : after hostOps0_4 W (Proc.devRef .tc main_v32) = lineO (W (Proc.devRef .tc main_v13)) (W (Proc.devRef .tc main_arg2)) := by
  simp only [hostOps0_4]
  after_results_simp
  all_goals rfl

theorem masked : after hostOps0_3 W (Proc.devRef .tc main_v13)
    = (select (broadcastInDim S8x4096x4096 ![0, 1, 2] bcast_S1x4096x4096_S8x4096x4096_0_1_2 (W (Proc.devRef .tc main_v12))) (W (Proc.devRef .tc main_v4)) (broadcastInDim S8x4096x4096 ![] bcast_S_S8x4096x4096 (W (Proc.devRef .tc main_cst))) : FVec Ideal S8x4096x4096 .f32) := by
  simp only [hostOps0_3, TRef.binary, TRef.nullary, TRef.ternary, TRef.unary, TRef.toBuf, TRef.ofBuf, cast_eq]
  after_results_simp
  all_goals rfl

theorem masked_kept : after hostOps0_3 W (Proc.devRef .tc main_arg2) = W (Proc.devRef .tc main_arg2) := by
  simp only [hostOps0_3, TRef.binary, TRef.nullary, TRef.ternary, TRef.unary, TRef.toBuf, TRef.ofBuf, cast_eq]
  after_results_simp

theorem below : after hostOps0_2 W (Proc.devRef .tc main_v12)
    = (broadcastInDim S1x4096x4096 ![1, 2] bcast_S4096x4096_S1x4096x4096_1_2 (cmpi .sle
        (broadcastInDim S4096x4096 ![0, 1] bcast_S1x4096_S4096x4096_0_1 (broadcastInDim S1x4096 ![1] bcast_S4096_S1x4096_1 (W (Proc.devRef .tc main_v6))))
        (broadcastInDim S4096x4096 ![0, 1] bcast_S4096x1_S4096x4096_0_1 (broadcastInDim S4096x1 ![0] bcast_S4096_S4096x1_0 (W (Proc.devRef .tc main_v6))))) : Vec Ideal S1x4096x4096 .i1) := by
  simp only [hostOps0_2]
  after_results_simp
  all_goals rfl

theorem below_cst : after hostOps0_2 W (Proc.devRef .tc main_cst) = (constant S_ .f32 0xFF800000#32 : FVec Ideal S_ .f32) := by
  simp only [hostOps0_2]
  after_results_simp
  all_goals rfl

theorem below_v4 : after hostOps0_2 W (Proc.devRef .tc main_v4) = W (Proc.devRef .tc main_v4) := by
  simp only [hostOps0_2]
  after_results_simp

theorem below_arg2 : after hostOps0_2 W (Proc.devRef .tc main_arg2) = W (Proc.devRef .tc main_arg2) := by
  simp only [hostOps0_2]
  after_results_simp

/-- A row's block of sixty-four. -/
def chunk (i : Vec Ideal S4096 .i32) (n : Vec Ideal S_ .i32) : Vec Ideal S4096 .i32 :=
  select (andi (cmpi .ne (signi i) (broadcastInDim S4096 ![] bcast_S_S4096 (signi n)))
      (cmpi .ne (Host.remsi i (broadcastInDim S4096 ![] bcast_S_S4096 n)) (broadcastInDim S4096 ![] bcast_S_S4096 (constantI S_ 32 0#32))))
    (subi (Host.divsi i (broadcastInDim S4096 ![] bcast_S_S4096 n)) (broadcastInDim S4096 ![] bcast_S_S4096 (constantI S_ 32 1#32)))
    (Host.divsi i (broadcastInDim S4096 ![] bcast_S_S4096 n))

theorem chunks : after hostOps0_1 W (Proc.devRef .tc main_v6) = chunk (W (Proc.devRef .tc main_v5)) (W (Proc.devRef .tc main_c)) := by
  simp only [hostOps0_1, TRef.binary, TRef.nullary, TRef.ternary, TRef.unary, TRef.toBuf, TRef.ofBuf, cast_eq]
  after_results_simp
  all_goals rfl

theorem chunks_v4 : after hostOps0_1 W (Proc.devRef .tc main_v4) = W (Proc.devRef .tc main_v4) := by
  simp only [hostOps0_1, TRef.binary, TRef.nullary, TRef.ternary, TRef.unary, TRef.toBuf, TRef.ofBuf, cast_eq]
  after_results_simp

theorem chunks_arg2 : after hostOps0_1 W (Proc.devRef .tc main_arg2) = W (Proc.devRef .tc main_arg2) := by
  simp only [hostOps0_1, TRef.binary, TRef.nullary, TRef.ternary, TRef.unary, TRef.toBuf, TRef.ofBuf, cast_eq]
  after_results_simp

theorem scores : after hostOps0 W (Proc.devRef .tc main_v4)
    = (Host.dotGeneral dot_S4096x8x128_S4096x8x128_S8x4096x4096_2_2_0_0_1_1 none (lineV (W (Proc.devRef .tc main_arg0))) (lineV (W (Proc.devRef .tc main_arg1))) : FVec Ideal S8x4096x4096 .f32) := by
  simp only [hostOps0]
  after_results_simp
  all_goals rfl

theorem scores_v5 : after hostOps0 W (Proc.devRef .tc main_v5) = (iotaInDim S4096 32 0 : Vec Ideal S4096 .i32) := by
  simp only [hostOps0]
  after_results_simp
  all_goals rfl

theorem scores_c : after hostOps0 W (Proc.devRef .tc main_c) = (constantI S_ 32 64#32 : Vec Ideal S_ .i32) := by
  simp only [hostOps0]
  after_results_simp
  all_goals rfl

theorem scores_arg2 : after hostOps0 W (Proc.devRef .tc main_arg2) = W (Proc.devRef .tc main_arg2) := by
  simp only [hostOps0]
  after_results_simp

theorem after_app (a b : List (HloOp τ sig (Elt Ideal))) (W : Valuation τ sig (Elt Ideal)) : after (a ++ b) W = after b (after a W) := by
  induction a generalizing W with
  | nil => rfl
  | cons o a ih => exact ih _

theorem stretches : after (List.flatten [hostOps0, hostOps0_1, hostOps0_2, hostOps0_3, hostOps0_4]) W
    = after hostOps0_4 (after hostOps0_3 (after hostOps0_2 (after hostOps0_1 (after hostOps0 W)))) := by
  rw [List.flatten_cons, after_app, List.flatten_cons, after_app, List.flatten_cons, after_app, List.flatten_cons, after_app, List.flatten_cons, List.flatten_nil, List.append_nil]

/-- The masked scores are the reference's. -/
theorem lines_scores : after hostOps0_3 (after hostOps0_2 (after hostOps0_1 (after hostOps0 W))) (Proc.devRef .tc main_v13)
    = val_main_v14_0 (F := Ideal) (W (Proc.devRef .tc main_arg0)) (W (Proc.devRef .tc main_arg1)) := by
  rw [masked, below, below_cst, below_v4, chunks, chunks_v4, scores, scores_v5, scores_c]
  rfl

theorem lines_arg2 : after hostOps0_3 (after hostOps0_2 (after hostOps0_1 (after hostOps0 W))) (Proc.devRef .tc main_arg2) = W (Proc.devRef .tc main_arg2) := by
  rw [masked_kept, below_arg2, chunks_arg2, scores_arg2]

end Stretches

variable (m : (ℓ : Loc nD τ sig) → Buf (Elt Ideal) ℓ) (c : Dev nD)

abbrev arg0 : FVec Ideal S4096x1024 .bf16 := m ((c.tc : Thread nD τ).loc main_arg0)
abbrev arg1 : FVec Ideal S4096x1024 .bf16 := m ((c.tc : Thread nD τ).loc main_arg1)
abbrev arg2 : FVec Ideal S4096x1024 .bf16 := m ((c.tc : Thread nD τ).loc main_arg2)
abbrev arg3 : FVec Ideal S4096x1024 .bf16 := m ((c.tc : Thread nD τ).loc main_arg3)

theorem V_lse : V m c main_v35 = lineLse (val_main_v14_0 (F := Ideal) (arg0 m c) (arg1 m c)) := by
  unfold V
  rw [stretches, tail_lse, lines_scores]

theorem V_o : V m c main_v32 = lineO (val_main_v14_0 (F := Ideal) (arg0 m c) (arg1 m c)) (arg2 m c) := by
  unfold V
  rw [stretches, tail_o, lines_scores, lines_arg2]

theorem lineM_eq (x0 x1 : FVec Ideal S4096x1024 .bf16) : lineM (val_main_v14_0 (F := Ideal) x0 x1) = val_main_v15 (F := Ideal) x0 x1 := rfl

end Cert.Kernel3Ideal.Hand

end
-- ==== Proof.AttnRef.lean ====
/-
  The reference of attention's gradient, read at an index over the reals.
-/
module

public import proofs.«01_k».proof.Proof.AttnModel
public import proofs.«01_k».proof.Proof.Gen.Reference3Ideal.Read
public import Idealize.ShloMosaic.Lib.Pointwise

@[expose] public section

set_option maxRecDepth 16384

noncomputable section

namespace Cert.Reference3Ideal.Hand

open Idealize.ShloMosaic Idealize.ShloMosaic.TcCoe Idealize.ShloMosaic.Tactic
open Cert.Reference3Ideal Cert.Reference3Ideal.Read
open Cert.Attn (Head coe_sum)

/-! ## The mask -/

theorem chunk_apply (a : Fin 4096) : val_main_v7 (F := Ideal) (ix1 a) = BitVec.ofNat 32 (a.val / 64) := by
  unfold val_main_v7 val_main_call0_v11 val_main_call0_v13 val_main_call0_v2 val_main_call0_v12 val_main_call0_c_0 val_main_call0_v10 val_main_call0_v9 val_main_call0_c val_main_call0_v8 val_main_call0_v7 val_main_call0_v6 val_main_call0_v5 val_main_call0_v4 val_main_call0_v3 val_main_call0_v1 val_main_call0_v0 val_main_c val_main_v6
  pointwise
  have e : ∀ j, (id (constantI S_ 32 64#32) j : BitVec 32) = 64#32 := fun _ => rfl
  simp only [e]
  revert a
  decide +kernel

theorem sle_ofNat (a b : ℕ) (ha : a < 64) (hb : b < 64) : IntOp.cmpi CmpIPredicate.sle (BitVec.ofNat 32 a) (BitVec.ofNat 32 b) = if a ≤ b then 1#1 else 0#1 := by
  have h : ∀ a b : Fin 64, IntOp.cmpi CmpIPredicate.sle (BitVec.ofNat 32 a.val) (BitVec.ofNat 32 b.val) = if a.val ≤ b.val then 1#1 else 0#1 := by decide +kernel
  exact h ⟨a, ha⟩ ⟨b, hb⟩

theorem mask_apply (h : Fin 8) (a b : Fin 4096) : val_main_v14_1 (F := Ideal) (ix3 h a b) = if b.val / 64 ≤ a.val / 64 then 1#1 else 0#1 := by
  unfold val_main_v14_1 val_main_v13 val_main_v12 val_main_v11 val_main_v10 val_main_v9 val_main_v8
  pointwise
  rw [chunk_apply, chunk_apply, sle_ofNat _ _ (by have := b.isLt; omega) (by have := a.isLt; omega)]

/-! ## The values -/

variable (x0 x1 x2 x3 : FVec Ideal S4096x1024 .bf16) (f0 f1 f2 f3 : ℕ → ℕ → ℝ)

/-- A matrix of reals. -/
def Reals (x : FVec Ideal S4096x1024 .bf16) (f : ℕ → ℕ → ℝ) : Prop := ∀ (t : Fin 4096) (e : Fin 1024), x (ix2 t e) = ((f t e : ℝ) : EReal)

/-- The head `h` of the arguments, its scores lowered by `M`. -/
def headOf (M : ℕ → ℕ → ℝ) (h : ℕ) : Head where
  q a d := f0 a (128 * h + d)
  k a d := f1 a (128 * h + d)
  v a d := f2 a (128 * h + d)
  g a d := f3 a (128 * h + d)
  m a := M h a

theorem ninf : Ideal.ofBits .f32 0xFF800000#32 = (⊥ : EReal) := by simp [Ideal.ofBits, Ideal.ieee]

theorem v5_real (M : ℕ → ℕ → ℝ) (h0 : Reals x0 f0) (h1 : Reals x1 f1) (h : Fin 8) (a b : Fin 4096) :
    val_main_v5 (F := Ideal) x0 x1 (ix3 h a b) = (((headOf f0 f1 f2 f3 M h).s a b : ℝ) : EReal) := by
  unfold val_main_v5 val_main_v3 val_main_v0 val_main_v4 val_main_v1
  pointwise
  refine (Finset.sum_congr rfl fun d _ => by rw [h0, h1]).trans ?_
  simp only [← EReal.coe_mul, ← coe_sum]
  unfold Head.s headOf
  simp only [mul_comm 128]

theorem v14_real (M : ℕ → ℕ → ℝ) (h0 : Reals x0 f0) (h1 : Reals x1 f1) (h : Fin 8) (a b : Fin 4096) :
    val_main_v14_0 (F := Ideal) x0 x1 (ix3 h a b) = if b.val / 64 ≤ a.val / 64 then (((headOf f0 f1 f2 f3 M h).s a b : ℝ) : EReal) else (⊥ : EReal) := by
  unfold val_main_v14_0 val_main_call1_v2 val_main_call1_v0 val_main_cst
  pointwise
  rw [mask_apply, v5_real x0 x1 f0 f1 f2 f3 M h0 h1]
  split
  · rfl
  · exact ninf

theorem v15_fold (h : Fin 8) (a : Fin 4096) :
    val_main_v15 (F := Ideal) x0 x1 (ix2 h a) = Finset.fold max (⊥ : EReal) (fun b : Fin 4096 => (val_main_v14_0 (F := Ideal) x0 x1 (ix3 h a b) : EReal)) Finset.univ := by
  unfold val_main_v15
  pointwise
  rw [val_main_cst_0_apply, show (FloatOps.ofBits .f32 0xFF800000#32 : Ideal .f32) = (⊥ : EReal) from ninf]

/-- The largest allowed score of a query is a real number. -/
theorem v15_real (h0 : Reals x0 f0) (h1 : Reals x1 f1) (h : Fin 8) (a : Fin 4096) :
    val_main_v15 (F := Ideal) x0 x1 (ix2 h a) = (((val_main_v15 (F := Ideal) x0 x1 (ix2 h a) : EReal).toReal : ℝ) : EReal) := by
  refine (EReal.coe_toReal ?_ ?_).symm
  · rw [v15_fold]
    refine ne_of_lt ((Finset.fold_max_lt _).mpr ⟨bot_lt_top, fun b _ => ?_⟩)
    rw [v14_real x0 x1 f0 f1 f0 f1 (fun _ _ => 0) h0 h1]
    split
    · exact EReal.coe_lt_top _
    · exact bot_lt_top
  · rw [v15_fold]
    refine ne_of_gt (lt_of_lt_of_le (EReal.bot_lt_coe ((headOf f0 f1 f0 f1 (fun _ _ => 0) h).s a a)) ((Finset.le_fold_max _).mpr (Or.inr ⟨a, Finset.mem_univ _, ?_⟩)))
    rw [v14_real x0 x1 f0 f1 f0 f1 (fun _ _ => 0) h0 h1, if_pos (le_refl _)]

section
variable (M : ℕ → ℕ → ℝ) (h0 : Reals x0 f0) (h1 : Reals x1 f1) (h2 : Reals x2 f2) (h3 : Reals x3 f3)
  (hM : ∀ (h : Fin 8) (a : Fin 4096), val_main_v15 (F := Ideal) x0 x1 (ix2 h a) = ((M h a : ℝ) : EReal))
include h0 h1 hM

theorem v22_real (h : Fin 8) (a : Fin 4096) : val_main_v22 (F := Ideal) x0 x1 (ix2 h a) = ((M h a : ℝ) : EReal) := by
  rw [val_main_v22_apply, val_main_v21_apply, val_main_cst_2_apply, hM]
  show max (Ideal.ofBits .f32 0xFF800000#32) ((M h a : ℝ) : EReal) = _
  rw [ninf, max_eq_right bot_le]

theorem v35_real (h : Fin 8) (a b : Fin 4096) : val_main_v35 (F := Ideal) x0 x1 (ix3 h a b) = (((headOf f0 f1 f2 f3 M h).e a b : ℝ) : EReal) := by
  unfold val_main_v35 val_main_v34 val_main_v33 val_main_v32
  pointwise
  rw [v14_real x0 x1 f0 f1 f2 f3 M h0 h1, v22_real x0 x1 f0 f1 M h0 h1 hM]
  unfold Head.e
  split
  · rw [← EReal.coe_sub, Ideal.exp_coe]; rfl
  · rw [EReal.bot_sub, Ideal.exp_bot, EReal.coe_zero]

theorem v36_real (h : Fin 8) (a : Fin 4096) : val_main_v36 (F := Ideal) x0 x1 (ix2 h a) = (((headOf f0 f1 f2 f3 M h).l a : ℝ) : EReal) := by
  unfold val_main_v36 val_main_cst_8
  pointwise
  simp only [v35_real x0 x1 f0 f1 f2 f3 M h0 h1 hM]
  rw [← coe_sum]
  rfl

theorem v39_real (h : Fin 8) (a b : Fin 4096) : val_main_v39 (F := Ideal) x0 x1 (ix3 h a b) = (((headOf f0 f1 f2 f3 M h).p a b : ℝ) : EReal) := by
  unfold val_main_v39 val_main_v38 val_main_v37
  pointwise
  rw [v35_real x0 x1 f0 f1 f2 f3 M h0 h1 hM, v36_real x0 x1 f0 f1 f2 f3 M h0 h1 hM, Ideal.div_coe (Head.l_pos _ _ a.isLt).ne', ← EReal.coe_mul, mul_one_div]
  rfl

omit h0 h1 hM in
include h2 h3 in
theorem v50_real (h : Fin 8) (a b : Fin 4096) : val_main_v50 (F := Ideal) x2 x3 (ix3 h a b) = (((headOf f0 f1 f2 f3 M h).dp a b : ℝ) : EReal) := by
  unfold val_main_v50 val_main_v49 val_main_v48 val_main_v47 val_main_v43 val_main_v2
  pointwise
  refine (Finset.sum_congr rfl fun d _ => by rw [h2, h3]).trans ?_
  simp only [← EReal.coe_mul, ← coe_sum]
  unfold Head.dp headOf
  simp only [mul_comm 128]

include h2 h3 in
theorem v66_real (h : Fin 8) (a b : Fin 4096) : val_main_v66 (F := Ideal) x0 x1 x2 x3 (ix3 h a b) = (((headOf f0 f1 f2 f3 M h).ds a b : ℝ) : EReal) := by
  unfold val_main_v66 val_main_call2_v0 val_main_call2_cst val_main_v65 val_main_v64 val_main_v63 val_main_v62 val_main_v61 val_main_v60 val_main_v59 val_main_v58 val_main_v57 val_main_v56 val_main_v55 val_main_v54 val_main_v42 val_main_v41 val_main_cst_9 val_main_v40 val_main_v37 val_main_cst_10 val_main_cst_11
  pointwise
  simp only [v50_real x2 x3 f0 f1 f2 f3 M h2 h3, v36_real x0 x1 f0 f1 f2 f3 M h0 h1 hM, v35_real x0 x1 f0 f1 f2 f3 M h0 h1 hM, mask_apply, Fin.sum_univ_one, Finset.sum_const, Finset.card_univ, Fintype.card_fin, one_smul]
  have hl := (Head.l_pos (headOf f0 f1 f2 f3 M h) a a.isLt).ne'
  rw [← EReal.coe_mul (Head.l _ _), Ideal.div_coe hl, Ideal.div_coe (mul_ne_zero hl hl), one_mul]
  simp only [← EReal.coe_mul, ← coe_sum, ← EReal.coe_neg, ← EReal.coe_add]
  rw [mul_one_div, Head.ds_quot _ _ _ a.isLt]
  by_cases hb : b.val / 64 ≤ a.val / 64
  · rw [if_pos hb]; rfl
  · rw [if_neg hb, Head.ds_zero _ _ _ hb, EReal.coe_zero]; rfl

include h2 h3 in
/-- The queries' gradient, -/
theorem v72_real (a : Fin 4096) (e : Fin 1024) : val_main_v72 (F := Ideal) x0 x1 x2 x3 (ix2 a e) = (((headOf f0 f1 f2 f3 M (e.val / 128)).dq a (e.val % 128) : ℝ) : EReal) := by
  have hd : e.val / 128 * 128 + e.val % 128 = e.val := by omega
  unfold val_main_v72 val_main_v70 val_main_v69 val_main_v4 val_main_v1
  pointwise
  refine (Finset.sum_congr rfl fun b _ => by rw [v66_real x0 x1 x2 x3 f0 f1 f2 f3 M h0 h1 h2 h3 hM, h1]).trans ?_
  simp only [← EReal.coe_mul, ← coe_sum]
  unfold Head.dq
  simp only [headOf, mul_comm 128, hd]

include h2 h3 in
/-- the keys' -/
theorem v73_real (a : Fin 4096) (e : Fin 1024) : val_main_v73 (F := Ideal) x0 x1 x2 x3 (ix2 a e) = (((headOf f0 f1 f2 f3 M (e.val / 128)).dk a (e.val % 128) : ℝ) : EReal) := by
  have hd : e.val / 128 * 128 + e.val % 128 = e.val := by omega
  unfold val_main_v73 val_main_v71 val_main_v68 val_main_v67 val_main_v3 val_main_v0
  pointwise
  refine (Finset.sum_congr rfl fun b _ => by rw [v66_real x0 x1 x2 x3 f0 f1 f2 f3 M h0 h1 h2 h3 hM, h0]).trans ?_
  simp only [← EReal.coe_mul, ← coe_sum]
  unfold Head.dk
  simp only [headOf, mul_comm 128, hd]

include h3 in
/-- and the values'. -/
theorem v74_real (a : Fin 4096) (e : Fin 1024) : val_main_v74 (F := Ideal) x0 x1 x3 (ix2 a e) = (((headOf f0 f1 f2 f3 M (e.val / 128)).dv a (e.val % 128) : ℝ) : EReal) := by
  have hd : e.val / 128 * 128 + e.val % 128 = e.val := by omega
  unfold val_main_v74 val_main_v53 val_main_v52 val_main_v51 val_main_v49 val_main_v48 val_main_v47
  pointwise
  refine (Finset.sum_congr rfl fun b _ => by rw [v39_real x0 x1 f0 f1 f2 f3 M h0 h1 hM, h3, mul_comm (_ : EReal) _]).trans ?_
  simp only [← EReal.coe_mul, ← coe_sum]
  unfold Head.dv
  simp only [headOf, mul_comm 128, hd]

include h2 in
/-- The output of the forward pass. -/
theorem v46_real (a : Fin 4096) (e : Fin 1024) : val_main_v46 (F := Ideal) x0 x1 x2 (ix2 a e) = (((headOf f0 f1 f2 f3 M (e.val / 128)).o a (e.val % 128) : ℝ) : EReal) := by
  have hd : e.val / 128 * 128 + e.val % 128 = e.val := by omega
  unfold val_main_v46 val_main_v45 val_main_v44 val_main_v43 val_main_v2
  pointwise
  refine (Finset.sum_congr rfl fun b _ => by rw [v39_real x0 x1 f0 f1 f2 f3 M h0 h1 hM, h2, mul_comm (_ : EReal) _]).trans ?_
  simp only [← EReal.coe_mul, ← coe_sum]
  unfold Head.o
  simp only [headOf, mul_comm 128, hd]

end

end Cert.Reference3Ideal.Hand
-- ==== Proof.AttnHost.lean ====
/-
  What the host lines hand the call of attention's gradient: the forward output and the logarithm of the weights' sum, over the reals.
-/
module

public import proofs.«01_k».proof.Proof.AttnRef
public import proofs.«01_k».proof.Proof.AttnLine
public import proofs.«01_k».proof.Proof.Gen.Kernel3Ideal.Frame
public import Idealize.ShloMosaic.Lib.Pointwise
public import Idealize.ShloMosaic.Lib.StableHlo.RunRead

@[expose] public section

set_option maxRecDepth 16384

noncomputable section

namespace Cert.Kernel3Ideal.Hand

open Idealize.ShloMosaic Idealize.ShloMosaic.TcCoe Idealize.ShloMosaic.Tactic Idealize.ShloMosaic.StableHlo
open Cert.Kernel3Ideal Cert.Kernel3Ideal.Gen
open Cert.Reference3Ideal.Hand
open Cert.Attn (Head coe_sum)

/-! ## Over the reals -/

variable (s : FVec Ideal S8x4096x4096 .f32) (x2 : FVec Ideal S4096x1024 .bf16) (f0 f1 f2 f3 : ℕ → ℕ → ℝ) (M : ℕ → ℕ → ℝ)
  (hs : ∀ (h : Fin 8) (a b : Fin 4096), s (ix3 h a b) = if b.val / 64 ≤ a.val / 64 then (((headOf f0 f1 f2 f3 M h).s a b : ℝ) : EReal) else ⊥)
  (hM : ∀ (h : Fin 8) (a : Fin 4096), lineM s (ix2 h a) = ((M h a : ℝ) : EReal))
  (h2 : Reals x2 f2)
include hs hM

omit hs hM in
theorem along_apply (r : FVec Ideal S8x4096 .f32) (h : Fin 8) (a b : Fin 4096) : along r (ix3 h a b) = r (ix2 h a) := by
  unfold along
  pointwise

theorem lineE_real (h : Fin 8) (a b : Fin 4096) : lineE s (ix3 h a b) = (((headOf f0 f1 f2 f3 M h).e a b : ℝ) : EReal) := by
  show (Ideal.exp (s (ix3 h a b) - along (lineM s) (ix3 h a b)) : EReal) = _
  rw [along_apply, hs, hM]
  unfold Head.e
  split
  · rw [← EReal.coe_sub, Ideal.exp_coe]; rfl
  · rw [EReal.bot_sub, Ideal.exp_bot, EReal.coe_zero]

theorem lineL_real (h : Fin 8) (a : Fin 4096) : lineL s (ix2 h a) = (((headOf f0 f1 f2 f3 M h).l a : ℝ) : EReal) := by
  have e := lineE_real s f0 f1 f2 f3 M hs hM h a
  unfold lineL
  generalize lineE s = x at e ⊢
  pointwise
  simp only [e]
  rw [← coe_sum]
  rfl

theorem lineP_real (h : Fin 8) (a b : Fin 4096) : lineP s (ix3 h a b) = (((headOf f0 f1 f2 f3 M h).p a b : ℝ) : EReal) := by
  show (Ideal.div (lineE s (ix3 h a b)) (along (lineL s) (ix3 h a b)) : EReal) = _
  rw [along_apply, lineE_real s f0 f1 f2 f3 M hs hM, lineL_real s f0 f1 f2 f3 M hs hM, Ideal.div_coe (Head.l_pos _ _ a.isLt).ne', ← EReal.coe_mul, mul_one_div]
  rfl

omit hs hM in
theorem spread_apply (r : FVec Ideal S8x4096 .f32) (h : Fin 8) (a : Fin 4096) :
    broadcastInDim S8x1x4096 ![0, 2] bcast_S8x4096_S8x1x4096_0_2 r (ix3 h 0 a) = r (ix2 h a) := by
  refine broadcastInDim_apply _ bcast_S8x4096_S8x1x4096_0_2 r (ix3 h 0 a) (ix2 h a) (fun i => match i with
    | ⟨0, _⟩ => ?_
    | ⟨1, _⟩ => ?_)
  · show h.val = if (8 : Nat) = 1 then 0 else h.val
    rw [if_neg (by decide)]
  · show a.val = if (4096 : Nat) = 1 then 0 else a.val
    rw [if_neg (by decide)]

omit hs hM in
theorem add_log_apply (x y : FVec Ideal S8x4096 .f32) (i : S8x4096.Idx) : addf x (Host.log y) i = (x i : EReal) + Ideal.log (y i) := rfl

theorem lse_real (h : Fin 8) (a : Fin 4096) : lineLse s (ix3 h 0 a) = (((headOf f0 f1 f2 f3 M h).lse a : ℝ) : EReal) := by
  have hl := Head.l_pos (headOf f0 f1 f2 f3 M h) a a.isLt
  have e : Ideal.log (((headOf f0 f1 f2 f3 M h).l a : ℝ) : EReal) = ((Real.log ((headOf f0 f1 f2 f3 M h).l a) : ℝ) : EReal) := by
    rw [Ideal.log_coe, if_neg hl.not_ge]
  have e1 : lineLse s (ix3 h 0 a) = addf (lineM s) (Host.log (lineL s)) (ix2 h a) := spread_apply _ h a
  have e2 : addf (lineM s) (Host.log (lineL s)) (ix2 h a) = (lineM s (ix2 h a) : EReal) + Ideal.log (lineL s (ix2 h a)) := add_log_apply _ _ _
  rw [e1, e2, hM, lineL_real s f0 f1 f2 f3 M hs hM, e, ← EReal.coe_add]
  rfl

include h2 in
theorem o_real (a : Fin 4096) (e : Fin 1024) : lineO s x2 (ix2 a e) = (((headOf f0 f1 f2 f3 M (e.val / 128)).o a (e.val % 128) : ℝ) : EReal) := by
  have hd : e.val / 128 * 128 + e.val % 128 = e.val := by omega
  have hp := lineP_real s f0 f1 f2 f3 M hs hM
  unfold lineO lineV
  generalize lineP s = p at hp ⊢
  pointwise
  refine (Finset.sum_congr rfl fun b _ => by rw [hp, h2, mul_comm (_ : EReal) _]).trans ?_
  simp only [← EReal.coe_mul, ← coe_sum]
  unfold Head.o
  simp only [headOf, mul_comm 128, hd]

end Cert.Kernel3Ideal.Hand

end
-- ==== Proof.AttnBlocks.lean ====
/-
  The blocks each grid point of attention's gradient works from, read off the arrays.
-/
module

public import proofs.«01_k».proof.Proof.AttnLaunch
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen

theorem index_0 : ∀ t : Fin cfg0.N, win0_0.index t = ![0, t.val / 8] :=
  (by decide +kernel : ∀ t : Fin grid0.N, win0_0.index t = ![0, t.val / 8])
theorem index_1 : ∀ t : Fin cfg0.N, win0_1.index t = ![t.val % 8, t.val / 8] :=
  (by decide +kernel : ∀ t : Fin grid0.N, win0_1.index t = ![t.val % 8, t.val / 8])
theorem index_2 : ∀ t : Fin cfg0.N, win0_2.index t = ![t.val % 8, t.val / 8] :=
  (by decide +kernel : ∀ t : Fin grid0.N, win0_2.index t = ![t.val % 8, t.val / 8])
theorem index_3 : ∀ t : Fin cfg0.N, win0_3.index t = ![0, t.val / 8] :=
  (by decide +kernel : ∀ t : Fin grid0.N, win0_3.index t = ![0, t.val / 8])
theorem index_4 : ∀ t : Fin cfg0.N, win0_4.index t = ![0, t.val / 8] :=
  (by decide +kernel : ∀ t : Fin grid0.N, win0_4.index t = ![0, t.val / 8])
theorem index_5 : ∀ t : Fin cfg0.N, win0_5.index t = ![t.val / 8, 0, 0] :=
  (by decide +kernel : ∀ t : Fin grid0.N, win0_5.index t = ![t.val / 8, 0, 0])
theorem index_6 : ∀ t : Fin cfg0.N, win0_6.index t = ![0, t.val / 8] :=
  (by decide +kernel : ∀ t : Fin grid0.N, win0_6.index t = ![0, t.val / 8])
theorem index_7 : ∀ t : Fin cfg0.N, win0_7.index t = ![t.val % 8, t.val / 8] :=
  (by decide +kernel : ∀ t : Fin grid0.N, win0_7.index t = ![t.val % 8, t.val / 8])
theorem index_8 : ∀ t : Fin cfg0.N, win0_8.index t = ![t.val % 8, t.val / 8] :=
  (by decide +kernel : ∀ t : Fin grid0.N, win0_8.index t = ![t.val % 8, t.val / 8])

variable (m : (ℓ : Loc nD τ sig) → Buf (Elt Ideal) ℓ) (c : Dev nD)

theorem lt64 (t : Fin cfg0.N) : t.val < 64 := lt_of_lt_of_eq t.isLt (show cfg0.N = 64 from N_0)

/-! ## The blocks of a point -/

theorem read_Q (x : FVec Ideal S4096x1024 .bf16) (t : Fin cfg0.N) (a : Fin 4096) (d : Fin 128) :
    (((cfg0.win 0).blk t).view.read (Elt Ideal) x) (ix2 a d) = x (ix2 a ⟨128 * (t.val / 8) + d.val, by have := lt64 t; omega⟩) := by
  blk_ext [index_0 t]

theorem blkQ_eq (t : Fin cfg0.N) (a : Fin 4096) (d : Fin 128) : blkQ m c t (ix2 a d) = V m c main_arg0 (ix2 a ⟨128 * (t.val / 8) + d.val, by have := lt64 t; omega⟩) :=
  read_Q (V m c main_arg0) t a d

theorem read_K (x : FVec Ideal S4096x1024 .bf16) (t : Fin cfg0.N) (r : Fin 512) (d : Fin 128) :
    (((cfg0.win 1).blk t).view.read (Elt Ideal) x) (ix2 r d) = x (ix2 ⟨512 * (t.val % 8) + r.val, by omega⟩ ⟨128 * (t.val / 8) + d.val, by have := lt64 t; omega⟩) := by
  blk_ext [index_1 t]

theorem blkK_eq (t : Fin cfg0.N) (r : Fin 512) (d : Fin 128) : blkK m c t (ix2 r d) = V m c main_arg1 (ix2 ⟨512 * (t.val % 8) + r.val, by omega⟩ ⟨128 * (t.val / 8) + d.val, by have := lt64 t; omega⟩) :=
  read_K (V m c main_arg1) t r d

theorem read_V (x : FVec Ideal S4096x1024 .bf16) (t : Fin cfg0.N) (r : Fin 512) (d : Fin 128) :
    (((cfg0.win 2).blk t).view.read (Elt Ideal) x) (ix2 r d) = x (ix2 ⟨512 * (t.val % 8) + r.val, by omega⟩ ⟨128 * (t.val / 8) + d.val, by have := lt64 t; omega⟩) := by
  blk_ext [index_2 t]

theorem blkV_eq (t : Fin cfg0.N) (r : Fin 512) (d : Fin 128) : blkV m c t (ix2 r d) = V m c main_arg2 (ix2 ⟨512 * (t.val % 8) + r.val, by omega⟩ ⟨128 * (t.val / 8) + d.val, by have := lt64 t; omega⟩) :=
  read_V (V m c main_arg2) t r d

theorem read_O (x : FVec Ideal S4096x1024 .bf16) (t : Fin cfg0.N) (a : Fin 4096) (d : Fin 128) :
    (((cfg0.win 3).blk t).view.read (Elt Ideal) x) (ix2 a d) = x (ix2 a ⟨128 * (t.val / 8) + d.val, by have := lt64 t; omega⟩) := by
  blk_ext [index_3 t]

theorem blkO_eq (t : Fin cfg0.N) (a : Fin 4096) (d : Fin 128) : blkO m c t (ix2 a d) = V m c main_v32 (ix2 a ⟨128 * (t.val / 8) + d.val, by have := lt64 t; omega⟩) :=
  read_O (V m c main_v32) t a d

theorem read_D (x : FVec Ideal S4096x1024 .bf16) (t : Fin cfg0.N) (a : Fin 4096) (d : Fin 128) :
    (((cfg0.win 4).blk t).view.read (Elt Ideal) x) (ix2 a d) = x (ix2 a ⟨128 * (t.val / 8) + d.val, by have := lt64 t; omega⟩) := by
  blk_ext [index_4 t]

theorem blkD_eq (t : Fin cfg0.N) (a : Fin 4096) (d : Fin 128) : blkD m c t (ix2 a d) = V m c main_arg3 (ix2 a ⟨128 * (t.val / 8) + d.val, by have := lt64 t; omega⟩) :=
  read_D (V m c main_arg3) t a d

theorem read_L (x : FVec Ideal S8x1x4096 .f32) (t : Fin cfg0.N) (a : Fin 4096) :
    (((cfg0.win 5).blk t).view.read (Elt Ideal) x) (ix3 0 0 a) = x (ix3 ⟨t.val / 8, by have := lt64 t; omega⟩ 0 a) := by
  blk_ext [index_5 t]

theorem blkL_eq (t : Fin cfg0.N) (a : Fin 4096) : blkL m c t (ix3 0 0 a) = V m c main_v35 (ix3 ⟨t.val / 8, by have := lt64 t; omega⟩ 0 a) :=
  read_L (V m c main_v35) t a

end Cert.Kernel3Ideal.Hand

end
-- ==== Proof.AttnValue.lean ====
/-
  Attention's gradient over the reals: what each grid point works from and leaves, and the three arrays at the end.
-/
module

public import proofs.«01_k».proof.Proof.AttnTile
public import proofs.«01_k».proof.Proof.AttnLines
public import proofs.«01_k».proof.Proof.AttnHost
public import proofs.«01_k».proof.Proof.AttnBlocks
public import Idealize.ShloMosaic.Lib.Pipeline.ValueKit
public import Idealize.ShloMosaic.Lib.Pipeline.ReadBack

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen
open Cert.Reference3Ideal.Hand Cert.Reference3Ideal.Read
open Cert.Attn (Head coe_sum)

variable (m : (ℓ : Loc nD τ sig) → Buf (Elt Ideal) ℓ) (c : Dev nD) (f0 f1 f2 f3 M : ℕ → ℕ → ℝ)

/-- The arrays the region finds, as reals. -/
structure Found : Prop where
  q : ∀ (a : Fin 4096) (e : Fin 1024), (V m c main_arg0 : FVec Ideal S4096x1024 .bf16) (ix2 a e) = ((f0 a e : ℝ) : EReal)
  k : ∀ (a : Fin 4096) (e : Fin 1024), (V m c main_arg1 : FVec Ideal S4096x1024 .bf16) (ix2 a e) = ((f1 a e : ℝ) : EReal)
  v : ∀ (a : Fin 4096) (e : Fin 1024), (V m c main_arg2 : FVec Ideal S4096x1024 .bf16) (ix2 a e) = ((f2 a e : ℝ) : EReal)
  g : ∀ (a : Fin 4096) (e : Fin 1024), (V m c main_arg3 : FVec Ideal S4096x1024 .bf16) (ix2 a e) = ((f3 a e : ℝ) : EReal)
  o : ∀ (a : Fin 4096) (e : Fin 1024), (V m c main_v32 : FVec Ideal S4096x1024 .bf16) (ix2 a e) = (((headOf f0 f1 f2 f3 M (e.val / 128)).o a (e.val % 128) : ℝ) : EReal)
  l : ∀ (h : Fin 8) (a : Fin 4096), (V m c main_v35 : FVec Ideal S8x1x4096 .f32) (ix3 h 0 a) = (((headOf f0 f1 f2 f3 M h).lse a : ℝ) : EReal)

/-- The head of point `n`. -/
def hd (n : ℕ) : Head := headOf f0 f1 f2 f3 M (n / 8)

variable (F : Found m c f0 f1 f2 f3 M)
include F

theorem blkO_real (t : Fin cfg0.N) (a : Fin 4096) (d : Fin 128) : blkO m c t (ix2 a d) = (((hd f0 f1 f2 f3 M t.val).o a d : ℝ) : EReal) := by
  refine (blkO_eq m c t a d).trans ((F.o a _).trans ?_)
  rw [show (128 * (t.val / 8) + d.val) / 128 = t.val / 8 by omega, show (128 * (t.val / 8) + d.val) % 128 = d.val by omega]
  rfl

theorem blkD_real (t : Fin cfg0.N) (a : Fin 4096) (d : Fin 128) : blkD m c t (ix2 a d) = (((hd f0 f1 f2 f3 M t.val).g a d : ℝ) : EReal) :=
  (blkD_eq m c t a d).trans (F.g a _)

/-- The sums of a head's first point. -/
theorem delta_real (t : Fin cfg0.N) (a : Fin 4096) : delta (F := Ideal) (blkO m c t) (blkD m c t) (ix2 0 a) = (((hd f0 f1 f2 f3 M t.val).dl a : ℝ) : EReal) := by
  have hO := blkO_real m c f0 f1 f2 f3 M F t
  have hD := blkD_real m c f0 f1 f2 f3 M F t
  generalize blkO m c t = x at hO ⊢
  generalize blkD m c t = y at hD ⊢
  show k0_pay6 (F := Ideal) (rows y (a.val / 512)) (rows x (a.val / 512)) (ix2 0 ⟨a.val % 512, Nat.mod_lt _ (by decide)⟩) = _
  rw [k0_pay6_apply]
  unfold Head.dl
  rw [coe_sum]
  refine Finset.sum_congr rfl fun d _ => ?_
  have ha : (⟨(512 * (a.val / 512) + a.val % 512) % 4096, Nat.mod_lt _ (by decide)⟩ : Fin 4096) = a := Fin.ext (by dsimp only; have := a.isLt; omega)
  show (y (ix2 ⟨(512 * (a.val / 512) + a.val % 512) % 4096, Nat.mod_lt _ (by decide)⟩ d) : EReal) * x (ix2 ⟨(512 * (a.val / 512) + a.val % 512) % 4096, Nat.mod_lt _ (by decide)⟩ d) = _
  rw [ha, hO, hD, ← EReal.coe_mul]

theorem given (t : Fin cfg0.N) (dl : Vec Ideal S1x4096 .f32) (hdl : ∀ a : Fin 4096, dl (ix2 0 a) = (((hd f0 f1 f2 f3 M t.val).dl a : ℝ) : EReal)) :
    Given (hd f0 f1 f2 f3 M t.val) (blkQ m c t) (blkK m c t) (blkV m c t) (blkD m c t) (blkL m c t) dl (t.val % 8) where
  q a d := (blkQ_eq m c t a d).trans (F.q a _)
  g := blkD_real m c f0 f1 f2 f3 M F t
  k r d := (blkK_eq m c t r d).trans (F.k _ _)
  v r d := (blkV_eq m c t r d).trans (F.v _ _)
  l a := (blkL_eq m c t a).trans (F.l _ a)
  d := hdl

/-- What a point works from is the part of the query's gradient of the tiles before it, and the sums. -/
def Works (n : ℕ) : Prop :=
  (∀ (y : Fin 4096) (d : Fin 128), (into m c n).1 (ix2 y d) = (((hd f0 f1 f2 f3 M n).dqS (n % 8) y d : ℝ) : EReal))
  ∧ ∀ a : Fin 4096, (into m c n).2 (ix2 0 a) = (((hd f0 f1 f2 f3 M n).dl a : ℝ) : EReal)

theorem res_real (t : Fin cfg0.N) (h : Works m c f0 f1 f2 f3 M t.val) :
    (∀ (y : Fin 4096) (d : Fin 128), (res m c t).1 (ix2 y d) = (((hd f0 f1 f2 f3 M t.val).dqS (t.val % 8 + 1) y d : ℝ) : EReal))
    ∧ (∀ (r : Fin 512) (d : Fin 128), (res m c t).2.1 (ix2 r d) = (((hd f0 f1 f2 f3 M t.val).dk (512 * (t.val % 8) + r) d : ℝ) : EReal))
    ∧ (∀ (r : Fin 512) (d : Fin 128), (res m c t).2.2 (ix2 r d) = (((hd f0 f1 f2 f3 M t.val).dv (512 * (t.val % 8) + r) d : ℝ) : EReal)) := by
  have s := good_step (hd f0 f1 f2 f3 M t.val) (blkQ m c t) (blkK m c t) (blkV m c t) (blkD m c t) (blkL m c t) (into m c t.val).2 t ((hd f0 f1 f2 f3 M t.val).dqS (t.val % 8))
    (given m c f0 f1 f2 f3 M F t _ h.2) (into m c t.val).1 h.1
  refine ⟨fun y d => ?_, s.2.1, s.2.2⟩
  rw [Head.dqS_succ]
  exact s.1 y d

theorem works (n : ℕ) (hn : n < cfg0.N) : Works m c f0 f1 f2 f3 M n := by
  induction n with
  | zero =>
    refine ⟨fun y d => ?_, fun a => ?_⟩
    · rw [into_first m c ⟨0, hn⟩ rfl]
      refine (k0_pay5_apply (ix2 y d)).trans ?_
      unfold Head.dqS
      rw [Nat.zero_mod, Nat.mul_zero, Finset.Ico_self, Finset.sum_empty, EReal.coe_zero]
    · rw [into_first m c ⟨0, hn⟩ rfl]
      exact delta_real m c f0 f1 f2 f3 M F ⟨0, hn⟩ a
  | succ n ih =>
    by_cases h : (n + 1) % 8 = 0
    · refine ⟨fun y d => ?_, fun a => ?_⟩
      · rw [into_first m c ⟨n + 1, hn⟩ h]
        refine (k0_pay5_apply (ix2 y d)).trans ?_
        unfold Head.dqS
        rw [h, Nat.mul_zero, Finset.Ico_self, Finset.sum_empty, EReal.coe_zero]
      · rw [into_first m c ⟨n + 1, hn⟩ h]
        exact delta_real m c f0 f1 f2 f3 M F ⟨n + 1, hn⟩ a
    · have w := ih (Nat.lt_of_succ_lt hn)
      have e : hd f0 f1 f2 f3 M (n + 1) = hd f0 f1 f2 f3 M n := by
        unfold hd
        rw [show (n + 1) / 8 = n / 8 by omega]
      unfold Works
      rw [into_next m c n hn h, e, show (n + 1) % 8 = n % 8 + 1 by omega]
      exact ⟨(res_real m c f0 f1 f2 f3 M F ⟨n, Nat.lt_of_succ_lt hn⟩ w).1, w.2⟩

end Cert.Kernel3Ideal.Hand

end
-- ==== Proof.AttnEnd.lean ====
/-
  Attention's gradient over the reals: the three arrays at the end, and the run.
-/
module

public import proofs.«01_k».proof.Proof.AttnValue

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen
open Cert.Reference3Ideal.Hand Cert.Reference3Ideal.Read
open Cert.Attn (Head coe_sum)

variable (m : (ℓ : Loc nD τ sig) → Buf (Elt Ideal) ℓ) (ρ : Dev nD → PrngReg) (c : Dev nD) (f0 f1 f2 f3 M : ℕ → ℕ → ℝ)

/-- An array of the heads' numbers. -/
def heads (f : Head → ℕ → ℕ → ℝ) : S4096x1024.Idx → EReal := fun z =>
  ((f (headOf f0 f1 f2 f3 M ((z 1).val / 128)) (z 0).val ((z 1).val % 128) : ℝ) : EReal)

theorem heads_at (f : Head → ℕ → ℕ → ℝ) (z : S4096x1024.Idx) (n a d : ℕ) (h0 : (z 0).val = a) (h1 : (z 1).val = n / 8 * 128 + d) (hd' : d < 128) :
    ((f (hd f0 f1 f2 f3 M n) a d : ℝ) : EReal) = heads f0 f1 f2 f3 M f z := by
  unfold heads hd
  rw [h0, h1, show (n / 8 * 128 + d) / 128 = n / 8 by omega, show (n / 8 * 128 + d) % 128 = d by omega]

theorem eta4096 (y : S4096x128.Idx) : y = ix2 (y 0) (y 1) := by
  funext a
  match a with
  | 0 => rfl
  | 1 => rfl

theorem eta512 (y : S512x128.Idx) : y = ix2 (y 0) (y 1) := by
  funext a
  match a with
  | 0 => rfl
  | 1 => rfl

variable (F : Found m c f0 f1 f2 f3 M)
include F

theorem final_q : (dats m 0 c).arrAt 6 cfg0.N = heads f0 f1 f2 f3 M Head.dq := by
  refine (dats m 0 c).arrAt_eq_of_covers 6 _ (by decide +kernel) fun t hf y => ?_
  have h7 : t.val % 8 = 7 := (flush0_6 t).mp hf
  have w := (res_real m c f0 f1 f2 f3 M F t (works m c f0 f1 f2 f3 M F t.val t.isLt)).1
  have e0 : ((((cfg0.win 6).blk t).view.emb y) 0 : ℕ) = (y 0).val := by blk_simp [index_6 t]
  have e1 : ((((cfg0.win 6).blk t).view.emb y) 1 : ℕ) = t.val / 8 * 128 + (y 1).val := by blk_simp [index_6 t]
  have y1 : (y 1).val < 128 := (y 1).isLt
  blk_simp
  rw [after_6]
  generalize res m c t = r at w ⊢
  refine ((congrArg r.1 (eta4096 y)).trans (w (y 0) (y 1))).trans ?_
  rw [h7, Head.dqS_all]
  exact heads_at f0 f1 f2 f3 M Head.dq _ t.val _ _ e0 e1 y1

theorem final_k : (dats m 0 c).arrAt 7 cfg0.N = heads f0 f1 f2 f3 M Head.dk := by
  refine (dats m 0 c).arrAt_eq_of_covers 7 _ (by decide +kernel) fun t hf y => ?_
  have w := (res_real m c f0 f1 f2 f3 M F t (works m c f0 f1 f2 f3 M F t.val t.isLt)).2.1
  have e0 : ((((cfg0.win 7).blk t).view.emb y) 0 : ℕ) = t.val % 8 * 512 + (y 0).val := by blk_simp [index_7 t]
  have e1 : ((((cfg0.win 7).blk t).view.emb y) 1 : ℕ) = t.val / 8 * 128 + (y 1).val := by blk_simp [index_7 t]
  have y1 : (y 1).val < 128 := (y 1).isLt
  blk_simp
  rw [after_7]
  generalize res m c t = r at w ⊢
  refine ((k0_pay3_apply r.2.1 y).trans ((congrArg r.2.1 (eta512 y)).trans (w (y 0) (y 1)))).trans ?_
  exact heads_at f0 f1 f2 f3 M Head.dk _ t.val _ _ (by rw [e0, Nat.mul_comm]) e1 y1

theorem final_v : (dats m 0 c).arrAt 8 cfg0.N = heads f0 f1 f2 f3 M Head.dv := by
  refine (dats m 0 c).arrAt_eq_of_covers 8 _ (by decide +kernel) fun t hf y => ?_
  have w := (res_real m c f0 f1 f2 f3 M F t (works m c f0 f1 f2 f3 M F t.val t.isLt)).2.2
  have e0 : ((((cfg0.win 8).blk t).view.emb y) 0 : ℕ) = t.val % 8 * 512 + (y 0).val := by blk_simp [index_8 t]
  have e1 : ((((cfg0.win 8).blk t).view.emb y) 1 : ℕ) = t.val / 8 * 128 + (y 1).val := by blk_simp [index_8 t]
  have y1 : (y 1).val < 128 := (y 1).isLt
  blk_simp
  rw [after_8]
  generalize res m c t = r at w ⊢
  refine ((k0_pay4_apply r.2.2 y).trans ((congrArg r.2.2 (eta512 y)).trans (w (y 0) (y 1)))).trans ?_
  exact heads_at f0 f1 f2 f3 M Head.dv _ t.val _ _ (by rw [e0, Nat.mul_comm]) e1 y1

end Cert.Kernel3Ideal.Hand

end
-- ==== Proof.AttnFinite.lean ====
/-
  Arrays of finite entries are arrays of reals.
-/
module

public import proofs.«01_k».proof.Proof.AttnRef
public import proofs.«01_k».proof.Pre_finite

@[expose] public section

set_option maxRecDepth 16384

noncomputable section

namespace Cert.Reference3Ideal.Hand

open Idealize.ShloMosaic Idealize.ShloMosaic.TcCoe Idealize.ShloMosaic.Tactic
open Cert.Reference3Ideal Cert.Reference3Ideal.Read

theorem pre_facts : Cert.Pre_finite.Facts := ⟨by decide⟩

theorem inf16 : Ideal.ofBits .bf16 0x7F80#16 = (⊤ : EReal) := by simp [Ideal.ofBits, Ideal.ieee]

theorem finite_of (x : EReal) (h : Ideal.cmp .olt (max x (-x)) (⊤ : EReal) = 1#1) : x ≠ ⊤ ∧ x ≠ ⊥ := by
  constructor
  · rintro rfl
    simp [Ideal.cmp] at h
  · rintro rfl
    simp [Ideal.cmp] at h

/-- The entries as reals. -/
def realOf (x : FVec Ideal S4096x1024 .bf16) (t e : ℕ) : ℝ := (x (ix2 ⟨t % 4096, Nat.mod_lt _ (by decide)⟩ ⟨e % 1024, Nat.mod_lt _ (by decide)⟩) : EReal).toReal

theorem reals_of (x : FVec Ideal S4096x1024 .bf16) (h : ∀ i, (x i : EReal) ≠ ⊤ ∧ (x i : EReal) ≠ ⊥) : Reals x (realOf x) := by
  intro t e
  have ht : (⟨t.val % 4096, Nat.mod_lt _ (by decide)⟩ : Fin 4096) = t := Fin.ext (Nat.mod_eq_of_lt t.isLt)
  have he : (⟨e.val % 1024, Nat.mod_lt _ (by decide)⟩ : Fin 1024) = e := Fin.ext (Nat.mod_eq_of_lt e.isLt)
  unfold realOf
  rw [ht, he]
  exact (EReal.coe_toReal (h _).1 (h _).2).symm

/-- The largest scores as reals. -/
def maxOf (x0 x1 : FVec Ideal S4096x1024 .bf16) (h a : ℕ) : ℝ :=
  (val_main_v15 (F := Ideal) x0 x1 (ix2 ⟨h % 8, Nat.mod_lt _ (by decide)⟩ ⟨a % 4096, Nat.mod_lt _ (by decide)⟩) : EReal).toReal

theorem max_of (x0 x1 : FVec Ideal S4096x1024 .bf16) (f0 f1 : ℕ → ℕ → ℝ) (h0 : Reals x0 f0) (h1 : Reals x1 f1) (h : Fin 8) (a : Fin 4096) :
    val_main_v15 (F := Ideal) x0 x1 (ix2 h a) = ((maxOf x0 x1 h a : ℝ) : EReal) := by
  have hh : (⟨h.val % 8, Nat.mod_lt _ (by decide)⟩ : Fin 8) = h := Fin.ext (Nat.mod_eq_of_lt h.isLt)
  have ha : (⟨a.val % 4096, Nat.mod_lt _ (by decide)⟩ : Fin 4096) = a := Fin.ext (Nat.mod_eq_of_lt a.isLt)
  unfold maxOf
  rw [hh, ha]
  exact v15_real x0 x1 f0 f1 h0 h1 h a

theorem and_one (a b : BitVec 1) (h : a &&& b = 1#1) : a = 1#1 ∧ b = 1#1 := by
  revert a b
  decide

theorem entries [Cert.Pre_finite.Facts] (x0 x1 x2 x3 : FVec Ideal S4096x1024 .bf16) (h : Cert.Pre_finite.fn (F := Ideal) x0 x1 x2 x3 = fun _ => 1#1) (i : S4096x1024.Idx) :
    ((x0 i : EReal) ≠ ⊤ ∧ (x0 i : EReal) ≠ ⊥) ∧ ((x1 i : EReal) ≠ ⊤ ∧ (x1 i : EReal) ≠ ⊥) ∧ ((x2 i : EReal) ≠ ⊤ ∧ (x2 i : EReal) ≠ ⊥) ∧ ((x3 i : EReal) ≠ ⊤ ∧ (x3 i : EReal) ≠ ⊥) := by
  have e : (((Ideal.cmp .olt (max (x0 i : EReal) (-(x0 i : EReal))) (Ideal.ofBits .bf16 0x7F80#16) &&& Ideal.cmp .olt (max (x1 i : EReal) (-(x1 i : EReal))) (Ideal.ofBits .bf16 0x7F80#16))
      &&& Ideal.cmp .olt (max (x2 i : EReal) (-(x2 i : EReal))) (Ideal.ofBits .bf16 0x7F80#16)) &&& Ideal.cmp .olt (max (x3 i : EReal) (-(x3 i : EReal))) (Ideal.ofBits .bf16 0x7F80#16)) = 1#1 := congrFun h i
  rw [inf16] at e
  obtain ⟨e, e3⟩ := and_one _ _ e
  obtain ⟨e, e2⟩ := and_one _ _ e
  obtain ⟨e0, e1⟩ := and_one _ _ e
  exact ⟨finite_of _ e0, finite_of _ e1, finite_of _ e2, finite_of _ e3⟩

end Cert.Reference3Ideal.Hand

end
-- ==== Proof.AttnClaim.lean ====
/-
  Attention's gradient: the run's three results are the reference's, for finite arguments.
-/
module

public import proofs.«01_k».proof.Proof.AttnEnd
public import proofs.«01_k».proof.Proof.AttnFinite

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen
open Cert.Reference3Ideal.Hand Cert.Reference3Ideal.Read
open Cert.Attn (Head coe_sum)

theorem eta1024 (z : S4096x1024.Idx) : z = ix2 (z 0) (z 1) := by
  funext a
  match a with
  | 0 => rfl
  | 1 => rfl

section Reference

variable (x0 x1 x2 x3 : FVec Ideal S4096x1024 .bf16) (f0 f1 f2 f3 M : ℕ → ℕ → ℝ)
  (h0 : Reals x0 f0) (h1 : Reals x1 f1) (h2 : Reals x2 f2) (h3 : Reals x3 f3)
  (hM : ∀ (h : Fin 8) (a : Fin 4096), val_main_v15 (F := Ideal) x0 x1 (ix2 h a) = ((M h a : ℝ) : EReal))

include h0 h1 h2 h3 hM

theorem ref_q : heads f0 f1 f2 f3 M Head.dq = val_main_v72 (F := Ideal) x0 x1 x2 x3 := by
  funext z
  rw [eta1024 z]
  exact (v72_real x0 x1 x2 x3 f0 f1 f2 f3 M h0 h1 h2 h3 hM (z 0) (z 1)).symm

theorem ref_k : heads f0 f1 f2 f3 M Head.dk = val_main_v73 (F := Ideal) x0 x1 x2 x3 := by
  funext z
  rw [eta1024 z]
  exact (v73_real x0 x1 x2 x3 f0 f1 f2 f3 M h0 h1 h2 h3 hM (z 0) (z 1)).symm

omit h2 in
theorem ref_v : heads f0 f1 f2 f3 M Head.dv = val_main_v74 (F := Ideal) x0 x1 x3 := by
  funext z
  rw [eta1024 z]
  exact (v74_real x0 x1 x3 f0 f1 f2 f3 M h0 h1 h3 hM (z 0) (z 1)).symm

end Reference

variable (m : (ℓ : Loc nD τ sig) → Buf (Elt Ideal) ℓ) (ρ : Dev nD → PrngReg)

theorem found (c : Dev nD) (f0 f1 f2 f3 M : ℕ → ℕ → ℝ) (h0 : Reals (arg0 m c) f0) (h1 : Reals (arg1 m c) f1) (h2 : Reals (arg2 m c) f2) (h3 : Reals (arg3 m c) f3)
    (hM : ∀ (h : Fin 8) (a : Fin 4096), val_main_v15 (F := Ideal) (arg0 m c) (arg1 m c) (ix2 h a) = ((M h a : ℝ) : EReal)) : Found m c f0 f1 f2 f3 M where
  q a e := (congrFun (V_main_arg0 m c) _).trans (h0 a e)
  k a e := (congrFun (V_main_arg1 m c) _).trans (h1 a e)
  v a e := (congrFun (V_main_arg2 m c) _).trans (h2 a e)
  g a e := (congrFun (V_main_arg3 m c) _).trans (h3 a e)
  o a e := (congrFun (V_o m c) _).trans (o_real (val_main_v14_0 (F := Ideal) (arg0 m c) (arg1 m c)) (arg2 m c) f0 f1 f2 f3 M
    (v14_real (arg0 m c) (arg1 m c) f0 f1 f2 f3 M h0 h1) (fun h a => (congrFun (lineM_eq (arg0 m c) (arg1 m c)) _).trans (hM h a)) h2 a e)
  l h a := (congrFun (V_lse m c) _).trans (lse_real (val_main_v14_0 (F := Ideal) (arg0 m c) (arg1 m c)) f0 f1 f2 f3 M
    (v14_real (arg0 m c) (arg1 m c) f0 f1 f2 f3 M h0 h1) (fun h a => (congrFun (lineM_eq (arg0 m c) (arg1 m c)) _).trans (hM h a)) h a)

/-- For finite arguments the three arrays end at the reference's three results. -/
theorem finals (c : Dev nD) (h : ∀ i : S4096x1024.Idx, ((arg0 m c i : EReal) ≠ ⊤ ∧ (arg0 m c i : EReal) ≠ ⊥) ∧ ((arg1 m c i : EReal) ≠ ⊤ ∧ (arg1 m c i : EReal) ≠ ⊥)
      ∧ ((arg2 m c i : EReal) ≠ ⊤ ∧ (arg2 m c i : EReal) ≠ ⊥) ∧ ((arg3 m c i : EReal) ≠ ⊤ ∧ (arg3 m c i : EReal) ≠ ⊥)) :
    (dats m 0 c).arrAt 6 cfg0.N = val_main_v72 (F := Ideal) (arg0 m c) (arg1 m c) (arg2 m c) (arg3 m c)
    ∧ (dats m 0 c).arrAt 7 cfg0.N = val_main_v73 (F := Ideal) (arg0 m c) (arg1 m c) (arg2 m c) (arg3 m c)
    ∧ (dats m 0 c).arrAt 8 cfg0.N = val_main_v74 (F := Ideal) (arg0 m c) (arg1 m c) (arg3 m c) := by
  have h0 := reals_of (arg0 m c) fun i => (h i).1
  have h1 := reals_of (arg1 m c) fun i => (h i).2.1
  have h2 := reals_of (arg2 m c) fun i => (h i).2.2.1
  have h3 := reals_of (arg3 m c) fun i => (h i).2.2.2
  have hM := max_of (arg0 m c) (arg1 m c) _ _ h0 h1
  have F := found m c _ _ _ _ _ h0 h1 h2 h3 hM
  exact ⟨(final_q m c _ _ _ _ _ F).trans (ref_q _ _ _ _ _ _ _ _ _ h0 h1 h2 h3 hM), (final_k m c _ _ _ _ _ F).trans (ref_k _ _ _ _ _ _ _ _ _ h0 h1 h2 h3 hM),
    (final_v m c _ _ _ _ _ F).trans (ref_v _ _ _ _ _ _ _ _ h0 h1 h3 hM)⟩

/-- THE RUN: the three results are the reference's, the arguments are kept. -/
theorem run (h : ∀ (c : Dev nD) (i : S4096x1024.Idx), ((arg0 m c i : EReal) ≠ ⊤ ∧ (arg0 m c i : EReal) ≠ ⊥) ∧ ((arg1 m c i : EReal) ≠ ⊤ ∧ (arg1 m c i : EReal) ≠ ⊥)
      ∧ ((arg2 m c i : EReal) ≠ ⊤ ∧ (arg2 m c i : EReal) ≠ ⊥) ∧ ((arg3 m c i : EReal) ≠ ⊤ ∧ (arg3 m c i : EReal) ≠ ⊥)) :
    θ_run defs (onTc (τ := τ) (main (F := Ideal))) ⟨m, fun _ => 0, ρ⟩ (fun r => ∀ c : Dev nD,
      r.2.mem ((c.tc : Thread nD τ).loc main_v36_0) = val_main_v72 (F := Ideal) (arg0 m c) (arg1 m c) (arg2 m c) (arg3 m c)
      ∧ r.2.mem ((c.tc : Thread nD τ).loc main_v36_1) = val_main_v73 (F := Ideal) (arg0 m c) (arg1 m c) (arg2 m c) (arg3 m c)
      ∧ r.2.mem ((c.tc : Thread nD τ).loc main_v36_2) = val_main_v74 (F := Ideal) (arg0 m c) (arg1 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r q c => ⟨((q.1 c).1 6).trans (finals m c (h c)).1, ((q.1 c).1 7).trans (finals m c (h c)).2.1, ((q.1 c).1 8).trans (finals m c (h c)).2.2, q.2.1 c⟩)
    (θ_run_and ((θ_run defs _ _).mono (fun _ h => h.1) (run_main m ρ)) (frame m ρ))

end Cert.Kernel3Ideal.Hand

end
-- ==== Proof.AttnBits.lean ====
/-
  The version's own program of attention's gradient, over bit patterns: it ends, its arguments kept, every counter at zero.
-/
module

public import proofs.«01_k».proof.Proof.AttnLaunch
public import proofs.«01_k».proof.Defs
public import proofs.«01_k».proof.Proof.Gen.Kernel3

@[expose] public section

set_option maxRecDepth 16384

noncomputable section

namespace Cert.Proof

open Idealize.ShloMosaic Idealize.SL.Sem

/-- Over bit patterns the named mask is the pattern it replaced. -/
instance namedBits : Named Bits := ⟨fun _ _ φ b => FloatOps.ofBits φ b⟩

set_option maxHeartbeats 8000000 in
/-- The two programs' bodies are one. -/
theorem bodies_attn : (Cert.Kernel3.defs₀ (F := Bits)) = Cert.Kernel3Ideal.defs₀ (F := Bits) := by
  unfold Cert.Kernel3.defs₀ Cert.Kernel3Ideal.defs₀
  congr 1
  funext l x
  match l, x with
  | 0, (t, s) => rfl

theorem defs_attn : (Cert.Kernel3.defs (F := Bits)) = Cert.Kernel3Ideal.defs (F := Bits) :=
  congrArg (Pipeline.defs Cert.Kernel3Ideal.pcfgs) bodies_attn

set_option maxHeartbeats 8000000 in
theorem frame_attn : Cert.quiescent_Kernel3 := by
  intro m g _
  rw [defs_attn]
  exact Cert.Kernel3Ideal.Hand.frame (F := Bits) m g

end Cert.Proof

end
-- ==== Proof.lean ====
/- The claims, put together: each conjunct is a theorem of the modules imported here.
-/
module

public import proofs.«01_k».proof.Proof.ScanRef
public import proofs.«01_k».proof.Proof.Dw
public import proofs.«01_k».proof.Proof.DwDown
public import proofs.«01_k».proof.Proof.FfnInRef
public import proofs.«01_k».proof.Proof.MixerBwdRef
public import proofs.«01_k».proof.Proof.FfnUp
public import proofs.«01_k».proof.Proof.FfnOut
public import proofs.«01_k».proof.Proof.MixerIn
public import proofs.«01_k».proof.Proof.DwIn
public import proofs.«01_k».proof.Proof.DwOutLru
public import proofs.«01_k».proof.Proof.DwOutMla
public import proofs.«01_k».proof.Proof.DwQb
public import proofs.«01_k».proof.Proof.DwKvb
public import proofs.«01_k».proof.Proof.AttnClaim
public import proofs.«01_k».proof.Proof.AttnBits
public import proofs.«01_k».proof.Proof.Gen.Kernel2Ideal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference2Ideal
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import Idealize.ShloMosaic.Adequacy
public import Idealize.ShloMosaic.Init

@[expose] public section

noncomputable section

namespace Cert.Proof

open Idealize.ShloMosaic Idealize.SL.Sem Cert.Kernel

/-- The two programs' bodies are one. -/
theorem bodies_scan : (Cert.Kernel.defs₀ (F := Bits)) = Cert.KernelIdeal.defs₀ (F := Bits) := by
  unfold Cert.Kernel.defs₀ Cert.KernelIdeal.defs₀
  congr 1
  funext l x
  match l, x with
  | 0, (t, s) => rfl

theorem defs_scan : (Cert.Kernel.defs (F := Bits)) = Cert.KernelIdeal.defs (F := Bits) :=
  congrArg (Pipeline.defs Cert.KernelIdeal.pcfgs) bodies_scan

theorem algebraic_scan : Cert.algebraic_KernelIdeal_ReferenceIdeal :=
  fun m g m' g' _ hm => ⟨fun c => Cert.KernelIdeal.Hand.scanGrad (Cert.KernelIdeal.Hand.argA m c) (Cert.KernelIdeal.Hand.argU m c),
    Cert.KernelIdeal.Hand.run m g,
    (θ_run Cert.ReferenceIdeal.defs _ _).mono (fun _ h c => ⟨(h c).1.trans (by rw [(hm c).1, (hm c).2]), (h c).2⟩)
      (Cert.ReferenceIdeal.Hand.run m' g')⟩

theorem algebraic_dw : Cert.algebraic_Kernel2Ideal_Reference2Ideal :=
  fun m g m' g' _ hm => ⟨fun c => Cert.Kernel2Ideal.Hand.grad (Cert.Kernel2Ideal.Hand.argA m c) (Cert.Kernel2Ideal.Hand.argB m c),
    Cert.Kernel2Ideal.Hand.run m g,
    (θ_run Cert.Reference2Ideal.defs _ _).mono (fun _ h c => ⟨(h c).1.trans (by rw [(hm c).1, (hm c).2]), (h c).2⟩)
      (Cert.Reference2Ideal.Hand.run m' g')⟩

theorem algebraic_in : Cert.algebraic_Kernel4Ideal_Reference4Ideal :=
  fun m g m' g' _ hm => ⟨fun c => Cert.Kernel4Ideal.Hand.grad (Cert.Kernel4Ideal.Hand.argA m c) (Cert.Kernel4Ideal.Hand.argB m c),
    Cert.Kernel4Ideal.Hand.run m g,
    (θ_run Cert.Reference4Ideal.defs _ _).mono (fun _ h c => ⟨(h c).1.trans (by rw [(hm c).1, (hm c).2]), (h c).2⟩)
      (Cert.Reference4Ideal.Hand.run m' g')⟩

theorem algebraic_out_lru : Cert.algebraic_Kernel5Ideal_Reference5Ideal :=
  fun m g m' g' _ hm => ⟨fun c => Cert.Kernel5Ideal.Hand.grad (Cert.Kernel5Ideal.Hand.argA m c) (Cert.Kernel5Ideal.Hand.argB m c),
    Cert.Kernel5Ideal.Hand.run m g,
    (θ_run Cert.Reference5Ideal.defs _ _).mono (fun _ h c => ⟨(h c).1.trans (by rw [(hm c).1, (hm c).2]), (h c).2⟩)
      (Cert.Reference5Ideal.Hand.run m' g')⟩

theorem algebraic_out_mla : Cert.algebraic_Kernel6Ideal_Reference6Ideal :=
  fun m g m' g' _ hm => ⟨fun c => Cert.Kernel6Ideal.Hand.grad (Cert.Kernel6Ideal.Hand.argA m c) (Cert.Kernel6Ideal.Hand.argB m c),
    Cert.Kernel6Ideal.Hand.run m g,
    (θ_run Cert.Reference6Ideal.defs _ _).mono (fun _ h c => ⟨(h c).1.trans (by rw [(hm c).1, (hm c).2]), (h c).2⟩)
      (Cert.Reference6Ideal.Hand.run m' g')⟩

theorem algebraic_q_b : Cert.algebraic_Kernel7Ideal_Reference7Ideal :=
  fun m g m' g' _ hm => ⟨fun c => Cert.Kernel7Ideal.Hand.grad (Cert.Kernel7Ideal.Hand.argA m c) (Cert.Kernel7Ideal.Hand.argB m c),
    Cert.Kernel7Ideal.Hand.run m g,
    (θ_run Cert.Reference7Ideal.defs _ _).mono (fun _ h c => ⟨(h c).1.trans (by rw [(hm c).1, (hm c).2]), (h c).2⟩)
      (Cert.Reference7Ideal.Hand.run m' g')⟩

theorem algebraic_kv_b : Cert.algebraic_Kernel8Ideal_Reference8Ideal :=
  fun m g m' g' _ hm => ⟨fun c => Cert.Kernel8Ideal.Hand.grad (Cert.Kernel8Ideal.Hand.argA m c) (Cert.Kernel8Ideal.Hand.argB m c),
    Cert.Kernel8Ideal.Hand.run m g,
    (θ_run Cert.Reference8Ideal.defs _ _).mono (fun _ h c => ⟨(h c).1.trans (by rw [(hm c).1, (hm c).2]), (h c).2⟩)
      (Cert.Reference8Ideal.Hand.run m' g')⟩

theorem algebraic_down : Cert.algebraic_Kernel9Ideal_Reference9Ideal :=
  fun m g m' g' _ hm => ⟨fun c => Cert.Kernel9Ideal.Hand.grad (Cert.Kernel9Ideal.Hand.argA m c) (Cert.Kernel9Ideal.Hand.argB m c),
    Cert.Kernel9Ideal.Hand.run m g,
    (θ_run Cert.Reference9Ideal.defs _ _).mono (fun _ h c => ⟨(h c).1.trans (by rw [(hm c).1, (hm c).2]), (h c).2⟩)
      (Cert.Reference9Ideal.Hand.run m' g')⟩

theorem algebraic_ffn_in : Cert.algebraic_Kernel10Ideal_Reference10Ideal :=
  fun m g m' g' _ hm => ⟨fun c => Cert.Kernel10Ideal.Hand.resH m c, fun c => Cert.Kernel10Ideal.Hand.resG m c,
    Cert.Kernel10Ideal.Hand.run m g,
    (θ_run Cert.Reference10Ideal.defs _ _).mono (fun _ h c => by
      obtain ⟨a0, a1, a2, a3, a4, a5, a6⟩ := hm c
      refine ⟨(h c).1.trans ((Cert.Reference10Ideal.Read.val_main_v45_eq m' c).trans ?_), (h c).2.1.trans ((Cert.Reference10Ideal.Read.val_main_v28_eq _ _ _ _ _).trans ?_), (h c).2.2⟩
      · rw [a0, a1, a2, a3, a4, a5, a6]; exact Cert.Reference10Ideal.Hand.dx_ref _ _ _ _ _ _ _
      · rw [a1, a2, a3, a5, a6]; exact Cert.Reference10Ideal.Hand.dg_ref _ _ _ _ _)
      (Cert.Reference10Ideal.Value.run m' g')⟩

theorem algebraic_mixer_bwd : Cert.algebraic_Kernel11Ideal_Reference11Ideal :=
  fun m g m' g' _ hm => ⟨fun c => Cert.Kernel11Ideal.Hand.resH m c, fun c => Cert.Kernel11Ideal.Hand.resP m c, fun c => Cert.Kernel11Ideal.Hand.resG m c,
    Cert.Kernel11Ideal.Hand.run m g,
    (θ_run Cert.Reference11Ideal.defs _ _).mono (fun _ h c => by
      obtain ⟨a0, a1, a2, a3, a4, a5, a6, a7, a8⟩ := hm c
      refine ⟨(h c).1.trans ((Cert.Reference11Ideal.Read.val_main_v40_eq m' c).trans ?_), (h c).2.1.trans ((Cert.Reference11Ideal.Read.val_main_v0_eq _ _ _ _ _).trans ?_),
        (h c).2.2.1.trans ((Cert.Reference11Ideal.Read.val_main_v23_eq _ _ _ _ _ _ _).trans ?_), (h c).2.2.2⟩
      · rw [a0, a1, a2, a3, a4, a5, a6, a7, a8]; exact Cert.Reference11Ideal.Hand.dx_ref _ _ _ _ _ _ _ _ _
      · rw [a4, a5, a6, a7, a8]; exact Cert.Reference11Ideal.Hand.p_ref _ _ _ _ _
      · rw [a1, a3, a4, a5, a6, a7, a8]; exact Cert.Reference11Ideal.Hand.dg_ref _ _ _ _ _ _ _)
      (Cert.Reference11Ideal.Value.run m' g')⟩

theorem algebraic_up : Cert.algebraic_Kernel12Ideal_Reference12Ideal :=
  fun m g m' g' _ hm => ⟨fun c => Cert.Kernel12Ideal.Hand.up (Cert.Kernel12Ideal.Hand.argA m c) (Cert.Kernel12Ideal.Hand.argB m c),
    Cert.Kernel12Ideal.Hand.run m g,
    (θ_run Cert.Reference12Ideal.defs _ _).mono (fun _ h c => ⟨(h c).1.trans (by rw [(hm c).1, (hm c).2]), (h c).2⟩)
      (Cert.Reference12Ideal.Hand.run m' g')⟩

theorem algebraic_ffn_out : Cert.algebraic_Kernel13Ideal_Reference13Ideal :=
  fun m g m' g' _ hm => ⟨fun c => Cert.Kernel13Ideal.Hand.resH m c, fun c => Cert.Kernel13Ideal.Hand.resF m c,
    Cert.Kernel13Ideal.Hand.run m g,
    (θ_run Cert.Reference13Ideal.defs _ _).mono (fun _ h c => by
      obtain ⟨a0, a1, a2, a3, a4⟩ := hm c
      refine ⟨(h c).1.trans ((Cert.Reference13Ideal.Read.val_main_v20_eq _ _ _ _ _).trans ?_), (h c).2.1.trans ((Cert.Reference13Ideal.Read.val_main_v5_eq _ _ _).trans ?_), (h c).2.2⟩
      · rw [a0, a1, a2, a3, a4]; exact Cert.Reference13Ideal.Hand.res_ref _ _ _ _ _
      · rw [a1, a2, a4]; exact Cert.Reference13Ideal.Hand.f_ref _ _ _)
      (Cert.Reference13Ideal.Value.run m' g')⟩

theorem algebraic_mixer : Cert.algebraic_Kernel14Ideal_Reference14Ideal :=
  fun m g m' g' _ hm => ⟨fun c => Cert.Kernel14Ideal.Hand.res3 m c, fun c => Cert.Kernel14Ideal.Hand.res4 m c, fun c => Cert.Kernel14Ideal.Hand.res5 m c,
    fun c => Cert.Kernel14Ideal.Hand.res6 m c, fun c => Cert.Kernel14Ideal.Hand.res7 m c, fun c => Cert.Kernel14Ideal.Hand.res8 m c,
    Cert.Kernel14Ideal.Hand.run m g,
    (θ_run Cert.Reference14Ideal.defs _ _).mono (fun _ h c => by
      obtain ⟨a0, a1, a2⟩ := hm c
      refine ⟨(h c).1.trans ((Cert.Reference14Ideal.Read.val_main_v15_eq _ _).trans ?_), (h c).2.1.trans ((Cert.Reference14Ideal.Read.val_main_v16_eq _ _ _).trans ?_),
        (h c).2.2.1.trans ((Cert.Reference14Ideal.Read.val_main_v17_eq _ _ _).trans ?_), (h c).2.2.2.1.trans ((Cert.Reference14Ideal.Read.val_main_v18_eq _ _ _).trans ?_),
        (h c).2.2.2.2.1.trans ((Cert.Reference14Ideal.Read.val_main_v19_eq _ _ _).trans ?_), (h c).2.2.2.2.2.1.trans ((Cert.Reference14Ideal.Read.val_main_v20_eq _ _ _).trans ?_), (h c).2.2.2.2.2.2⟩
      · rw [a0, a1]; exact Cert.Reference14Ideal.Hand.nrm16_ref _ _
      · rw [a0, a1, a2]; exact Cert.Reference14Ideal.Hand.part3_ref _ _ _
      · rw [a0, a1, a2]; exact Cert.Reference14Ideal.Hand.part4_ref _ _ _
      · rw [a0, a1, a2]; exact Cert.Reference14Ideal.Hand.part5_ref _ _ _
      · rw [a0, a1, a2]; exact Cert.Reference14Ideal.Hand.part6_ref _ _ _
      · rw [a0, a1, a2]; exact Cert.Reference14Ideal.Hand.part7_ref _ _ _)
      (Cert.Reference14Ideal.Value.run m' g')⟩

theorem algebraic_attn : Cert.algebraic_Kernel3Ideal_Reference3Ideal_pre_finite (hPre_finite := Cert.Reference3Ideal.Hand.pre_facts) :=
  fun m g m' g' hp hm =>
    ⟨_, _, _, Cert.Kernel3Ideal.Hand.run m g fun c => @Cert.Reference3Ideal.Hand.entries Cert.Reference3Ideal.Hand.pre_facts _ _ _ _ (hp c),
      (θ_run Cert.Reference3Ideal.defs _ _).mono (fun _ h c => ⟨(h c).1.trans ((Cert.Reference3Ideal.Read.val_main_v72_eq m' c).trans (by rw [(hm c).1, (hm c).2.1, (hm c).2.2.1, (hm c).2.2.2])),
          (h c).2.1.trans ((Cert.Reference3Ideal.Read.val_main_v73_eq m' c).trans (by rw [(hm c).1, (hm c).2.1, (hm c).2.2.1, (hm c).2.2.2])),
          (h c).2.2.1.trans ((Cert.Reference3Ideal.Read.val_main_v74_eq m' c).trans (by rw [(hm c).1, (hm c).2.1, (hm c).2.2.2])), (h c).2.2.2⟩)
        (Cert.Reference3Ideal.Value.run m' g')⟩

theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2.2.2, sem_eq_zero_of_no_sems rfl r.2⟩) (Cert.Reference3Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Reference3Ideal.Hand.pre_facts,
  fun m g _ => by rw [defs_scan]; exact Cert.KernelIdeal.Hand.frame (F := Bits) m g,
  fun m g _ => Cert.KernelIdeal.Hand.frame (F := Ideal) m g,
  fun m g _ => Cert.ReferenceIdeal.Hand.frame m g,
  fun m g _ => Cert.Kernel2.Gen.frame m g,
  fun m g _ => Cert.Kernel2Ideal.Gen.frame m g,
  fun m g _ => Cert.Reference2Ideal.Hand.frame m g,
  frame_attn,
  fun m g _ => Cert.Kernel3Ideal.Hand.frame (F := Ideal) m g,
  fun m g _ => Cert.Kernel3Ideal.Hand.frame (F := Ideal) m g,
  fun m g _ => frame_ref3 m g,
  fun m g _ => frame_ref3 m g,
  fun m g _ => Cert.Kernel4.Gen.frame m g,
  fun m g _ => Cert.Kernel4Ideal.Gen.frame m g,
  fun m g _ => Cert.Reference4Ideal.Hand.frame m g,
  fun m g _ => Cert.Kernel5.Gen.frame m g,
  fun m g _ => Cert.Kernel5Ideal.Gen.frame m g,
  fun m g _ => Cert.Reference5Ideal.Hand.frame m g,
  fun m g _ => Cert.Kernel6.Gen.frame m g,
  fun m g _ => Cert.Kernel6Ideal.Gen.frame m g,
  fun m g _ => Cert.Reference6Ideal.Hand.frame m g,
  fun m g _ => Cert.Kernel7.Gen.frame m g,
  fun m g _ => Cert.Kernel7Ideal.Gen.frame m g,
  fun m g _ => Cert.Reference7Ideal.Hand.frame m g,
  fun m g _ => Cert.Kernel8.Gen.frame m g,
  fun m g _ => Cert.Kernel8Ideal.Gen.frame m g,
  fun m g _ => Cert.Reference8Ideal.Hand.frame m g,
  fun m g _ => Cert.Kernel9.Gen.frame m g,
  fun m g _ => Cert.Kernel9Ideal.Gen.frame m g,
  fun m g _ => Cert.Reference9Ideal.Hand.frame m g,
  fun m g _ => Cert.Kernel10.Gen.frame m g,
  fun m g _ => Cert.Kernel10Ideal.Gen.frame m g,
  fun m g _ => Cert.Reference10Ideal.Hand.frame m g,
  fun m g _ => Cert.Kernel11.Gen.frame m g,
  fun m g _ => Cert.Kernel11Ideal.Gen.frame m g,
  fun m g _ => Cert.Reference11Ideal.Hand.frame m g,
  fun m g _ => Cert.Kernel12.Gen.frame m g,
  fun m g _ => Cert.Kernel12Ideal.Gen.frame m g,
  fun m g _ => Cert.Reference12Ideal.Hand.frame m g,
  fun m g _ => Cert.Kernel13.Gen.frame m g,
  fun m g _ => Cert.Kernel13Ideal.Gen.frame m g,
  fun m g _ => Cert.Reference13Ideal.Hand.frame m g,
  fun m g _ => Cert.Kernel14.Gen.frame m g,
  fun m g _ => Cert.Kernel14Ideal.Gen.frame m g,
  fun m g _ => Cert.Reference14Ideal.Hand.frame m g,
  trivial, algebraic_scan, trivial, algebraic_dw, IdealRules.named_const.statement Cert.Kernel3Ideal.κ "mask" .f32 0xF149F2CA#32 ⊥ rfl, algebraic_attn,
  trivial, algebraic_in, trivial, algebraic_out_lru, trivial, algebraic_out_mla, trivial, algebraic_q_b, trivial, algebraic_kv_b, trivial, algebraic_down, trivial, algebraic_ffn_in,
  trivial, algebraic_mixer_bwd, trivial, algebraic_up, trivial, algebraic_ffn_out, trivial, algebraic_mixer⟩

end Cert.Proof

end
